-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  IdealRules.named_const.Statement Cert.KernelIdeal.κ "dead" .f32 0x43000000#32 ⊤

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v3)) (v2 : (c : Dev Cert.Kernel12Ideal.nD) → Buf (Elt Ideal) ((c.tc : Thread Cert.Kernel12Ideal.nD Cert.Kernel12Ideal.τ).loc Cert.Kernel12Ideal.main_v4)) (v3 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v3) = v1 c
          ∧ r.2.mem ((c.tc : Thread Cert.Kernel12Ideal.nD Cert.Kernel12Ideal.τ).loc Cert.Kernel12Ideal.main_v4) = v2 c
          ∧ r.2.mem ((c.tc : Thread Cert.Kernel12Ideal.nD Cert.Kernel12Ideal.τ).loc Cert.Kernel12Ideal.main_v5) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_v2) = v2 c
          ∧ r.2.mem ((c.tc : Thread Cert.Reference12Ideal.nD Cert.Reference12Ideal.τ).loc Cert.Reference12Ideal.main_v3) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8192x512 : Shape := ⟨2, ![8192, 512]⟩
abbrev S256x256 : Shape := ⟨2, ![256, 256]⟩
abbrev S_ : Shape := ⟨0, ![]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S8192x8192 : Shape := ⟨2, ![8192, 8192]⟩
abbrev S8x8192x32x256 : Shape := ⟨4, ![8, 8192, 32, 256]⟩
abbrev S8x8192x32x1 : Shape := ⟨4, ![8, 8192, 32, 1]⟩
abbrev S8x8192x32 : Shape := ⟨3, ![8, 8192, 32]⟩
abbrev S8x8192x96 : Shape := ⟨3, ![8, 8192, 96]⟩
abbrev S8x8192x128 : Shape := ⟨3, ![8, 8192, 128]⟩
abbrev S256x128 : Shape := ⟨2, ![256, 128]⟩
abbrev S8192x128 : Shape := ⟨2, ![8192, 128]⟩
abbrev S2x256x128 : Shape := ⟨3, ![2, 256, 128]⟩
abbrev S32x128x256 : Shape := ⟨3, ![32, 128, 256]⟩
abbrev S1x256x128 : Shape := ⟨3, ![1, 256, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S256x1 : Shape := ⟨2, ![256, 1]⟩
abbrev S256 : Shape := ⟨1, ![256]⟩
abbrev S1x128x256 : Shape := ⟨3, ![1, 128, 256]⟩
abbrev S128x256 : Shape := ⟨2, ![128, 256]⟩

abbrev nBuf : Space → Nat
  | .hbm => 69
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .f32⟩
  | .hbm, ⟨8, _⟩ => ⟨S256x256, .bf16⟩
  | .hbm, ⟨9, _⟩ => ⟨S256x256, .i1⟩
  | .hbm, ⟨10, _⟩ => ⟨S256x256, .f32⟩
  | .hbm, ⟨11, _⟩ => ⟨S256x256, .bf16⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .bf16⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x8x64, .f32⟩
  | .hbm, ⟨20, _⟩ => ⟨S8x8192x64, .f32⟩
  | .hbm, ⟨21, _⟩ => ⟨S8192x8x64, .f32⟩
  | .hbm, ⟨22, _⟩ => ⟨S8x8192x64, .f32⟩
  | .hbm, ⟨23, _⟩ => ⟨S8x8192x8192, .f32⟩
  | .hbm, ⟨24, _⟩ => ⟨S_, .f32⟩
  | .hbm, ⟨25, _⟩ => ⟨S8x8192x8192, .f32⟩
  | .hbm, ⟨26, _⟩ => ⟨S8x8192x8192, .f32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .i1⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S_, .f32⟩
  | .hbm, ⟨49, _⟩ => ⟨S8x8192x8192, .i1⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S_, .f32⟩
  | .hbm, ⟨54, _⟩ => ⟨S8x8192x8192, .f32⟩
  | .hbm, ⟨55, _⟩ => ⟨S8x8192x8192, .f32⟩
  | .hbm, ⟨56, _⟩ => ⟨S8x8192x32x256, .f32⟩
  | .hbm, ⟨57, _⟩ => ⟨S8x8192x32x1, .f32⟩
  | .hbm, ⟨58, _⟩ => ⟨S8x8192x32, .f32⟩
  | .hbm, ⟨59, _⟩ => ⟨S8x8192x32, .f32⟩
  | .hbm, ⟨60, _⟩ => ⟨S_, .f32⟩
  | .hbm, ⟨61, _⟩ => ⟨S8x8192x96, .f32⟩
  | .hbm, ⟨62, _⟩ => ⟨S8x8192x128, .f32⟩
  | .hbm, ⟨63, _⟩ => ⟨S8192x512, .bf16⟩
  | .hbm, ⟨64, _⟩ => ⟨S8192x512, .bf16⟩
  | .hbm, ⟨65, _⟩ => ⟨S8192x512, .bf16⟩
  | .hbm, ⟨66, _⟩ => ⟨S8192x512, .f32⟩
  | .hbm, ⟨67, _⟩ => ⟨S8192x512, .f32⟩
  | .hbm, ⟨68, _⟩ => ⟨S8192x512, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .vmem, ⟨9, _⟩ => ⟨S2x256x128, .f32⟩
  | .local _ .vmem, ⟨10, _⟩ => ⟨S256x256, .bf16⟩
  | .local _ .vmem, ⟨11, _⟩ => ⟨S256x256, .bf16⟩
  | .local _ .vmem, ⟨12, _⟩ => ⟨S256x128, .bf16⟩
  | .local _ .vmem, ⟨13, _⟩ => ⟨S256x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S32x128x256, .f32⟩
  | .local _ .vmem, ⟨19, _⟩ => ⟨S32x128x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v25 : Ref sig .tc := ⟨.hbm, 46, rfl⟩
abbrev main_cst_1 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_call2_cst : Ref sig .tc := ⟨.hbm, 52, rfl⟩
abbrev main_call2_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_v35_0 : Ref sig .tc := ⟨.hbm, 63, rfl⟩
abbrev main_v35_1 : Ref sig .tc := ⟨.hbm, 64, rfl⟩
abbrev main_v35_2 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 32], ![false, false]⟩

@[reducible] def k0_t1_loop (i : grid0.Coords) (v80 : BitVec 32) : Scf.Loop 32 :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let c1_i32_35 : BitVec 32 := 1#32
  ⟨v80, v88, c1_i32_35⟩

def k0_mult1 (i : grid0.Coords) (v80 : BitVec 32) (k0_t1 : Fin (k0_t1_loop i v80).trips) : BitVec 32 :=
  let c1_i32_35 : BitVec 32 := 1#32
  let arg14 : BitVec 32 := Scf.iv v80 c1_i32_35 k0_t1
  let c256_i32_147 : BitVec 32 := 256#32
  let v375 : BitVec 32 := Scalar.muli arg14 c256_i32_147
  v375
def k0_off1 (i : grid0.Coords) (v80 : BitVec 32) (k0_t1 : Fin (k0_t1_loop i v80).trips) : Fin 2 → Nat :=
  let c1_i32_35 : BitVec 32 := 1#32
  let arg14 : BitVec 32 := Scf.iv v80 c1_i32_35 k0_t1
  let c256_i32_147 : BitVec 32 := 256#32
  let v375 : BitVec 32 := Scalar.muli arg14 c256_i32_147
  let v376 : BitVec 32 := v375
  let v377 : Index := Scalar.indexCast v376
  let c0_148 : Index := 0#32
  ![v377.toNat, 0]
def k0_off2 (i : grid0.Coords) (v80 : BitVec 32) (k0_t1 : Fin (k0_t1_loop i v80).trips) : Fin 3 → Nat :=
  let c1_i32_35 : BitVec 32 := 1#32
  let arg14 : BitVec 32 := Scf.iv v80 c1_i32_35 k0_t1
  let v484 : Index := Scalar.indexCast arg14
  let c0_185 : Index := 0#32
  let c0_186 : Index := 0#32
  ![v484.toNat, 0, 0]
@[reducible] def k0_t2_loop (i : grid0.Coords) (v80 : BitVec 32) : Scf.Loop 32 :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let v85 : BitVec 32 := Scalar.addi v80 v84
  let c1_i32_36 : BitVec 32 := 1#32
  ⟨v88, v85, c1_i32_36⟩
def k0_mult2 (i : grid0.Coords) (v80 : BitVec 32) (k0_t2 : Fin (k0_t2_loop i v80).trips) : BitVec 32 :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let c1_i32_36 : BitVec 32 := 1#32
  let arg14 : BitVec 32 := Scf.iv v88 c1_i32_36 k0_t2
  let c256_i32_147 : BitVec 32 := 256#32
  let v375 : BitVec 32 := Scalar.muli arg14 c256_i32_147
  v375
def k0_off3 (i : grid0.Coords) (v80 : BitVec 32) (k0_t2 : Fin (k0_t2_loop i v80).trips) : Fin 2 → Nat :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let c1_i32_36 : BitVec 32 := 1#32
  let arg14 : BitVec 32 := Scf.iv v88 c1_i32_36 k0_t2
  let c256_i32_147 : BitVec 32 := 256#32
  let v375 : BitVec 32 := Scalar.muli arg14 c256_i32_147
  let v376 : BitVec 32 := v375
  let v377 : Index := Scalar.indexCast v376
  let c0_148 : Index := 0#32
  ![v377.toNat, 0]
def k0_off4 (i : grid0.Coords) (v80 : BitVec 32) (k0_t2 : Fin (k0_t2_loop i v80).trips) : Fin 3 → Nat :=
  let arg1 : BitVec 32 := BitVec.ofNat 32 (i 1).val
  let c1_i32 : BitVec 32 := 1#32
  let v83 : BitVec 32 := Scalar.subi arg1 c1_i32
  let v84 : BitVec 32 := Scalar.subi v83 v80
  let c1_i32_34 : BitVec 32 := 1#32
  let v86 : BitVec 32 := Scalar.divsi v84 c1_i32_34
  let v87 : BitVec 32 := Scalar.muli v86 c1_i32_34
  let v88 : BitVec 32 := Scalar.addi v80 v87
  let c1_i32_36 : BitVec 32 := 1#32
  let arg14 : BitVec 32 := Scf.iv v88 c1_i32_36 k0_t2
  let v484 : Index := Scalar.indexCast arg14
  let c0_185 : Index := 0#32
  let c0_186 : Index := 0#32
  ![v484.toNat, 0, 0]

def k0_chk1 (i : grid0.Coords) (v80 : BitVec 32) : Prop :=
  ((k0_t1_loop i v80).OK) ∧
  (∀ k0_t1 : Fin (k0_t1_loop i v80).trips, 256 ∣ (k0_mult1 i v80 k0_t1).toNat) ∧
  (∀ k0_t1 : Fin (k0_t1_loop i v80).trips, ∀ a, (k0_off1 i v80 k0_t1) a + S256x128.size a ≤ S8192x128.size a) ∧
  (∀ k0_t1 : Fin (k0_t1_loop i v80).trips, ∀ a, (k0_off2 i v80 k0_t1) a + S1x128x256.size a ≤ S32x128x256.size a) ∧
  ((k0_t2_loop i v80).OK) ∧
  (∀ k0_t2 : Fin (k0_t2_loop i v80).trips, 256 ∣ (k0_mult2 i v80 k0_t2).toNat) ∧
  (∀ k0_t2 : Fin (k0_t2_loop i v80).trips, ∀ a, (k0_off3 i v80 k0_t2) a + S256x128.size a ≤ S8192x128.size a) ∧
  (∀ k0_t2 : Fin (k0_t2_loop i v80).trips, ∀ a, (k0_off4 i v80 k0_t2) a + S1x128x256.size a ≤ S32x128x256.size a)
theorem k0_t1_ok : ∀ (i : grid0.Coords) (v80 : BitVec 32) (k0_hw1 : k0_chk1 i v80), (k0_t1_loop i v80).OK := fun i v80 k0_hw1 => k0_hw1.1
theorem k0_mult1_dvd : ∀ (i : grid0.Coords) (v80 : BitVec 32) (k0_hw1 : k0_chk1 i v80) (k0_t1 : Fin (k0_t1_loop i v80).trips), 256 ∣ (k0_mult1 i v80 k0_t1).toNat := fun i v80 k0_hw1 k0_t1 => k0_hw1.2.1 k0_t1
theorem k0_off1_inb : ∀ (i : grid0.Coords) (v80 : BitVec 32) (k0_hw1 : k0_chk1 i v80) (k0_t1 : Fin (k0_t1_loop i v80).trips), ∀ a, (k0_off1 i v80 k0_t1) a + S256x128.size a ≤ S8192x128.size a := fun i v80 k0_hw1 k0_t1 => k0_hw1.2.2.1 k0_t1
theorem k0_off2_inb : ∀ (i : grid0.Coords) (v80 : BitVec 32) (k0_hw1 : k0_chk1 i v80) (k0_t1 : Fin (k0_t1_loop i v80).trips), ∀ a, (k0_off2 i v80 k0_t1) a + S1x128x256.size a ≤ S32x128x256.size a := fun i v80 k0_hw1 k0_t1 => k0_hw1.2.2.2.1 k0_t1
theorem k0_t2_ok : ∀ (i : grid0.Coords) (v80 : BitVec 32) (k0_hw1 : k0_chk1 i v80), (k0_t2_loop i v80).OK := fun i v80 k0_hw1 => k0_hw1.2.2.2.2.1
theorem k0_mult2_dvd : ∀ (i : grid0.Coords) (v80 : BitVec 32) (k0_hw1 : k0_chk1 i v80) (k0_t2 : Fin (k0_t2_loop i v80).trips), 256 ∣ (k0_mult2 i v80 k0_t2).toNat := fun i v80 k0_hw1 k0_t2 => k0_hw1.2.2.2.2.2.1 k0_t2
theorem k0_off3_inb : ∀ (i : grid0.Coords) (v80 : BitVec 32) (k0_hw1 : k0_chk1 i v80) (k0_t2 : Fin (k0_t2_loop i v80).trips), ∀ a, (k0_off3 i v80 k0_t2) a + S256x128.size a ≤ S8192x128.size a := fun i v80 k0_hw1 k0_t2 => k0_hw1.2.2.2.2.2.2.1 k0_t2
theorem k0_off4_inb : ∀ (i : grid0.Coords) (v80 : BitVec 32) (k0_hw1 : k0_chk1 i v80) (k0_t2 : Fin (k0_t2_loop i v80).trips), ∀ a, (k0_off4 i v80 k0_t2) a + S1x128x256.size a ≤ S32x128x256.size a := fun i v80 k0_hw1 k0_t2 => k0_hw1.2.2.2.2.2.2.2 k0_t2

def k0_mult3 (i : grid0.Coords) : BitVec 32 :=
  let arg1 : BitVec 32 := BitVec.ofNat 32 (i 1).val
  let c1_i32_38 : BitVec 32 := 1#32
  let v94 : BitVec 32 := Scalar.subi arg1 c1_i32_38
  let c0_i32_39 : BitVec 32 := 0#32
  let v95 : BitVec 32 := Scalar.maxsi v94 c0_i32_39
  let c256_i32 : BitVec 32 := 256#32
  let v96 : BitVec 32 := Scalar.muli v95 c256_i32
  v96
def k0_mult4 (i : grid0.Coords) : BitVec 32 :=
  let arg1 : BitVec 32 := BitVec.ofNat 32 (i 1).val
  let c256_i32_40 : BitVec 32 := 256#32
  let v98 : BitVec 32 := Scalar.muli arg1 c256_i32_40
  v98
def k0_off5 (i : grid0.Coords) : Fin 2 → Nat :=
  let arg1 : BitVec 32 := BitVec.ofNat 32 (i 1).val
  let c1_i32_38 : BitVec 32 := 1#32
  let v94 : BitVec 32 := Scalar.subi arg1 c1_i32_38
  let c0_i32_39 : BitVec 32 := 0#32
  let v95 : BitVec 32 := Scalar.maxsi v94 c0_i32_39
  let c256_i32 : BitVec 32 := 256#32
  let v96 : BitVec 32 := Scalar.muli v95 c256_i32
  let v97 : BitVec 32 := v96
  let v100 : Index := Scalar.indexCast v97
  let c0_41 : Index := 0#32
  ![v100.toNat, 0]
def k0_off6 (i : grid0.Coords) : Fin 2 → Nat :=
  let arg1 : BitVec 32 := BitVec.ofNat 32 (i 1).val
  let c256_i32_40 : BitVec 32 := 256#32
  let v98 : BitVec 32 := Scalar.muli arg1 c256_i32_40
  let v99 : BitVec 32 := v98
  let v103 : Index := Scalar.indexCast v99
  let c0_42 : Index := 0#32
  ![v103.toNat, 0]
def k0_off7 (i : grid0.Coords) : Fin 3 → Nat :=
  let arg1 : BitVec 32 := BitVec.ofNat 32 (i 1).val
  let c1_i32_38 : BitVec 32 := 1#32
  let v94 : BitVec 32 := Scalar.subi arg1 c1_i32_38
  let c0_i32_39 : BitVec 32 := 0#32
  let v95 : BitVec 32 := Scalar.maxsi v94 c0_i32_39
  let v317 : Index := Scalar.indexCast v95
  let c0_116 : Index := 0#32
  let c0_117 : Index := 0#32
  ![v317.toNat, 0, 0]
def k0_off8 (i : grid0.Coords) : Fin 3 → Nat :=
  let arg1 : BitVec 32 := BitVec.ofNat 32 (i 1).val
  let v346 : Index := Scalar.indexCast arg1
  let c0_131 : Index := 0#32
  let c0_132 : Index := 0#32
  ![v346.toNat, 0, 0]
def k0_cond2 (i : grid0.Coords) : BitVec 1 :=
  let arg1 : BitVec 32 := BitVec.ofNat 32 (i 1).val
  let c31_i32 : BitVec 32 := 31#32
  let v372 : BitVec 1 := Scalar.cmpi .eq arg1 c31_i32
  let v373 : BitVec 32 := Scalar.extui v372
  let c0_i32_146 : BitVec 32 := 0#32
  let v374 : BitVec 1 := Scalar.cmpi .ne v373 c0_i32_146
  v374

@[reducible] def k0_t3_loop : Scf.Loop 32 :=
  let c0_i32_147 : BitVec 32 := 0#32
  let c32_i32 : BitVec 32 := 32#32
  let v375 : BitVec 32 := Scalar.addi c0_i32_147 c32_i32
  let c1_i32_148 : BitVec 32 := 1#32
  ⟨c0_i32_147, v375, c1_i32_148⟩
def k0_mult5 (k0_t3 : Fin k0_t3_loop.trips) : BitVec 32 :=
  let c0_i32_147 : BitVec 32 := 0#32
  let c1_i32_148 : BitVec 32 := 1#32
  let arg14 : BitVec 32 := Scf.iv c0_i32_147 c1_i32_148 k0_t3
  let c256_i32_150 : BitVec 32 := 256#32
  let v376 : BitVec 32 := Scalar.muli arg14 c256_i32_150
  v376
def k0_off9 (k0_t3 : Fin k0_t3_loop.trips) : Fin 3 → Nat :=
  let c0_i32_147 : BitVec 32 := 0#32
  let c1_i32_148 : BitVec 32 := 1#32
  let arg14 : BitVec 32 := Scf.iv c0_i32_147 c1_i32_148 k0_t3
  let v378 : Index := Scalar.indexCast arg14
  let c0_151 : Index := 0#32
  let c0_152 : Index := 0#32
  ![v378.toNat, 0, 0]
def k0_off10 (k0_t3 : Fin k0_t3_loop.trips) : Fin 2 → Nat :=
  let c0_i32_147 : BitVec 32 := 0#32
  let c1_i32_148 : BitVec 32 := 1#32
  let arg14 : BitVec 32 := Scf.iv c0_i32_147 c1_i32_148 k0_t3
  let c256_i32_150 : BitVec 32 := 256#32
  let v376 : BitVec 32 := Scalar.muli arg14 c256_i32_150
  let v377 : BitVec 32 := v376
  let v383 : Index := Scalar.indexCast v377
  let c0_153 : Index := 0#32
  ![v383.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "dead" => some ⊤
  | _ => none
-- ==== ReferenceIdeal.lean ====
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192x8192 : Shape := ⟨2, ![8192, 8192]⟩
abbrev S8x64x8192 : Shape := ⟨3, ![8, 64, 8192]⟩

abbrev nBuf : Space → Nat
  | .hbm => 173
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x8x64, .f32⟩
  | 5 => ⟨S8x8192x64, .f32⟩
  | 6 => ⟨S8192x8x64, .f32⟩
  | 7 => ⟨S8x8192x64, .f32⟩
  | 8 => ⟨S8x8192x8192, .f32⟩
  | 9 => ⟨S_, .f32⟩
  | 10 => ⟨S8x8192x8192, .f32⟩
  | 11 => ⟨S8x8192x8192, .f32⟩
  | 12 => ⟨S8192x8192, .i32⟩
  | 13 => ⟨S8192x8192, .i32⟩
  | 14 => ⟨S8192x8192, .i1⟩
  | 15 => ⟨S8x8192x8192, .f32⟩
  | 16 => ⟨S8x8192x8192, .f32⟩
  | 17 => ⟨S_, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .i1⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S_, .f32⟩
  | 32 => ⟨S8x8192x8192, .f32⟩
  | 33 => ⟨S8x8192x8192, .i1⟩
  | 34 => ⟨S_, .f32⟩
  | 35 => ⟨S8x8192x8192, .f32⟩
  | 36 => ⟨S8x8192x8192, .f32⟩
  | 37 => ⟨S_, .f32⟩
  | 38 => ⟨S8x8192x8192, .f32⟩
  | 39 => ⟨S8x8192x8192, .i1⟩
  | 40 => ⟨S_, .f32⟩
  | 41 => ⟨S8x8192x8192, .f32⟩
  | 42 => ⟨S8x8192x8192, .f32⟩
  | 43 => ⟨S8x8192x8192, .f32⟩
  | 44 => ⟨S8x8192x8192, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S8x8192x8192, .f32⟩
  | 53 => ⟨S8x8192x8192, .i1⟩
  | 54 => ⟨S_, .f32⟩
  | 55 => ⟨S8x8192x8192, .f32⟩
  | 56 => ⟨S8x8192x8192, .f32⟩
  | 57 => ⟨S8x8192x8192, .f32⟩
  | 58 => ⟨S8x8192x8192, .f32⟩
  | 59 => ⟨S8x8192x8192, .f32⟩
  | 60 => ⟨S_, .f32⟩
  | 61 => ⟨S8x8192x8192, .f32⟩
  | 62 => ⟨S8x8192x8192, .f32⟩
  | 63 => ⟨S8x8192x8192, .f32⟩
  | 64 => ⟨S_, .f32⟩
  | 65 => ⟨S_, .f32⟩
  | 66 => ⟨S8x8192x8192, .i1⟩
  | 67 => ⟨S8x8192x8192, .f32⟩
  | 68 => ⟨S8x8192x8192, .f32⟩
  | 69 => ⟨S_, .f32⟩
  | 70 => ⟨S8x8192x8192, .f32⟩
  | 71 => ⟨S_, .f32⟩
  | 72 => ⟨S_, .f32⟩
  | 73 => ⟨S8x8192x8192, .f32⟩
  | 74 => ⟨S8x8192x8192, .f32⟩
  | 75 => ⟨S8x8192x8192, .f32⟩
  | 76 => ⟨S_, .f32⟩
  | 77 => ⟨S8x8192x8192, .f32⟩
  | 78 => ⟨S8x8192x8192, .f32⟩
  | 79 => ⟨S8x8192x8192, .f32⟩
  | 80 => ⟨S8x8192x8192, .f32⟩
  | 81 => ⟨S8x8192x8192, .i1⟩
  | 82 => ⟨S8x8192x8192, .f32⟩
  | 83 => ⟨S8x8192x8192, .f32⟩
  | 84 => ⟨S8x8192x8192, .f32⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S_, .f32⟩
  | 91 => ⟨S8x8192x8192, .f32⟩
  | 92 => ⟨S8x8192x8192, .i1⟩
  | 93 => ⟨S_, .f32⟩
  | 94 => ⟨S8x8192x8192, .f32⟩
  | 95 => ⟨S8x8192x8192, .f32⟩
  | 96 => ⟨S_, .f32⟩
  | 97 => ⟨S8x8192x8192, .f32⟩
  | 98 => ⟨S8x8192x8192, .i1⟩
  | 99 => ⟨S_, .f32⟩
  | 100 => ⟨S8x8192x8192, .f32⟩
  | 101 => ⟨S8x8192x8192, .f32⟩
  | 102 => ⟨S8x8192x8192, .f32⟩
  | 103 => ⟨S8x8192x8192, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S8x8192x8192, .f32⟩
  | 112 => ⟨S8x8192x8192, .i1⟩
  | 113 => ⟨S_, .f32⟩
  | 114 => ⟨S8x8192x8192, .f32⟩
  | 115 => ⟨S8x8192x8192, .f32⟩
  | 116 => ⟨S8x8192x8192, .f32⟩
  | 117 => ⟨S8x8192x8192, .f32⟩
  | 118 => ⟨S8x8192x8192, .f32⟩
  | 119 => ⟨S_, .f32⟩
  | 120 => ⟨S8x8192x8192, .f32⟩
  | 121 => ⟨S8x8192x8192, .f32⟩
  | 122 => ⟨S8x8192x8192, .f32⟩
  | 123 => ⟨S8x8192x8192, .f32⟩
  | 124 => ⟨S8x8192x8192, .f32⟩
  | 125 => ⟨S_, .f32⟩
  | 126 => ⟨S_, .f32⟩
  | 127 => ⟨S8x8192x8192, .i1⟩
  | _ => ⟨S8192x512, .f32⟩

abbrev hbmTy0_1 (i : Nat) : BufTy := match i % 128 with
  | 0 => ⟨S8x8192x8192, .f32⟩
  | 1 => ⟨S8x8192x8192, .f32⟩
  | 2 => ⟨S_, .f32⟩
  | 3 => ⟨S8x8192x8192, .f32⟩
  | 4 => ⟨S8192x8x64, .f32⟩
  | 5 => ⟨S8x8192x64, .f32⟩
  | 6 => ⟨S8x8192x64, .f32⟩
  | 7 => ⟨S8192x8x64, .f32⟩
  | 8 => ⟨S8192x512, .f32⟩
  | 9 => ⟨S8192x8x64, .f32⟩
  | 10 => ⟨S8x8192x64, .f32⟩
  | 11 => ⟨S8x64x8192, .f32⟩
  | 12 => ⟨S8x8192x64, .f32⟩
  | 13 => ⟨S8x8192x8192, .f32⟩
  | 14 => ⟨S8192x8x64, .f32⟩
  | 15 => ⟨S8192x512, .f32⟩
  | 16 => ⟨S_, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S_, .f32⟩
  | 25 => ⟨S_, .f32⟩
  | 26 => ⟨S8x8192x8192, .f32⟩
  | 27 => ⟨S8x8192x8192, .f32⟩
  | 28 => ⟨S_, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S_, .f32⟩
  | 37 => ⟨S8x8192x8192, .f32⟩
  | 38 => ⟨S8x8192x8192, .f32⟩
  | 39 => ⟨S8x8192x64, .f32⟩
  | 40 => ⟨S8x8192x64, .f32⟩
  | 41 => ⟨S8192x8x64, .f32⟩
  | 42 => ⟨S8192x512, .f32⟩
  | 43 => ⟨S8192x8x64, .f32⟩
  | 44 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1_0 : Ref sig .tc := ⟨.hbm, 30, rfl⟩
abbrev main_call0_call0_cst_0 : Ref sig .tc := ⟨.hbm, 31, rfl⟩
abbrev main_call0_call0_v13 : Ref sig .tc := ⟨.hbm, 32, rfl⟩
abbrev main_call0_call0_v14 : Ref sig .tc := ⟨.hbm, 33, rfl⟩
abbrev main_call0_call0_cst_1 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_cst_2 : Ref sig .tc := ⟨.hbm, 37, rfl⟩
abbrev main_call0_call0_v17 : Ref sig .tc := ⟨.hbm, 38, rfl⟩
abbrev main_call0_call0_v18 : Ref sig .tc := ⟨.hbm, 39, rfl⟩
abbrev main_call0_call0_cst_3 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_v11_1 : Ref sig .tc := ⟨.hbm, 44, rfl⟩
abbrev main_call0_call0_cst_4 : Ref sig .tc := ⟨.hbm, 45, rfl⟩
abbrev main_call0_call0_cst_5 : Ref sig .tc := ⟨.hbm, 46, rfl⟩
abbrev main_call0_call0_v23 : Ref sig .tc := ⟨.hbm, 47, rfl⟩
abbrev main_call0_call0_cst_6 : Ref sig .tc := ⟨.hbm, 48, rfl⟩
abbrev main_call0_call0_cst_7 : Ref sig .tc := ⟨.hbm, 49, rfl⟩
abbrev main_call0_call0_v24 : Ref sig .tc := ⟨.hbm, 50, rfl⟩
abbrev main_call0_call0_cst_8 : Ref sig .tc := ⟨.hbm, 51, rfl⟩
abbrev main_call0_call0_v25 : Ref sig .tc := ⟨.hbm, 52, rfl⟩
abbrev main_call0_call0_v26 : Ref sig .tc := ⟨.hbm, 53, rfl⟩
abbrev main_call0_call0_cst_9 : Ref sig .tc := ⟨.hbm, 54, rfl⟩
abbrev main_call0_call0_v27 : Ref sig .tc := ⟨.hbm, 55, rfl⟩
abbrev main_call0_call0_v28 : Ref sig .tc := ⟨.hbm, 56, rfl⟩
abbrev main_call0_call0_v29 : Ref sig .tc := ⟨.hbm, 57, rfl⟩
abbrev main_call0_call0_v30 : Ref sig .tc := ⟨.hbm, 58, rfl⟩
abbrev main_call0_call0_v31 : Ref sig .tc := ⟨.hbm, 59, rfl⟩
abbrev main_call0_call0_cst_10 : Ref sig .tc := ⟨.hbm, 60, rfl⟩
abbrev main_call0_call0_v32 : Ref sig .tc := ⟨.hbm, 61, rfl⟩
abbrev main_v11_2 : Ref sig .tc := ⟨.hbm, 62, rfl⟩
abbrev main_v11_0 : Ref sig .tc := ⟨.hbm, 63, rfl⟩
abbrev main_cst_0 : Ref sig .tc := ⟨.hbm, 64, rfl⟩
abbrev main_call1_v0 : Ref sig .tc := ⟨.hbm, 65, rfl⟩
abbrev main_v12_1 : Ref sig .tc := ⟨.hbm, 66, rfl⟩
abbrev main_call1_v2 : Ref sig .tc := ⟨.hbm, 67, rfl⟩
abbrev main_v12_0 : Ref sig .tc := ⟨.hbm, 68, rfl⟩
abbrev main_call1_cst : Ref sig .tc := ⟨.hbm, 69, rfl⟩
abbrev main_v12_2 : Ref sig .tc := ⟨.hbm, 70, rfl⟩
abbrev main_call2_cst : Ref sig .tc := ⟨.hbm, 71, rfl⟩
abbrev main_call2_v0 : Ref sig .tc := ⟨.hbm, 72, rfl⟩
abbrev main_v13 : Ref sig .tc := ⟨.hbm, 73, rfl⟩
abbrev main_v14 : Ref sig .tc := ⟨.hbm, 74, rfl⟩
abbrev main_call3_v0 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_v2 : Ref sig .tc := ⟨.hbm, 79, rfl⟩
abbrev main_call3_call0_v3 : Ref sig .tc := ⟨.hbm, 80, rfl⟩
abbrev main_call3_call0_v4 : Ref sig .tc := ⟨.hbm, 81, rfl⟩
abbrev main_call3_call0_v5 : Ref sig .tc := ⟨.hbm, 82, rfl⟩
abbrev main_call3_call0_v6 : Ref sig .tc := ⟨.hbm, 83, rfl⟩
abbrev main_call3_call0_v7 : Ref sig .tc := ⟨.hbm, 84, rfl⟩
abbrev main_call3_call0_v8 : Ref sig .tc := ⟨.hbm, 85, rfl⟩
abbrev main_call3_call0_v9 : Ref sig .tc := ⟨.hbm, 86, rfl⟩
abbrev main_call3_call0_v10 : Ref sig .tc := ⟨.hbm, 87, rfl⟩
abbrev main_call3_call0_v11 : Ref sig .tc := ⟨.hbm, 88, rfl⟩
abbrev main_call3_v1_0 : Ref sig .tc := ⟨.hbm, 89, rfl⟩
abbrev main_call3_call0_cst_0 : Ref sig .tc := ⟨.hbm, 90, rfl⟩
abbrev main_call3_call0_v13 : Ref sig .tc := ⟨.hbm, 91, rfl⟩
abbrev main_call3_call0_v14 : Ref sig .tc := ⟨.hbm, 92, rfl⟩
abbrev main_call3_call0_cst_1 : Ref sig .tc := ⟨.hbm, 93, rfl⟩
abbrev main_call3_call0_v15 : Ref sig .tc := ⟨.hbm, 94, rfl⟩
abbrev main_call3_call0_v16 : Ref sig .tc := ⟨.hbm, 95, rfl⟩
abbrev main_call3_call0_cst_2 : Ref sig .tc := ⟨.hbm, 96, rfl⟩
abbrev main_call3_call0_v17 : Ref sig .tc := ⟨.hbm, 97, rfl⟩
abbrev main_call3_call0_v18 : Ref sig .tc := ⟨.hbm, 98, rfl⟩
abbrev main_call3_call0_cst_3 : Ref sig .tc := ⟨.hbm, 99, rfl⟩
abbrev main_call3_call0_v19 : Ref sig .tc := ⟨.hbm, 100, rfl⟩
abbrev main_call3_call0_v20 : Ref sig .tc := ⟨.hbm, 101, rfl⟩
abbrev main_call3_call0_v21 : Ref sig .tc := ⟨.hbm, 102, rfl⟩
abbrev main_v15_1 : Ref sig .tc := ⟨.hbm, 103, rfl⟩
abbrev main_call3_call0_cst_4 : Ref sig .tc := ⟨.hbm, 104, rfl⟩
abbrev main_call3_call0_cst_5 : Ref sig .tc := ⟨.hbm, 105, rfl⟩
abbrev main_call3_call0_v23 : Ref sig .tc := ⟨.hbm, 106, rfl⟩
abbrev main_call3_call0_cst_6 : Ref sig .tc := ⟨.hbm, 107, rfl⟩
abbrev main_call3_call0_cst_7 : Ref sig .tc := ⟨.hbm, 108, rfl⟩
abbrev main_call3_call0_v24 : Ref sig .tc := ⟨.hbm, 109, rfl⟩
abbrev main_call3_call0_cst_8 : Ref sig .tc := ⟨.hbm, 110, rfl⟩
abbrev main_call3_call0_v25 : Ref sig .tc := ⟨.hbm, 111, rfl⟩
abbrev main_call3_call0_v26 : Ref sig .tc := ⟨.hbm, 112, rfl⟩
abbrev main_call3_call0_cst_9 : Ref sig .tc := ⟨.hbm, 113, rfl⟩
abbrev main_call3_call0_v27 : Ref sig .tc := ⟨.hbm, 114, rfl⟩
abbrev main_call3_call0_v28 : Ref sig .tc := ⟨.hbm, 115, rfl⟩
abbrev main_call3_call0_v29 : Ref sig .tc := ⟨.hbm, 116, rfl⟩
abbrev main_call3_call0_v30 : Ref sig .tc := ⟨.hbm, 117, rfl⟩
abbrev main_call3_call0_v31 : Ref sig .tc := ⟨.hbm, 118, rfl⟩
abbrev main_call3_call0_cst_10 : Ref sig .tc := ⟨.hbm, 119, rfl⟩
abbrev main_call3_call0_v32 : Ref sig .tc := ⟨.hbm, 120, rfl⟩
abbrev main_v15_2 : Ref sig .tc := ⟨.hbm, 121, rfl⟩
abbrev main_v15_0 : Ref sig .tc := ⟨.hbm, 122, rfl⟩
abbrev main_v16 : Ref sig .tc := ⟨.hbm, 123, rfl⟩
abbrev main_v17 : Ref sig .tc := ⟨.hbm, 124, rfl⟩
abbrev main_cst_1 : Ref sig .tc := ⟨.hbm, 125, rfl⟩
abbrev main_call4_v0 : Ref sig .tc := ⟨.hbm, 126, rfl⟩
abbrev main_v18_1 : Ref sig .tc := ⟨.hbm, 127, rfl⟩
abbrev main_call4_v2 : Ref sig .tc := ⟨.hbm, 128, rfl⟩
abbrev main_v18_0 : Ref sig .tc := ⟨.hbm, 129, rfl⟩
abbrev main_call4_cst : Ref sig .tc := ⟨.hbm, 130, rfl⟩
abbrev main_v18_2 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_call5_cst : Ref sig .tc := ⟨.hbm, 144, rfl⟩
abbrev main_call5_v0 : Ref sig .tc := ⟨.hbm, 145, rfl⟩
abbrev main_v31 : Ref sig .tc := ⟨.hbm, 146, rfl⟩
abbrev main_v32 : Ref sig .tc := ⟨.hbm, 147, rfl⟩
abbrev main_call6_v0 : Ref sig .tc := ⟨.hbm, 148, rfl⟩
abbrev main_call6_v1 : Ref sig .tc := ⟨.hbm, 149, rfl⟩
abbrev main_v33 : Ref sig .tc := ⟨.hbm, 150, rfl⟩
abbrev main_v34 : Ref sig .tc := ⟨.hbm, 151, rfl⟩
abbrev main_call7_cst : Ref sig .tc := ⟨.hbm, 152, rfl⟩
abbrev main_call7_v0 : Ref sig .tc := ⟨.hbm, 153, rfl⟩
abbrev main_v35 : Ref sig .tc := ⟨.hbm, 154, rfl⟩
abbrev main_v36 : Ref sig .tc := ⟨.hbm, 155, rfl⟩
abbrev main_call8_cst : Ref sig .tc := ⟨.hbm, 156, rfl⟩
abbrev main_call8_v0 : Ref sig .tc := ⟨.hbm, 157, rfl⟩
abbrev main_v37 : Ref sig .tc := ⟨.hbm, 158, rfl⟩
abbrev main_call9_v0 : Ref sig .tc := ⟨.hbm, 159, rfl⟩
abbrev main_call9_v1 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_cst_2 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩

abbrev nD : Nat := 1
abbrev τ : Topo := Topo.v7x

variable {F : FTy → Type} [FloatOps F]
-- ==== Kernel2.lean ====
abbrev S8192x4096 : Shape := ⟨2, ![8192, 4096]⟩
abbrev S4096x1024 : Shape := ⟨2, ![4096, 1024]⟩
abbrev S8192x1024 : Shape := ⟨2, ![8192, 1024]⟩
abbrev S256x1024 : Shape := ⟨2, ![256, 1024]⟩
abbrev S256x4096 : Shape := ⟨2, ![256, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S8192x4096, .bf16⟩
  | .hbm, ⟨5, _⟩ => ⟨S8192x4096, .bf16⟩
  | .hbm, ⟨6, _⟩ => ⟨S8192x4096, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S4096x1024, .bf16⟩
  | .hbm, ⟨4, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v18 : BitVec 1 := Scalar.cmpi .eq arg2 c15_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S4096x1024 : Shape := ⟨2, ![4096, 1024]⟩
abbrev S512x2048 : Shape := ⟨2, ![512, 2048]⟩
abbrev S512x1024 : Shape := ⟨2, ![512, 1024]⟩
abbrev S2048x1024 : Shape := ⟨2, ![2048, 1024]⟩
abbrev S1024x4096 : Shape := ⟨2, ![1024, 4096]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x4096, .bf16⟩
  | .hbm, ⟨3, _⟩ => ⟨S4096x1024, .bf16⟩
  | .hbm, ⟨4, _⟩ => ⟨S4096x1024, .f32⟩
  | .hbm, ⟨5, _⟩ => ⟨S1024x4096, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S8192x2560 : Shape := ⟨2, ![8192, 2560]⟩
abbrev S8192x512 : Shape := ⟨2, ![8192, 512]⟩
abbrev S2560x1024 : Shape := ⟨2, ![2560, 1024]⟩
abbrev S512x512 : Shape := ⟨2, ![512, 512]⟩
abbrev S512x1024 : Shape := ⟨2, ![512, 1024]⟩
abbrev S1024x1024 : Shape := ⟨2, ![1024, 1024]⟩
abbrev S1024x2560 : Shape := ⟨2, ![1024, 2560]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x2560, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x1024, .bf16⟩
  | .hbm, ⟨10, _⟩ => ⟨S2560x1024, .bf16⟩
  | .hbm, ⟨11, _⟩ => ⟨S2560x1024, .f32⟩
  | .hbm, ⟨12, _⟩ => ⟨S1024x2560, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S2560x1024, .bf16⟩
  | .local _ .vmem, ⟨11, _⟩ => ⟨S2560x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v37 : BitVec 1 := Scalar.cmpi .eq arg2 c15_i32
  let v38 : BitVec 32 := Scalar.extui v37
  let c0_i32_26 : BitVec 32 := 0#32
  let v39 : BitVec 1 := Scalar.cmpi .ne v38 c0_i32_26
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== Reference7Ideal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2560, .f32⟩
  | .hbm, ⟨2, _⟩ => ⟨S_, .f32⟩
  | .hbm, ⟨3, _⟩ => ⟨S1024x2560, .f32⟩
  | .hbm, ⟨4, _⟩ => ⟨S8192x2560, .f32⟩
  | .hbm, ⟨5, _⟩ => ⟨S2560x1024, .f32⟩
  | .hbm, ⟨6, _⟩ => ⟨S1024x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S1024x2560 : Shape := ⟨2, ![1024, 2560]⟩
abbrev S8192x1024 : Shape := ⟨2, ![8192, 1024]⟩
abbrev S8192x2560 : Shape := ⟨2, ![8192, 2560]⟩
abbrev S8192x512 : Shape := ⟨2, ![8192, 512]⟩
abbrev S2560x1024 : Shape := ⟨2, ![2560, 1024]⟩
abbrev S256x512 : Shape := ⟨2, ![256, 512]⟩
abbrev S256x1024 : Shape := ⟨2, ![256, 1024]⟩
abbrev S512x1024 : Shape := ⟨2, ![512, 1024]⟩
abbrev S1024x1024 : Shape := ⟨2, ![1024, 1024]⟩

abbrev nBuf : Space → Nat
  | .hbm => 14
  | .vmem => 13
  | .smem => 0
  | _ => 0

abbrev bufTy : (tb : Table) → Fin (tcTables nBuf tb) → BufTy
  | .hbm, ⟨0, _⟩ => ⟨S1024x2560, .f32⟩
  | .hbm, ⟨1, _⟩ => ⟨S8192x1024, .f32⟩
  | .hbm, ⟨2, _⟩ => ⟨S8192x2560, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x1024, .bf16⟩
  | .hbm, ⟨11, _⟩ => ⟨S2560x1024, .f32⟩
  | .hbm, ⟨12, _⟩ => ⟨S2560x1024, .bf16⟩
  | .hbm, ⟨13, _⟩ => ⟨S8192x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S2560x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S1024x2560 : Shape := ⟨2, ![1024, 2560]⟩
abbrev S8192x1024 : Shape := ⟨2, ![8192, 1024]⟩
abbrev S8192x2560 : Shape := ⟨2, ![8192, 2560]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x2560, .f32⟩
  | .hbm, ⟨1, _⟩ => ⟨S8192x1024, .f32⟩
  | .hbm, ⟨2, _⟩ => ⟨S8192x2560, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2560, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel9.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S256x1024 : Shape := ⟨2, ![256, 1024]⟩
abbrev S256x4096 : Shape := ⟨2, ![256, 4096]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S8192x4096, .bf16⟩
  | .hbm, ⟨5, _⟩ => ⟨S8192x4096, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S256x4096, .bf16⟩
  | .local _ .vmem, ⟨4, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S8192x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference10Ideal.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference11Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel12.lean ====
abbrev S8192x1024 : Shape := ⟨2, ![8192, 1024]⟩
abbrev S1024x2560 : Shape := ⟨2, ![1024, 2560]⟩
abbrev S2560x1024 : Shape := ⟨2, ![2560, 1024]⟩
abbrev S8192x512 : Shape := ⟨2, ![8192, 512]⟩
abbrev S256x1024 : Shape := ⟨2, ![256, 1024]⟩
abbrev S256x512 : Shape := ⟨2, ![256, 512]⟩
abbrev S256x2560 : Shape := ⟨2, ![256, 2560]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S2560x1024, .f32⟩
  | .hbm, ⟨3, _⟩ => ⟨S2560x1024, .bf16⟩
  | .hbm, ⟨4, _⟩ => ⟨S8192x1024, .f32⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .f32⟩
  | .hbm, ⟨9, _⟩ => ⟨S8192x512, .f32⟩
  | .hbm, ⟨10, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S2560x1024, .bf16⟩
  | .local _ .vmem, ⟨3, _⟩ => ⟨S256x1024, .f32⟩
  | .local _ .vmem, ⟨4, _⟩ => ⟨S256x1024, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference12Ideal.lean ====
abbrev S8192x1024 : Shape := ⟨2, ![8192, 1024]⟩
abbrev S1024x2560 : Shape := ⟨2, ![1024, 2560]⟩
abbrev S8192x2560 : Shape := ⟨2, ![8192, 2560]⟩
abbrev S8192x512 : Shape := ⟨2, ![8192, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S8192x2560, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S_, .f32⟩
  | .hbm, ⟨8, _⟩ => ⟨S8192x512, .f32⟩
  | .hbm, ⟨9, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Words.lean ====
/-
  The word the attention gradient computes from the saved sums (the first tile whose weights can be nonzero) is a
  count of lanes, so it lies between 0 and 128; for every such word the kernel's two counted loops have a
  meaning and address their buffers in range.
-/
module

public import proofs.«01_k».proof.Proof.Gen.KernelIdeal.Frame
public import proofs.«01_k».proof.Proof.Gen.KernelIdeal.Loops
public import Idealize.ShloMosaic.PureOps.Ideal
public import Idealize.ShloMosaic.Lib.WordSum
public import Idealize.ShloMosaic.Lib.PageRing.Trips

@[expose] public section

set_option maxRecDepth 16384

noncomputable section

namespace Cert.KernelIdeal.Attn

open Cert.KernelIdeal Cert.KernelIdeal.Gen
open Idealize.ShloMosaic

variable {F : FTy → Type} [FloatOps F] [Named F]

/-- The second grid coordinate as a word, less one, read as an integer. -/
theorem toInt_pred (n : ℕ) (h : n < 32) : (BitVec.ofNat 32 n - 1#32).toInt = (n : ℤ) - 1 := by
  interval_cases n <;> decide

/-- The first loop runs from the word `v` to the second grid coordinate less one. -/
theorem t1_ub (i : grid0.Coords) (v : BitVec 32) : (k0_t1_loop i v).ub = BitVec.ofNat 32 (i 1).val - 1#32 := by
  simp only [k0_t1_loop, Scalar.addi, Scalar.muli, Scalar.divsi, Scalar.subi, IntOp.addi, IntOp.subi, IntOp.muli, WordArith.divsi_one, BitVec.mul_one]
  rw [BitVec.add_comm, BitVec.sub_add_cancel]

/-- The second loop begins where the first one ends. -/
theorem t2_lb (i : grid0.Coords) (v : BitVec 32) : (k0_t2_loop i v).lb = BitVec.ofNat 32 (i 1).val - 1#32 := by
  simp only [k0_t2_loop, Scalar.addi, Scalar.muli, Scalar.divsi, Scalar.subi, IntOp.addi, IntOp.subi, IntOp.muli, WordArith.divsi_one, BitVec.mul_one]
  rw [BitVec.add_comm, BitVec.sub_add_cancel]

/-- The second loop ends there too. -/
theorem t2_ub (i : grid0.Coords) (v : BitVec 32) : (k0_t2_loop i v).ub = BitVec.ofNat 32 (i 1).val - 1#32 := by
  simp only [k0_t2_loop, Scalar.addi, Scalar.subi, IntOp.addi, IntOp.subi]
  rw [BitVec.add_comm, BitVec.sub_add_cancel]

/-- The second coordinate of the grid is below 32. -/
theorem row_lt (i : grid0.Coords) : (i 1).val < 32 := (i 1).isLt

/-- A word of value at most 128 reads that value as an integer. -/
theorem toInt_small (v : BitVec 32) (hv : v.toNat ≤ 128) : v.toInt = v.toNat := BitVec.toInt_eq_toNat_of_lt (by omega)

/-- The trips of the first loop. -/
theorem t1_trips (i : grid0.Coords) (v : BitVec 32) (hv : v.toNat ≤ 128) : (k0_t1_loop i v).trips = (i 1).val - 1 - v.toNat := by
  have hi := row_lt i
  show Scf.trips v (k0_t1_loop i v).ub 1#32 = _
  rw [t1_ub]
  unfold Scf.trips
  rw [toInt_pred _ hi, toInt_small v hv, show (1#32 : BitVec 32).toInt = 1 from by decide]
  omega

/-- The second loop makes no trip. -/
theorem t2_trips (i : grid0.Coords) (v : BitVec 32) : (k0_t2_loop i v).trips = 0 := by
  have hi := row_lt i
  show Scf.trips (k0_t2_loop i v).lb (k0_t2_loop i v).ub 1#32 = _
  rw [t2_lb, t2_ub]
  unfold Scf.trips
  rw [show (1#32 : BitVec 32).toInt = 1 from by decide]
  omega

/-- At each trip of the first loop its variable is the word plus the trip's number, and below 31. -/
theorem t1_iv (i : grid0.Coords) (v : BitVec 32) (hv : v.toNat ≤ 128) (k : Fin (k0_t1_loop i v).trips) :
    (Scf.iv v 1#32 k.val).toNat = v.toNat + k.val ∧ v.toNat + k.val + 1 < (i 1).val := by
  have hk : k.val < (i 1).val - 1 - v.toNat := lt_of_lt_of_eq k.isLt (t1_trips i v hv)
  have hi := row_lt i
  refine ⟨?_, by omega⟩
  unfold Scf.iv
  rw [BitVec.mul_one, BitVec.toNat_add, BitVec.toNat_ofNat]
  omega

/-- The row offset of the key tile of a trip. -/
theorem mult1_toNat (i : grid0.Coords) (v : BitVec 32) (hv : v.toNat ≤ 128) (k : Fin (k0_t1_loop i v).trips) :
    (k0_mult1 i v k).toNat = (v.toNat + k.val) * 256 := by
  obtain ⟨h1, h2⟩ := t1_iv i v hv k
  have hi := row_lt i
  simp only [k0_mult1, Scalar.muli, IntOp.muli]
  rw [BitVec.toNat_mul, h1, show (256#32 : BitVec 32).toNat = 256 from rfl]
  omega

/-- The offsets at which a trip reads its key tile. -/
theorem off1_eq (i : grid0.Coords) (v : BitVec 32) (hv : v.toNat ≤ 128) (k : Fin (k0_t1_loop i v).trips) :
    k0_off1 i v k = ![(v.toNat + k.val) * 256, 0] := by
  have h := mult1_toNat i v hv k
  simp only [k0_mult1] at h
  simp only [k0_off1, Scalar.indexCast]
  exact congrArg (fun x : ℕ => (![x, 0] : Fin 2 → ℕ)) h

/-- The slot a trip adds its contribution to. -/
theorem off2_eq (i : grid0.Coords) (v : BitVec 32) (hv : v.toNat ≤ 128) (k : Fin (k0_t1_loop i v).trips) :
    k0_off2 i v k = ![v.toNat + k.val, 0, 0] := by
  simp only [k0_off2, Scalar.indexCast]
  exact congrArg (fun x : ℕ => (![x, 0, 0] : Fin 3 → ℕ)) (t1_iv i v hv k).1

/-- The side condition of the loops, for every word of value at most 128. -/
theorem chk_of_le (i : grid0.Coords) (v : BitVec 32) (hv : v.toNat ≤ 128) : k0_chk1 i v := by
  have hi := row_lt i
  have h2 : (k0_t2_loop i v).trips = 0 := t2_trips i v
  have no : ∀ k : Fin (k0_t2_loop i v).trips, False := fun k => by have := k.isLt; omega
  refine ⟨?_, fun k => ?_, fun k => ?_, fun k => ?_, ?_, fun k => (no k).elim, fun k => (no k).elim, fun k => (no k).elim⟩
  · refine ⟨(by decide : (0 : ℤ) < (1#32 : BitVec 32).toInt), ?_⟩
    have ht := t1_trips i v hv
    show v.toInt + ((k0_t1_loop i v).trips : ℤ) * (1#32 : BitVec 32).toInt < _
    rw [ht, toInt_small v hv, show (1#32 : BitVec 32).toInt = 1 from by decide]
    norm_num
    omega
  · rw [mult1_toNat i v hv k]; exact Dvd.intro_left _ rfl
  · obtain ⟨_, h⟩ := t1_iv i v hv k
    rw [off1_eq i v hv k]
    intro a
    match a with
    | ⟨0, _⟩ => show (v.toNat + k.val) * 256 + 256 ≤ 8192; omega
    | ⟨1, _⟩ => show 0 + 128 ≤ 128; omega
  · obtain ⟨_, h⟩ := t1_iv i v hv k
    rw [off2_eq i v hv k]
    intro a
    match a with
    | ⟨0, _⟩ => show v.toNat + k.val + 1 ≤ 32; omega
    | ⟨1, _⟩ => show 0 + 128 ≤ 128; omega
    | ⟨2, _⟩ => show 0 + 256 ≤ 256; omega
  · refine ⟨(by decide : (0 : ℤ) < (1#32 : BitVec 32).toInt), ?_⟩
    show (k0_t2_loop i v).lb.toInt + ((k0_t2_loop i v).trips : ℤ) * (1#32 : BitVec 32).toInt < _
    rw [h2, t2_lb, toInt_pred _ hi]
    norm_num
    omega

/-- Each lane of the mask whose lanes are counted is 0 or 1. -/
theorem pay68_le (a : BitVec 32) (v7 : IVec S256x128 32) (v63 v65 : Vec F S1x256x128 .f32) (j : S1x1x128.Idx) :
    (k0_pay68 a v7 v63 v65 j).toNat ≤ 1 := by
  unfold k0_pay68
  dsimp only
  unfold shapeCast
  unfold extui
  show (BitVec.zeroExtend 32 _).toNat ≤ 1
  rw [BitVec.toNat_setWidth]
  refine le_trans (Nat.mod_le _ _) ?_
  exact Nat.lt_succ_iff.1 (BitVec.isLt _)

/-- The counted word is at most 128. -/
theorem first_le (a : BitVec 32) (v7 : IVec S256x128 32) (v63 v65 : Vec F S1x256x128 .f32) :
    (extractAt ![0, 0, 0] (k0_pay69 (k0_pay68 a v7 v63 v65)) inpos_S1x1x1_p0_0_0).toNat ≤ 128 := by
  have hs : ∀ j : S1.Idx, ∑ i ∈ Finset.univ.filter (fun i => reduces_S1x1x128_S1.drop i = j), (k0_pay68 a v7 v63 v65 i).toNat ≤ 128 := fun j => by
    refine le_trans (Finset.sum_le_card_nsmul _ _ 1 fun i _ => pay68_le a v7 v63 v65 i) ?_
    rw [smul_eq_mul, mul_one]
    refine le_trans (Finset.card_le_univ _) ?_
    simp [Shape.Idx, Fintype.card_pi, Fin.prod_univ_three]
  unfold k0_pay69 extractAt shapeCast
  dsimp only
  exact le_trans (le_of_eq (WordSum.toNat_multiReductionI_add (k0_pay68 a v7 v63 v65) reduces_S1x1x128_S1 rfl _
    (lt_of_le_of_lt (hs _) (by norm_num)))) (hs _)

/-- The side condition holds of the word the kernel computes. -/
theorem chk_first (i : grid0.Coords) (a : BitVec 32) (v7 : IVec S256x128 32) (v63 v65 : Vec F S1x256x128 .f32) :
    k0_chk1 i (extractAt ![0, 0, 0] (k0_pay69 (k0_pay68 a v7 v63 v65)) inpos_S1x1x1_p0_0_0) :=
  chk_of_le i _ (first_le a v7 v63 v65)

end Cert.KernelIdeal.Attn

end
-- ==== Proof.Conds.lean ====
/-
  The two branch conditions of the attention gradient's body, decided at each point of its grid.
-/
module

public import proofs.«01_k».proof.Proof.Words
public import Idealize.ShloMosaic.Lib.Pipeline.Value
public import Idealize.ShloMosaic.Lib.Ring
public import Idealize.ShloMosaic.Lib.Tactic
public import Idealize.ShloMosaic.Lib.WordCmp
public import Idealize.ShloMosaic.Lib.LoopRemainder

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Whether the body is at the first query tile of a head. -/
abbrev cond0_0 (i : grid0.Coords) : Prop := (Scalar.cmpi .ne (Scalar.extui (Scalar.cmpi .eq (BitVec.ofNat 32 (i 1).val) 0#32)) 0#32) = 1#1
/-- That is at the points divisible by 32. -/
theorem hcond0_0 : ∀ t : Fin cfg0.N, cond0_0 (grid0.coords t) ↔ t.val % 32 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-- Whether the body is at the last query tile of a head. -/
abbrev cond0_1 (i : grid0.Coords) : Prop := k0_cond2 i = 1#1
/-- That is at the points that leave 31 modulo 32. -/
theorem hcond0_1 : ∀ t : Fin cfg0.N, cond0_1 (grid0.coords t) ↔ t.val % 32 = 31 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 32 = 31)

/-- The two gradients' sums at the start of a head. -/
def zeros : Vec F S32x128x256 .f32 := k0_pay59 (F := F)

/-- A whole buffer stored over once is the buffer of that value. -/
theorem stored {m : Memref sig .tc .vmem S32x128x256 .f32} (h : m.IsWhole) (f : m.view.ty.Contents (Elt F)) (v : Vec F S32x128x256 .f32) :
    m.view.writes (Elt F) f [⟨Rect.unit (s := S32x128x256) ![0, 0, 0] S32x128x256.size inb_S32x128x256_S32x128x256_0_0_0, v⟩] = h.unread v :=
  h.eq_unread (by
    have h0 : (![0, 0, 0] : Fin 3 → ℕ) = fun _ => 0 := by funext a; fin_cases a <;> rfl
    rw [View.read_writes_eq_canon _ _ _ (View.cover_of_tiledL _ S32x128x256.size (by sl_kernel_rfl)), Idealize.ShloMosaic.View.canon_unit_zero h0])

set_option warn.classDefReducibility false in
/-- The key loop by its generated invariant, at values of the two parameters its region does not read. -/
@[sl_loop] def loop1 (𝒱 : Variants) (c : Dev nD) (bd : Option 𝒱.V) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (v4 : FVec F S256x256 .bf16) (v6 : FVec F S256x256 .bf16) (v7 : IVec S256x128 32) (v23 : FVec F S256x128 .bf16) (v36 : FVec F S256x128 .bf16) (v49 : FVec F S256x128 .bf16) (v62 : FVec F S256x128 .bf16) (v80 : BitVec 32) (k0_hw1 : k0_chk1 i v80) (X_arg3 : BufTy.Contents (Elt F) arg3.view.ty) (X_arg4 : BufTy.Contents (Elt F) arg4.view.ty) (X_arg6 : BufTy.Contents (Elt F) arg6.view.ty) (G_arg12 : BufTy.Contents (Elt F) arg12.view.ty) (G_arg13 : BufTy.Contents (Elt F) arg13.view.ty) (init : FVec F S256x128 .f32 × FVec F S256x1 .f32 × FVec F S256x1 .f32) :
    LoopInv (M := MT nD τ sig Unit (Elt F) ℕ (UR sig nD τ) ℕ) Idealize.ShloMosaic.frame (wpE (defs₀ (F := F)) 𝒱 (c : Thread nD τ) bd) E
      (k0_t1_loop i v80).lb (k0_t1_loop i v80).ub (k0_t1_loop i v80).st (k0_t1_ok i v80 k0_hw1) init (k0_t1_body (F := F) i arg2 harg2 arg3 harg3 arg4 harg4 arg5 harg5 arg6 harg6 arg7 harg7 arg8 harg8 arg9 harg9 arg10 harg10 arg11 harg11 arg12 harg12 arg13 harg13 0#32 v4 v6 v7 v23 v36 v49 v62 (fun _ => 0#32) v80 k0_hw1) :=
  loopInv_k0_t1 (F := F) 𝒱 c bd E i arg2 harg2 arg3 harg3 arg4 harg4 arg5 harg5 arg6 harg6 arg7 harg7 arg8 harg8 arg9 harg9 arg10 harg10 arg11 harg11 arg12 harg12 arg13 harg13 0#32 v4 v6 v7 v23 v36 v49 v62 (fun _ => 0#32) v80 k0_hw1 X_arg3 X_arg4 X_arg6 G_arg12 G_arg13 init

theorem pred_toNat : ∀ n : Fin 32, (Scalar.maxsi (Scalar.subi (BitVec.ofNat 32 n.val) 1#32) 0#32 : BitVec 32).toNat = n.val - 1 := by
  decide +kernel

theorem pred_mul_toNat : ∀ n : Fin 32, (Scalar.muli (Scalar.maxsi (Scalar.subi (BitVec.ofNat 32 n.val) 1#32) 0#32 : BitVec 32) 256#32).toNat = (n.val - 1) * 256 := by
  decide +kernel

theorem self_toNat : ∀ n : Fin 32, (BitVec.ofNat 32 n.val : BitVec 32).toNat = n.val := by
  decide +kernel

theorem self_mul_toNat : ∀ n : Fin 32, (Scalar.muli (BitVec.ofNat 32 n.val : BitVec 32) 256#32).toNat = n.val * 256 := by
  decide +kernel

/-- The key tile before the query tile, in rows. -/
theorem off5_eq (i : grid0.Coords) : k0_off5 i = ![((i 1).val - 1) * 256, 0] := by
  have h := pred_mul_toNat ⟨(i 1).val, (i 1).isLt⟩
  unfold k0_off5
  simpa [Scalar.indexCast] using h

/-- The query tile's own keys, in rows. -/
theorem off6_eq (i : grid0.Coords) : k0_off6 i = ![(i 1).val * 256, 0] := by
  have h := self_mul_toNat ⟨(i 1).val, (i 1).isLt⟩
  unfold k0_off6
  simpa [Scalar.indexCast] using h

/-- The slot of the key tile before the query tile. -/
theorem off7_eq (i : grid0.Coords) : k0_off7 i = ![(i 1).val - 1, 0, 0] := by
  have h := pred_toNat ⟨(i 1).val, (i 1).isLt⟩
  unfold k0_off7
  simpa [Scalar.indexCast] using h

/-- The slot of the query tile's own keys. -/
theorem off8_eq (i : grid0.Coords) : k0_off8 i = ![(i 1).val, 0, 0] := by
  have h := self_toNat ⟨(i 1).val, (i 1).isLt⟩
  unfold k0_off8
  simpa [Scalar.indexCast] using h

instance (i : grid0.Coords) : ClosedOff (k0_off5 i) := ⟨![((i 1).val - 1) * 256, 0], off5_eq i⟩
instance (i : grid0.Coords) : ClosedOff (k0_off6 i) := ⟨![(i 1).val * 256, 0], off6_eq i⟩
instance (i : grid0.Coords) : ClosedOff (k0_off7 i) := ⟨![(i 1).val - 1, 0, 0], off7_eq i⟩
instance (i : grid0.Coords) : ClosedOff (k0_off8 i) := ⟨![(i 1).val, 0, 0], off8_eq i⟩

theorem cond0_0_word : ∀ n : Fin 32, (Scalar.cmpi .ne (Scalar.extui (Scalar.cmpi .eq (BitVec.ofNat 32 n.val) 0#32) : BitVec 32) 0#32) = 1#1 ↔ n.val = 0 := by
  decide +kernel

/-- The first query tile is tile 0. -/
theorem cond0_0_iff (i : grid0.Coords) : cond0_0 i ↔ (i 1).val = 0 :=
  cond0_0_word ⟨(i 1).val, (i 1).isLt⟩

/-- A value, kept closed while the body is run. -/
@[irreducible] def pin (x : Vec F S32x128x256 .f32) : Vec F S32x128x256 .f32 := x

theorem pin_eq (x : Vec F S32x128x256 .f32) : pin x = x := by
  unfold pin; rfl

/-- The contents of a whole buffer are those of the value they read. -/
theorem raw {m : Memref sig .tc .vmem S32x128x256 .f32} (h : m.IsWhole) (f : m.view.ty.Contents (Elt F)) :
    f = h.unread (pin (m.view.read (Elt F) f)) :=
  h.eq_unread (pin_eq _).symm

end Cert.KernelIdeal.Attn

end
-- ==== Proof.RunA.lean ====
/-
  The run of the body at the first point of a head.
-/
module

public import proofs.«01_k».proof.Proof.Conds

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- What the body leaves at the first point of a head (query tile 0): the two sums are zeroed first: the pieces it stores into the query gradient's buffer
    and the values of the two running sums, with the proof that it runs from whole buffers holding the inputs to those. -/
noncomputable def runA (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (hc0 : cond0_0 i) (hc1 : ¬cond0_1 i)
    (x2 : Vec F S256x128 .bf16) (x3 : Vec F S8192x128 .bf16) (x4 : Vec F S8192x128 .bf16) (x5 : Vec F S256x128 .bf16) (x6 : Vec F S2x256x128 .f32) (x7 : Vec F S256x256 .bf16) (x8 : Vec F S256x256 .bf16)  :
    Σ' (L9 : List (View.Piece (Elt F) S256x128 .bf16)), Σ' (Y12 : Vec F S32x128x256 .f32), { Y13 : Vec F S32x128x256 .f32 //
      ∀ (R : sProp 𝕄) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ R ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, (arg9.view.loc (c : Thread nD τ) ↦[arg9.view.set]{fullShare} arg9.view.writes (Elt F) f L9)) ∗ R ∗ owns (c : Thread nD τ) arg12 fullShare Y12 ∗ owns (c : Thread nD τ) arg13 fullShare Y13) -∗ K ⟨⟩))
          ⊢ wp frame (wpE (defs₀ (F := F)) Variants.none c none) E (cc0_attn_bwd0 i arg2 harg2 arg3 harg3 arg4 harg4 arg5 harg5 arg6 harg6 arg7 harg7 arg8 harg8 arg9 harg9 arg10 harg10 arg11 harg11 arg12 harg12 arg13 harg13) K } := by
  refine ⟨?_, ?_, ?_, fun R E K => ?run⟩
  case run =>
    simp only [cc0_attn_bwd0_eq_skeleton]; unfold cc0_attn_bwd0_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HR, ⟨%d12, %f12, -, H12⟩, ⟨%d13, %f13, -, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    (set_option sl_exec.stopBefore "k0_part9" in sl_exec (disch := first | sl_exact hc0 | sl_exact hc1 | exact chk_first _ _ _ _ _))
    rw [stored harg12 f12 runA.sl.v378, stored harg13 f13 runA.sl.v378, show runA.sl.v378 (F := F) = zeros from rfl]
    (set_option sl_exec.stopBefore "k0_part14" in sl_exec (disch := first | sl_exact hc0 | sl_exact hc1 | exact chk_first _ _ _ _ _))
    rw [raw harg12 (arg12.view.writes (Elt F) (harg12.unread zeros) _), raw harg13 (arg13.view.writes (Elt F) (harg13.unread zeros) _)]
    (set_option sl_exec.stopBefore "k0_part15" in sl_exec (disch := first | sl_exact hc0 | sl_exact hc1 | exact chk_first _ _ _ _ _))
    rw [raw harg12 (arg12.view.writes (Elt F) (harg12.unread _) _)]
    (set_option sl_exec.maxSteps 5 in sl_exec (disch := first | sl_exact hc0 | sl_exact hc1 | exact chk_first _ _ _ _ _))
    rw [raw harg13 (arg13.view.writes (Elt F) (harg13.unread _) _)]
    (set_option sl_exec.stopBefore "k0_cond2" in sl_exec)
    rw [dif_neg (show ¬(k0_cond2 i = 1#1) from hc1)]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [HR]; · iexact HR
    isplitl [H12]
    · iexists _; isplitr [H12]; swap; · iexact H12
      ipureintro; rfl
    iexists _; isplitr [H13]; swap; · iexact H13
    ipureintro; rfl

end Cert.KernelIdeal.Attn

end
-- ==== Proof.RunB.lean ====
/-
  The run of the body at the points between the first and the last of a head.
-/
module

public import proofs.«01_k».proof.Proof.Conds

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- What the body leaves at a point that is neither the first nor the last of its head: the pieces it stores into the query gradient's buffer
    and the values of the two running sums, with the proof that it runs from whole buffers holding the inputs to those. -/
noncomputable def runB (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (hc0 : ¬cond0_0 i) (hc1 : ¬cond0_1 i)
    (x2 : Vec F S256x128 .bf16) (x3 : Vec F S8192x128 .bf16) (x4 : Vec F S8192x128 .bf16) (x5 : Vec F S256x128 .bf16) (x6 : Vec F S2x256x128 .f32) (x7 : Vec F S256x256 .bf16) (x8 : Vec F S256x256 .bf16) (x12 : Vec F S32x128x256 .f32) (x13 : Vec F S32x128x256 .f32) :
    Σ' (L9 : List (View.Piece (Elt F) S256x128 .bf16)), Σ' (Y12 : Vec F S32x128x256 .f32), { Y13 : Vec F S32x128x256 .f32 //
      ∀ (R : sProp 𝕄) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ R ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, (arg9.view.loc (c : Thread nD τ) ↦[arg9.view.set]{fullShare} arg9.view.writes (Elt F) f L9)) ∗ R ∗ owns (c : Thread nD τ) arg12 fullShare Y12 ∗ owns (c : Thread nD τ) arg13 fullShare Y13) -∗ K ⟨⟩))
          ⊢ wp frame (wpE (defs₀ (F := F)) Variants.none c none) E (cc0_attn_bwd0 i arg2 harg2 arg3 harg3 arg4 harg4 arg5 harg5 arg6 harg6 arg7 harg7 arg8 harg8 arg9 harg9 arg10 harg10 arg11 harg11 arg12 harg12 arg13 harg13) K } := by
  refine ⟨?_, ?_, ?_, fun R E K => ?run⟩
  case run =>
    simp only [cc0_attn_bwd0_eq_skeleton]; unfold cc0_attn_bwd0_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HR, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg12.eq_unread hf12
    obtain rfl := harg13.eq_unread hf13
    (set_option sl_exec.stopBefore "k0_part14" in sl_exec (disch := first | sl_exact hc0 | sl_exact hc1 | exact chk_first _ _ _ _ _))
    rw [raw harg12 (arg12.view.writes (Elt F) (harg12.unread x12) _), raw harg13 (arg13.view.writes (Elt F) (harg13.unread x13) _)]
    (set_option sl_exec.stopBefore "k0_part15" in sl_exec (disch := first | sl_exact hc0 | sl_exact hc1 | exact chk_first _ _ _ _ _))
    rw [raw harg12 (arg12.view.writes (Elt F) (harg12.unread _) _)]
    (set_option sl_exec.maxSteps 5 in sl_exec (disch := first | sl_exact hc0 | sl_exact hc1 | exact chk_first _ _ _ _ _))
    rw [raw harg13 (arg13.view.writes (Elt F) (harg13.unread _) _)]
    (set_option sl_exec.stopBefore "k0_cond2" in sl_exec)
    rw [dif_neg (show ¬(k0_cond2 i = 1#1) from hc1)]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [HR]; · iexact HR
    isplitl [H12]
    · iexists _; isplitr [H12]; swap; · iexact H12
      ipureintro; rfl
    iexists _; isplitr [H13]; swap; · iexact H13
    ipureintro; rfl

end Cert.KernelIdeal.Attn

end
-- ==== Proof.RunC.lean ====
/-
  The run of the body at the last point of a head.
-/
module

public import proofs.«01_k».proof.Proof.Conds

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- What the body leaves at the last point of a head (query tile 31): the sums are also written out: the pieces it stores into the query gradient's buffer, and into the key and value gradients' buffers
    and the values of the two running sums, with the proof that it runs from whole buffers holding the inputs to those. -/
noncomputable def runC (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (hc0 : ¬cond0_0 i) (hc1 : cond0_1 i)
    (x2 : Vec F S256x128 .bf16) (x3 : Vec F S8192x128 .bf16) (x4 : Vec F S8192x128 .bf16) (x5 : Vec F S256x128 .bf16) (x6 : Vec F S2x256x128 .f32) (x7 : Vec F S256x256 .bf16) (x8 : Vec F S256x256 .bf16) (x12 : Vec F S32x128x256 .f32) (x13 : Vec F S32x128x256 .f32) :
    Σ' (L9 : List (View.Piece (Elt F) S256x128 .bf16)), Σ' (L10 : List (View.Piece (Elt F) S8192x128 .bf16)), Σ' (L11 : List (View.Piece (Elt F) S8192x128 .bf16)), Σ' (Y12 : Vec F S32x128x256 .f32), { Y13 : Vec F S32x128x256 .f32 //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, (arg9.view.loc (c : Thread nD τ) ↦[arg9.view.set]{fullShare} arg9.view.writes (Elt F) f L9)) ∗ (∃ f, (arg10.view.loc (c : Thread nD τ) ↦[arg10.view.set]{fullShare} arg10.view.writes (Elt F) f L10)) ∗ (∃ f, (arg11.view.loc (c : Thread nD τ) ↦[arg11.view.set]{fullShare} arg11.view.writes (Elt F) f L11)) ∗ owns (c : Thread nD τ) arg12 fullShare Y12 ∗ owns (c : Thread nD τ) arg13 fullShare Y13) -∗ K ⟨⟩))
          ⊢ wp frame (wpE (defs₀ (F := F)) Variants.none c none) E (cc0_attn_bwd0 i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_attn_bwd0_eq_skeleton]; unfold cc0_attn_bwd0_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg12.eq_unread hf12
    obtain rfl := harg13.eq_unread hf13
    (set_option sl_exec.stopBefore "k0_part14" in sl_exec (disch := first | sl_exact hc0 | sl_exact hc1 | exact chk_first _ _ _ _ _))
    rw [raw harg12 (arg12.view.writes (Elt F) (harg12.unread x12) _), raw harg13 (arg13.view.writes (Elt F) (harg13.unread x13) _)]
    (set_option sl_exec.stopBefore "k0_part15" in sl_exec (disch := first | sl_exact hc0 | sl_exact hc1 | exact chk_first _ _ _ _ _))
    rw [raw harg12 (arg12.view.writes (Elt F) (harg12.unread _) _)]
    (set_option sl_exec.maxSteps 5 in sl_exec (disch := first | sl_exact hc0 | sl_exact hc1 | exact chk_first _ _ _ _ _))
    rw [raw harg13 (arg13.view.writes (Elt F) (harg13.unread _) _)]
    (set_option sl_exec.stopBefore "k0_cond2" in sl_exec)
    rw [dif_pos (show (k0_cond2 i = 1#1) from hc1)]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]
    · iexists _; isplitr [H12]; swap; · iexact H12
      ipureintro; rfl
    iexists _; isplitr [H13]; swap; · iexact H13
    ipureintro; rfl

end Cert.KernelIdeal.Attn

end
-- ==== Proof.Track.lean ====
/-
  What the scratches and the outputs hold after every point of the grid, the body's obligation at every point, and the
  frame of the program.
-/
module

public import proofs.«01_k».proof.Proof.RunA
public import proofs.«01_k».proof.Proof.RunB
public import proofs.«01_k».proof.Proof.RunC
public import Idealize.ShloMosaic.Lib.Pipeline.Value
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers of a point -/

/-- Window 0's staging buffer at point `t`, and that it is whole. -/
abbrev ms0_0 (t : Fin cfg0.N) := win0_0.stage (cfg0.slots t 0)
theorem hs0_0 (t : Fin cfg0.N) : (ms0_0 t).IsWhole := hstage0_0 ((cfg0.slots t 0).cast nbuf0_0)

/-- Window 1's staging buffer at point `t`, and that it is whole. -/
abbrev ms0_1 (t : Fin cfg0.N) := win0_1.stage (cfg0.slots t 1)
theorem hs0_1 (t : Fin cfg0.N) : (ms0_1 t).IsWhole := hstage0_1 ((cfg0.slots t 1).cast nbuf0_1)

/-- Window 2's staging buffer at point `t`, and that it is whole. -/
abbrev ms0_2 (t : Fin cfg0.N) := win0_2.stage (cfg0.slots t 2)
theorem hs0_2 (t : Fin cfg0.N) : (ms0_2 t).IsWhole := hstage0_2 ((cfg0.slots t 2).cast nbuf0_2)

/-- Window 3's staging buffer at point `t`, and that it is whole. -/
abbrev ms0_3 (t : Fin cfg0.N) := win0_3.stage (cfg0.slots t 3)
theorem hs0_3 (t : Fin cfg0.N) : (ms0_3 t).IsWhole := hstage0_3 ((cfg0.slots t 3).cast nbuf0_3)

/-- Window 4's staging buffer at point `t`, and that it is whole. -/
abbrev ms0_4 (t : Fin cfg0.N) := win0_4.stage (cfg0.slots t 4)
theorem hs0_4 (t : Fin cfg0.N) : (ms0_4 t).IsWhole := hstage0_4 ((cfg0.slots t 4).cast nbuf0_4)

/-- Window 5's staging buffer at point `t`, and that it is whole. -/
abbrev ms0_5 (t : Fin cfg0.N) := win0_5.stage (cfg0.slots t 5)
theorem hs0_5 (t : Fin cfg0.N) : (ms0_5 t).IsWhole := hstage0_5 ((cfg0.slots t 5).cast nbuf0_5)

/-- Window 6's staging buffer at point `t`, and that it is whole. -/
abbrev ms0_6 (t : Fin cfg0.N) := win0_6.stage (cfg0.slots t 6)
theorem hs0_6 (t : Fin cfg0.N) : (ms0_6 t).IsWhole := hstage0_6 ((cfg0.slots t 6).cast nbuf0_6)

/-- Window 7's staging buffer at point `t`, and that it is whole. -/
abbrev ms0_7 (t : Fin cfg0.N) := win0_7.stage (cfg0.slots t 7)
theorem hs0_7 (t : Fin cfg0.N) : (ms0_7 t).IsWhole := hstage0_7 ((cfg0.slots t 7).cast nbuf0_7)

/-- Window 8's staging buffer at point `t`, and that it is whole. -/
abbrev ms0_8 (t : Fin cfg0.N) := win0_8.stage (cfg0.slots t 8)
theorem hs0_8 (t : Fin cfg0.N) : (ms0_8 t).IsWhole := hstage0_8 ((cfg0.slots t 8).cast nbuf0_8)

/-- Window 9's staging buffer at point `t`, and that it is whole. -/
abbrev ms0_9 (t : Fin cfg0.N) := win0_9.stage (cfg0.slots t 9)
theorem hs0_9 (t : Fin cfg0.N) : (ms0_9 t).IsWhole := hstage0_9 ((cfg0.slots t 9).cast nbuf0_9)

/-- The two scratches: the gradients of the keys and of the values, gathered tile by tile. -/
abbrev scM0_0 : Memref sig .tc .vmem S32x128x256 .f32 := Memref.whole cc0_scratch0
abbrev scM0_1 : Memref sig .tc .vmem S32x128x256 .f32 := Memref.whole cc0_scratch1

/-- The class's invariant: both scratches at anything, and the generator at some state. -/
theorem PhiA0_eq (c : Dev nD) : Pipeline.ΦA spec0 c
    = (iprop(iprop((∃ d, owns (c : Thread nD τ) scM0_0 fullShare d) ∗ (∃ d, owns (c : Thread nD τ) scM0_1 fullShare d)) ∗ (∃ r, prngReg c r)) : sProp 𝕄) := by
  unfold Pipeline.ΦA; rw [scopedRest0_eq]; simp only [scM0_0, scM0_1, owns_whole]; try rfl

/-! ## The stores into the outputs cover them -/

/-- The stores into `arg9` at a point of case A cover it. -/
theorem coverA_9 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (hc0 : cond0_0 i) (hc1 : ¬cond0_1 i) (x2 : Vec F S256x128 .bf16) (x3 : Vec F S8192x128 .bf16) (x4 : Vec F S8192x128 .bf16) (x5 : Vec F S256x128 .bf16) (x6 : Vec F S2x256x128 .f32) (x7 : Vec F S256x256 .bf16) (x8 : Vec F S256x256 .bf16) (y : S256x128.Idx) :
    ∃ pc ∈ (runA c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8).1 S256x128.size (by sl_kernel_rfl) y

/-- The stores into `arg9` at a point of case B cover it. -/
theorem coverB_9 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (hc0 : ¬cond0_0 i) (hc1 : ¬cond0_1 i) (x2 : Vec F S256x128 .bf16) (x3 : Vec F S8192x128 .bf16) (x4 : Vec F S8192x128 .bf16) (x5 : Vec F S256x128 .bf16) (x6 : Vec F S2x256x128 .f32) (x7 : Vec F S256x256 .bf16) (x8 : Vec F S256x256 .bf16) (x12 : Vec F S32x128x256 .f32) (x13 : Vec F S32x128x256 .f32) (y : S256x128.Idx) :
    ∃ pc ∈ (runB c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x12 x13).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x12 x13).1 S256x128.size (by sl_kernel_rfl) y

/-- The stores into `arg9` at a point of case C cover it. -/
theorem coverC_9 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (hc0 : ¬cond0_0 i) (hc1 : cond0_1 i) (x2 : Vec F S256x128 .bf16) (x3 : Vec F S8192x128 .bf16) (x4 : Vec F S8192x128 .bf16) (x5 : Vec F S256x128 .bf16) (x6 : Vec F S2x256x128 .f32) (x7 : Vec F S256x256 .bf16) (x8 : Vec F S256x256 .bf16) (x12 : Vec F S32x128x256 .f32) (x13 : Vec F S32x128x256 .f32) (y : S256x128.Idx) :
    ∃ pc ∈ (runC c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x12 x13).1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x12 x13).1 S256x128.size (by sl_kernel_rfl) y

/-- The stores into `arg10` at a point of case C cover it. -/
theorem coverC_10 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (hc0 : ¬cond0_0 i) (hc1 : cond0_1 i) (x2 : Vec F S256x128 .bf16) (x3 : Vec F S8192x128 .bf16) (x4 : Vec F S8192x128 .bf16) (x5 : Vec F S256x128 .bf16) (x6 : Vec F S2x256x128 .f32) (x7 : Vec F S256x256 .bf16) (x8 : Vec F S256x256 .bf16) (x12 : Vec F S32x128x256 .f32) (x13 : Vec F S32x128x256 .f32) (y : S8192x128.Idx) :
    ∃ pc ∈ (runC c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x12 x13).2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x12 x13).2.1 S256x128.size (by sl_kernel_rfl) y

/-- The stores into `arg11` at a point of case C cover it. -/
theorem coverC_11 (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S32x128x256 .f32) (harg12 : arg12.IsWhole) (arg13 : Memref sig .tc .vmem S32x128x256 .f32) (harg13 : arg13.IsWhole) (hc0 : ¬cond0_0 i) (hc1 : cond0_1 i) (x2 : Vec F S256x128 .bf16) (x3 : Vec F S8192x128 .bf16) (x4 : Vec F S8192x128 .bf16) (x5 : Vec F S256x128 .bf16) (x6 : Vec F S2x256x128 .f32) (x7 : Vec F S256x256 .bf16) (x8 : Vec F S256x256 .bf16) (x12 : Vec F S32x128x256 .f32) (x13 : Vec F S32x128x256 .f32) (y : S8192x128.Idx) :
    ∃ pc ∈ (runC c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x12 x13).2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x12 x13).2.2.1 S256x128.size (by sl_kernel_rfl) y

/-! ## The runs at a point -/

theorem hlt (t : Fin cfg0.N) : t.val < 128 := lt_of_lt_of_eq t.isLt (show cfg0.N = 128 from N_0)

/-- The run of case A at point `t`. -/
abbrev ptA (c : Dev nD) (t : Fin cfg0.N) (h0 : t.val % 32 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => absurd ((hcond0_1 t).mp h) (by omega)) (iblk m c 0 t) (iblk m c 1 t) (iblk m c 2 t) (iblk m c 3 t) (iblk m c 4 t) (iblk m c 5 t) (iblk m c 6 t)

/-- The run of case B at point `t`. -/
abbrev ptB (c : Dev nD) (t : Fin cfg0.N) (h0 : ¬t.val % 32 = 0) (h1 : ¬t.val % 32 = 31) (s : Vec F S32x128x256 .f32 × Vec F S32x128x256 .f32) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) s.1 s.2

/-- The run of case C at point `t`. -/
abbrev ptC (c : Dev nD) (t : Fin cfg0.N) (h1 : t.val % 32 = 31) (s : Vec F S32x128x256 .f32 × Vec F S32x128x256 .f32) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => absurd ((hcond0_0 t).mp h) (by omega)) ((hcond0_1 t).mpr h1) (iblk m c 0 t) (iblk m c 1 t) (iblk m c 2 t) (iblk m c 3 t) (iblk m c 4 t) (iblk m c 5 t) (iblk m c 6 t) s.1 s.2

/-- What the body at point `t` makes of the two scratches. -/
@[irreducible] def scStep (c : Dev nD) (t : Fin cfg0.N) (s : Vec F S32x128x256 .f32 × Vec F S32x128x256 .f32) :
    Vec F S32x128x256 .f32 × Vec F S32x128x256 .f32 :=
  if h0 : t.val % 32 = 0 then ((ptA m c t h0).2.1, (ptA m c t h0).2.2.1)
  else if h1 : t.val % 32 = 31 then ((ptC m c t h1 s).2.2.2.1, (ptC m c t h1 s).2.2.2.2.1)
  else ((ptB m c t h0 h1 s).2.1, (ptB m c t h0 h1 s).2.2.1)

/-- What the two scratches hold after the body at position `n`. -/
def sc (c : Dev nD) : (n : ℕ) → n < cfg0.N → Vec F S32x128x256 .f32 × Vec F S32x128x256 .f32
  | 0, hn => scStep m c ⟨0, hn⟩ (View.canon [], View.canon [])
  | n + 1, hn => scStep m c ⟨n + 1, hn⟩ (sc c n (Nat.lt_of_succ_lt hn))

/-- What the scratches hold when the body starts at a point that is not the first. -/
abbrev scP (c : Dev nD) (t : Fin cfg0.N) : Vec F S32x128x256 .f32 × Vec F S32x128x256 .f32 :=
  sc m c (t.val - 1) (Nat.lt_of_le_of_lt (Nat.sub_le _ _) t.isLt)

theorem sc_pos (c : Dev nD) (t : Fin cfg0.N) (hz : t.val ≠ 0) : sc m c t.val t.isLt = scStep m c t (scP m c t) := by
  obtain ⟨n, hn⟩ := t
  cases n with
  | zero => exact absurd rfl hz
  | succ n => rfl

theorem sc_A (c : Dev nD) (t : Fin cfg0.N) (h0 : t.val % 32 = 0) :
    sc m c t.val t.isLt = ((ptA m c t h0).2.1, (ptA m c t h0).2.2.1) := by
  have h (s) : scStep m c t s = ((ptA m c t h0).2.1, (ptA m c t h0).2.2.1) := by unfold scStep; exact dif_pos h0
  by_cases hz : t.val = 0
  · obtain ⟨n, hn⟩ := t
    cases n with
    | zero => exact h _
    | succ n => exact absurd hz (Nat.succ_ne_zero n)
  · rw [sc_pos m c t hz, h]

theorem sc_B (c : Dev nD) (t : Fin cfg0.N) (h0 : ¬t.val % 32 = 0) (h1 : ¬t.val % 32 = 31) :
    sc m c t.val t.isLt = ((ptB m c t h0 h1 (scP m c t)).2.1, (ptB m c t h0 h1 (scP m c t)).2.2.1) := by
  rw [sc_pos m c t (fun h => h0 (by rw [h]))]; unfold scStep; exact (dif_neg h0).trans (dif_neg h1)

theorem sc_C (c : Dev nD) (t : Fin cfg0.N) (h1 : t.val % 32 = 31) :
    sc m c t.val t.isLt = ((ptC m c t h1 (scP m c t)).2.2.2.1, (ptC m c t h1 (scP m c t)).2.2.2.2.1) := by
  rw [sc_pos m c t (by omega)]; unfold scStep
  exact (dif_neg (show ¬t.val % 32 = 0 by omega)).trans (dif_pos h1)

/-- What the gradient of the queries holds after the body at point `t`. -/
def out7 (c : Dev nD) (t : Fin cfg0.N) : Vec F S256x128 .bf16 :=
  if h0 : t.val % 32 = 0 then View.canon (ptA m c t h0).1
  else if h1 : t.val % 32 = 31 then View.canon (ptC m c t h1 (scP m c t)).1
  else View.canon (ptB m c t h0 h1 (scP m c t)).1

/-- What the gradient of the keys holds after the body at point `t`, where the body writes it. -/
def out8 (c : Dev nD) (t : Fin cfg0.N) : Vec F S8192x128 .bf16 :=
  if h1 : t.val % 32 = 31 then View.canon (ptC m c t h1 (scP m c t)).2.1 else View.canon []

/-- What the gradient of the values holds after the body at point `t`, where the body writes it. -/
def out9 (c : Dev nD) (t : Fin cfg0.N) : Vec F S8192x128 .bf16 :=
  if h1 : t.val % 32 = 31 then View.canon (ptC m c t h1 (scP m c t)).2.2.1 else View.canon []

/-- The region's invariant before position `n`: the scratches at what the point before left. -/
def PhiS (c : Dev nD) : (n : ℕ) → n ≤ cfg0.N → sProp 𝕄
  | 0, _ => Pipeline.ΦA spec0 c
  | n + 1, hn => iprop(iprop(owns (c : Thread nD τ) scM0_0 fullShare (sc m c n hn).1 ∗ owns (c : Thread nD τ) scM0_1 fullShare (sc m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (sc m c n hn).1 ∗ owns (c : Thread nD τ) scM0_1 fullShare (sc m c n hn).2) ∗ (∃ r, prngReg c r)) := rfl

theorem PhiS_pos (c : Dev nD) (n : ℕ) (h : n ≤ cfg0.N) (hz : n ≠ 0) :
    PhiS m c n h = iprop(iprop(owns (c : Thread nD τ) scM0_0 fullShare (sc m c (n - 1) (by omega)).1 ∗ owns (c : Thread nD τ) scM0_1 fullShare (sc m c (n - 1) (by omega)).2) ∗ (∃ r, prngReg c r)) := by
  cases n with
  | zero => exact absurd rfl hz
  | succ n => rfl

/-! ## The pipeline's proof data -/

/-- The arrays as the region finds them; after the body each input's buffer at its block and each output's at what the
    run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (out7 m c t) := by
  unfold Dat.leavesExact; rw [show cfg0.idle 7 (grid0.coords t) = false from rfl, after0_7]
/-- Window 8 at a point that leaves it alone, and at a point that writes it. -/
theorem idle0_8 (c : Dev nD) (t : Fin cfg0.N) (h1 : ¬t.val % 32 = 31) : (dats m 0 c).leavesExact 8 t
    = iprop(∃ d, owns (c : Thread nD τ) (ms0_8 t) fullShare ((dats m 0 c).before 8 t d)) :=
  Dat.leavesExact_idle _ 8 t (by
    have h : ¬k0_cond2 (grid0.coords t) = 1#1 := fun h => h1 ((hcond0_1 t).mp h)
    change (!(k0_cond2 (grid0.coords t) == 1#1)) = true
    simp [h]) (by
    have := mt (flush0_8 t).mp h1
    simpa using this)
theorem leaves0_8 (c : Dev nD) (t : Fin cfg0.N) (h1 : t.val % 32 = 31) : (dats m 0 c).leavesExact 8 t
    = owns (c : Thread nD τ) (ms0_8 t) fullShare (out8 m c t) := by
  unfold Dat.leavesExact
  rw [show cfg0.idle 8 (grid0.coords t) = false from by
    have h : k0_cond2 (grid0.coords t) = 1#1 := (hcond0_1 t).mpr h1
    change (!(k0_cond2 (grid0.coords t) == 1#1)) = false
    simp [h], after0_8]
/-- Window 9 at a point that leaves it alone, and at a point that writes it. -/
theorem idle0_9 (c : Dev nD) (t : Fin cfg0.N) (h1 : ¬t.val % 32 = 31) : (dats m 0 c).leavesExact 9 t
    = iprop(∃ d, owns (c : Thread nD τ) (ms0_9 t) fullShare ((dats m 0 c).before 9 t d)) :=
  Dat.leavesExact_idle _ 9 t (by
    have h : ¬k0_cond2 (grid0.coords t) = 1#1 := fun h => h1 ((hcond0_1 t).mp h)
    change (!(k0_cond2 (grid0.coords t) == 1#1)) = true
    simp [h]) (by
    have := mt (flush0_9 t).mp h1
    simpa using this)
theorem leaves0_9 (c : Dev nD) (t : Fin cfg0.N) (h1 : t.val % 32 = 31) : (dats m 0 c).leavesExact 9 t
    = owns (c : Thread nD τ) (ms0_9 t) fullShare (out9 m c t) := by
  unfold Dat.leavesExact
  rw [show cfg0.idle 9 (grid0.coords t) = false from by
    have h : k0_cond2 (grid0.coords t) = 1#1 := (hcond0_1 t).mpr h1
    change (!(k0_cond2 (grid0.coords t) == 1#1)) = false
    simp [h], after0_9]

/-! ## The body's obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at a point of case A that is the grid's first. -/
theorem sound_A0 (c : Dev nD) (t : Fin cfg0.N) (hz : t.val = 0) (h0 : t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, idle0_8 m c t h1, idle0_9 m c t h1]
  rw [PhiS_castSucc m c t, PhiS_zero m c _ _ hz, PhiA0_eq]
  rw [sc_A m c t h0]
  rw [show out7 m c t = View.canon (ptA m c t h0).1 from dif_pos h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  icases H7 with ⟨%d7, H7⟩
  iapply ((ptA m c t h0).2.2.2 iprop((∃ d, owns (c : Thread nD τ) (ms0_8 t) fullShare ((dats m 0 c).before 8 t d)) ∗ (∃ d, owns (c : Thread nD τ) (ms0_9 t) fullShare ((dats m 0 c).before 9 t d))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8 H9]
  · isplitl [H8]; · iexact H8
    iexact H9
  isplitl [HS0]; · iexact HS0
  isplitl [HS1]; · iexact HS1
  iintro ⟨H0, H1, H2, H3, H4, H5, H6, ⟨%e7, H7⟩, ⟨H8, H9⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (coverA_9 c _ _ _ _ _ _ _ _ _ _ _ _ _ _ _ _ _ _ _ _ _ _ _ _ _ _ _ _ _ _ _ _ _ _)
  isplitl [H8]; · iexact H8
  iexact H9

set_option maxHeartbeats 4800000 in
/-- The body at a point of case A. -/
theorem sound_A1 (c : Dev nD) (t : Fin cfg0.N) (hz : t.val ≠ 0) (h0 : t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, idle0_8 m c t h1, idle0_9 m c t h1]
  rw [PhiS_castSucc m c t, PhiS_pos m c _ _ hz]
  rw [sc_A m c t h0]
  rw [show out7 m c t = View.canon (ptA m c t h0).1 from dif_pos h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  icases H7 with ⟨%d7, H7⟩
  iapply ((ptA m c t h0).2.2.2 iprop((∃ d, owns (c : Thread nD τ) (ms0_8 t) fullShare ((dats m 0 c).before 8 t d)) ∗ (∃ d, owns (c : Thread nD τ) (ms0_9 t) fullShare ((dats m 0 c).before 9 t d))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8 H9]
  · isplitl [H8]; · iexact H8
    iexact H9
  isplitl [HS0]; · iexists _; iexact HS0
  isplitl [HS1]; · iexists _; iexact HS1
  iintro ⟨H0, H1, H2, H3, H4, H5, H6, ⟨%e7, H7⟩, ⟨H8, H9⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (coverA_9 c _ _ _ _ _ _ _ _ _ _ _ _ _ _ _ _ _ _ _ _ _ _ _ _ _ _ _ _ _ _ _ _ _ _)
  isplitl [H8]; · iexact H8
  iexact H9

set_option maxHeartbeats 4800000 in
/-- The body at a point of case B. -/
theorem sound_B (c : Dev nD) (t : Fin cfg0.N) (hz : t.val ≠ 0) (h0 : ¬t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, idle0_8 m c t h1, idle0_9 m c t h1]
  rw [PhiS_castSucc m c t, PhiS_pos m c _ _ hz]
  rw [sc_B m c t h0 h1]
  rw [show out7 m c t = View.canon (ptB m c t h0 h1 (scP m c t)).1 from (dif_neg h0).trans (dif_neg h1)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  icases H7 with ⟨%d7, H7⟩
  iapply ((ptB m c t h0 h1 (scP m c t)).2.2.2 iprop((∃ d, owns (c : Thread nD τ) (ms0_8 t) fullShare ((dats m 0 c).before 8 t d)) ∗ (∃ d, owns (c : Thread nD τ) (ms0_9 t) fullShare ((dats m 0 c).before 9 t d))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8 H9]
  · isplitl [H8]; · iexact H8
    iexact H9
  isplitl [HS0]; · iexact HS0
  isplitl [HS1]; · iexact HS1
  iintro ⟨H0, H1, H2, H3, H4, H5, H6, ⟨%e7, H7⟩, ⟨H8, H9⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (coverB_9 c _ _ _ _ _ _ _ _ _ _ _ _ _ _ _ _ _ _ _ _ _ _ _ _ _ _ _ _ _ _ _ _ _ _ _ _)
  isplitl [H8]; · iexact H8
  iexact H9

set_option maxHeartbeats 4800000 in
/-- The body at a point of case C. -/
theorem sound_C (c : Dev nD) (t : Fin cfg0.N) (hz : t.val ≠ 0) (h1 : t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t h1, leaves0_9 m c t h1]
  rw [PhiS_castSucc m c t, PhiS_pos m c _ _ hz]
  rw [sc_C m c t h1]
  rw [show out7 m c t = View.canon (ptC m c t h1 (scP m c t)).1 from (dif_neg (show ¬t.val % 32 = 0 by omega)).trans (dif_pos h1)]
  rw [show out8 m c t = View.canon (ptC m c t h1 (scP m c t)).2.1 from dif_pos h1, show out9 m c t = View.canon (ptC m c t h1 (scP m c t)).2.2.1 from dif_pos h1]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  icases H7 with ⟨%d7, H7⟩
  icases H8 with ⟨%d8, H8⟩
  icases H9 with ⟨%d9, H9⟩
  iapply ((ptC m c t h1 (scP m c t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, ⟨%e7, H7⟩, ⟨%e8, H8⟩, ⟨%e9, H9⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (coverC_9 c _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_eq_canon _ _ _ (coverC_10 c _ _ _ _ _ _ _ _ _ _ _ _ _ _ _ _ _ _ _ _ _ _ _ _ _ _ _ _ _ _ _ _ _ _ _ _)
  unfold owns; iexists _; isplitr
  swap; · iexact H9
  ipureintro; exact View.read_writes_eq_canon _ _ _ (coverC_11 c _ _ _ _ _ _ _ _ _ _ _ _ _ _ _ _ _ _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · by_cases hz : t.val = 0
    · exact sound_A0 m c t hz h0 (by omega)
    · exact sound_A1 m c t hz h0 (by omega)
  · have hz : t.val ≠ 0 := fun h => h0 (by rw [h])
    by_cases h1 : t.val % 32 = 31
    · exact sound_C m c t hz h1
    · exact sound_B m c t hz h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every execution ends, with each output array what the points left in it and each semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they began, and every semaphore at zero. -/
theorem frame' : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Ref.lean ====
/-
  The reference's run: its results, its arguments and its counters.
-/
module

public import proofs.«01_k».proof.Proof.Gen.ReferenceIdeal.Run
public import proofs.«01_k».proof.Proof.Gen.ReferenceIdeal.Read

@[expose] public section

noncomputable section

namespace Cert.ReferenceIdeal.Attn

open Cert.ReferenceIdeal Cert.ReferenceIdeal.Gen Idealize.ShloMosaic Idealize.ShloMosaic.TcCoe Idealize.SL.Sem

variable {F : FTy → Type} [FloatOps F]

/-- The reference declares no semaphore, so there is one reading of its counters. -/
theorem counters {α : Type} (f g : GSem nD τ sig → α) : f = g := by
  funext ⟨_, s⟩
  cases s with
  | reg s => exact s.elim0
  | dma s => exact s.elim0

/-- The reference's run leaves the arguments and the counters alone. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => (h c).2.2.2, counters _ _⟩) (Value.run m ρ)

end Cert.ReferenceIdeal.Attn

end
-- ==== Proof.Up.lean ====
/-
  The gradient of the feed-forward layer's second product with respect to its activations: what the kernel's
  result array ends holding, and that the reference's derivative is the same.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel2Ideal.Up

open Cert.Kernel2Ideal Cert.Kernel2Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The tile's product read at a row and a column: the sum over the shared axis. -/
theorem tile_dot (x : FVec Ideal S256x1024 .bf16) (y : FVec Ideal S4096x1024 .bf16) (j : S256x4096.Idx) :
    matmul dot_S256x1024_S4096x1024_S256x4096_1_1_0_0_n_n none x y (constant S256x4096 .f32 0x00000000#32) j
      = ∑ k : Fin 1024, x (ix2 (j 0) k) * y (ix2 (j 1) k) := by
  show (Ideal.ofBits .f32 0x00000000#32 : EReal) + _ = _
  rw [show (Ideal.ofBits .f32 0x00000000#32 : EReal) = 0 from by simp [Ideal.ofBits, Ideal.ieee], zero_add,
    ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  congr 2
  · funext a
    apply Fin.ext
    match a with
    | ⟨0, _⟩ =>
      unfold DotDims.lhsIdx
      rw [dif_neg (show ⟨0, _⟩ ∉ dot_S256x1024_S4096x1024_S256x4096_1_1_0_0_n_n.lhsBatch from by decide +revert),
        dif_pos (show ⟨0, _⟩ ∈ dot_S256x1024_S4096x1024_S256x4096_1_1_0_0_n_n.lhsNonContracting from by decide +revert)]; rfl
    | ⟨1, _⟩ => exact (DotDims.lhsIdx_val_of_single _ rfl j _).trans hk
  · funext a
    apply Fin.ext
    match a with
    | ⟨0, _⟩ =>
      unfold DotDims.rhsIdx
      rw [dif_neg (show ⟨0, _⟩ ∉ dot_S256x1024_S4096x1024_S256x4096_1_1_0_0_n_n.rhsBatch from by decide +revert),
        dif_pos (show ⟨0, _⟩ ∈ dot_S256x1024_S4096x1024_S256x4096_1_1_0_0_n_n.rhsNonContracting from by decide +revert)]; rfl
    | ⟨1, _⟩ => exact (DotDims.rhsIdx_val_of_single _ rfl j _).trans hk

/-- What one tile of the result holds at a row and a column, from the tile's inputs. -/
theorem pay_apply (x : Vec Ideal S256x1024 .f32) (y : Vec Ideal S4096x1024 .bf16) (u : Vec Ideal S256x4096 .bf16) (j : S256x4096.Idx) :
    k0_pay1 x y u j = (∑ k : Fin 1024, x (ix2 (j 0) k) * y (ix2 (j 1) k))
      * (Ideal.ofBits .f32 0x40000000#32 * max (u j) (Ideal.ofBits .f32 0x00000000#32)) := by
  show matmul (F := Ideal) dot_S256x1024_S4096x1024_S256x4096_1_1_0_0_n_n none (truncf .bf16 x bitsLt_bf16_f32) (shapeCast S4096x1024 y shapeCasts_S4096x1024_S4096x1024) (constant S256x4096 .f32 0x00000000#32) j
    * (Ideal.ofBits .f32 0x40000000#32 * max (shapeCast S256x4096 u shapeCasts_S256x4096_S256x4096 j) (Ideal.ofBits .f32 0x00000000#32)) = _
  rw [shapeCast_self, shapeCast_self]
  exact congrArg (· * (Ideal.ofBits .f32 0x40000000#32 * max (u j) (Ideal.ofBits .f32 0x00000000#32))) (tile_dot _ _ _)

/-- The derivative at a row and a column, from its three arguments: the product with the transposed weight, times
    twice the activation's positive part. -/
def G0 (x : S8192x1024.Idx → EReal) (y : S4096x1024.Idx → EReal) (u : S8192x4096.Idx → EReal) (i : S8192x4096.Idx) : EReal :=
  (∑ k : Fin 1024, x (ix2 (i 0) k) * y (ix2 (i 1) k))
      * (Ideal.ofBits .f32 0x40000000#32 * max (u i) (Ideal.ofBits .f32 0x00000000#32))

/-- The result as a function of the arrays the region finds. -/
def G (c : Dev nD) : Buf (Elt Ideal) ((c : Thread nD τ).loc main_v2) := G0 (V m c main_arg2) (V m c main_v0) (V m c main_v1)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The tile computed from the tiles of three arrays is the tile of the derivative. -/
theorem tile_eq (t : Fin cfg0.N) (X : main_arg2.ty.Contents (Elt Ideal)) (Y : main_v0.ty.Contents (Elt Ideal)) (U : main_v1.ty.Contents (Elt Ideal)) :
    k0_pay1 (F := Ideal) (((cfg0.win 0).blk t).view.read (Elt Ideal) X) (((cfg0.win 1).blk t).view.read (Elt Ideal) Y)
        (((cfg0.win 2).blk t).view.read (Elt Ideal) U)
      = fun j : S256x4096.Idx => G0 X Y U (((cfg0.win 3).blk t).view.emb j) := by
  obtain ⟨a0, a1, b0, b1, c0, c1, d0, d1⟩ := idx_facts t
  funext j
  refine (pay_apply _ _ _ j).trans ?_
  unfold G0
  refine congrArg₂ (· * ·) (Finset.sum_congr rfl fun k _ => congrArg₂ (· * ·) (congrArg X ?_) (congrArg Y ?_))
    (congrArg (Ideal.ofBits .f32 0x40000000#32 * ·) (congrArg (fun z => max z (Ideal.ofBits .f32 0x00000000#32)) (congrArg U ?_)))
  · funext a; apply Fin.ext
    match a with
    | ⟨0, _⟩ => show win0_0.index t (0 : Fin 2) * 256 + 1 * (j 0).val = win0_3.index t (0 : Fin 2) * 256 + 1 * (j 0).val; rw [a0, d0]
    | ⟨1, _⟩ => show win0_0.index t (1 : Fin 2) * 1024 + 1 * k.val = k.val; rw [a1]; omega
  · funext a; apply Fin.ext
    match a with
    | ⟨0, _⟩ => show win0_1.index t (0 : Fin 2) * 4096 + 1 * (j 1).val = win0_3.index t (1 : Fin 2) * 4096 + 1 * (j 1).val; rw [b0, d1]
    | ⟨1, _⟩ => show win0_1.index t (1 : Fin 2) * 1024 + 1 * k.val = k.val; rw [b1]; omega
  · funext a; apply Fin.ext
    match a with
    | ⟨0, _⟩ => show win0_2.index t (0 : Fin 2) * 256 + 1 * (j 0).val = win0_3.index t (0 : Fin 2) * 256 + 1 * (j 0).val; rw [c0, d0]
    | ⟨1, _⟩ => show win0_2.index t (1 : Fin 2) * 4096 + 1 * (j 1).val = win0_3.index t (1 : Fin 2) * 4096 + 1 * (j 1).val; rw [c1, d1]

/-- What point `t` writes back is its block of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz, View.ld_unit_zero (S := S256x1024) hz, View.ld_unit_zero (S := S4096x1024) hz,
    View.ld_unit_zero (S := S256x4096) hz]
  exact tile_eq t (V m c main_arg2) (V m c main_v0) (V m c main_v1)

/-- An index of the result array is in point `t`'s block. -/
theorem mem_blk (t : Fin cfg0.N) (i : S8192x4096.Idx) :
    i ∈ ((cfg0.win 3).blk t).view.set ↔ t.val * 256 ≤ (i 0 : Nat) ∧ (i 0 : Nat) < t.val * 256 + 256 := by
  show i ∈ ((View.whole main_v2).slice (win0_3.rect t)).set ↔ _
  rw [View.set_slice_whole, Rect.mem_set_unit]
  have h1 : (i 1 : Nat) < 4096 := (i 1).isLt
  obtain ⟨-, -, -, -, -, -, d0, d1⟩ := idx_facts t
  refine ⟨fun h => ?_, fun h a => ?_⟩
  · have : win0_3.index t (0 : Fin 2) * 256 ≤ (i 0 : Nat) ∧ (i 0 : Nat) < win0_3.index t (0 : Fin 2) * 256 + 256 := h 0
    rw [d0] at this; exact this
  · match a with
    | ⟨0, _⟩ => show win0_3.index t (0 : Fin 2) * 256 ≤ (i 0 : Nat) ∧ (i 0 : Nat) < win0_3.index t (0 : Fin 2) * 256 + 256
                rw [d0]; exact h
    | ⟨1, _⟩ => show win0_3.index t (1 : Fin 2) * 4096 ≤ (i 1 : Nat) ∧ (i 1 : Nat) < win0_3.index t (1 : Fin 2) * 4096 + 4096
                rw [d1, Nat.zero_mul, Nat.zero_add]; exact ⟨Nat.zero_le _, h1⟩

/-- The blocks tile the result array. -/
theorem cover (i : S8192x4096.Idx) :
    ∃ t : Fin cfg0.N, (cfg0.win 3).flush t = true ∧ i ∈ ((cfg0.win 3).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_3 _, ?_⟩
  rw [mem_blk]
  dsimp only
  omega

/-- So the result array ends holding `G`. -/
theorem final (c : Dev nD) : (dats m 0 c).arrAt 3 cfg0.N = G m c :=
  (dats m 0 c).arrAt_eq_of_cover 3 (G m c) (fun t _ => flushed_eq m c t) cover

/-- The arrays the region finds are the arguments. -/
theorem entry (c : Dev nD) : V m c main_arg2 = m ((c : Thread nD τ).loc main_arg2)
    ∧ V m c main_v0 = m ((c : Thread nD τ).loc main_arg1) ∧ V m c main_v1 = m ((c : Thread nD τ).loc main_arg0) := by
  refine ⟨V_main_arg2 m c, ?_, ?_⟩
  · show StableHlo.after _ _ _ = _
    simp only [hostOps0, List.flatten_cons, List.flatten_nil, List.append_nil]
    after_results; rfl
  · show StableHlo.after _ _ _ = _
    simp only [hostOps0, List.flatten_cons, List.flatten_nil, List.append_nil]
    after_results; rfl

/-- So the result is the derivative of the arguments. -/
theorem G_entry (c : Dev nD) : G m c = G0 (m ((c : Thread nD τ).loc main_arg2)) (m ((c : Thread nD τ).loc main_arg1)) (m ((c : Thread nD τ).loc main_arg0)) := by
  obtain ⟨e2, e0, e1⟩ := entry m c
  unfold G
  rw [e2, e0, e1]

/-- The lines after the region widen the result array, which is the identity on the extended reals. -/
theorem tail (c : Dev nD) : Pipeline.afterTail₀ cfgs (dats m) 0 (V0 m) [hostOps1] c main_v3 = G m c := by
  unfold Pipeline.afterTail₀
  simp only [hostOps1, List.flatten_cons, List.flatten_nil, List.append_nil]
  after_results
  exact (Pipeline.withArrays_arr (cfgs 0).spec (show Function.Injective (Pipeline.arrRef spec0) by decide) c (V0 m c) (fun w => (dats m 0 c).arrAt w (cfgs 0).N) 3).trans (final m c)

/-- The run, read: the result, the arguments unchanged. -/
theorem run : θ_run defs (onTc (τ := τ) (main (F := Ideal))) ⟨m, fun _ => 0, ρ⟩ fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v3 (Pipeline.mem_restRefs_of main_v3 (by decide) (by decide))).trans (tail m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c)))⟩) (run_main m ρ)

end Cert.Kernel2Ideal.Up

namespace Cert.Up

open Cert.Reference2Ideal Cert.Reference2Ideal.Gen Cert.Reference2Ideal.Read

/-- The derivative, read at a row and a column: where the activation is positive both are the product times twice the
    activation, and where it is not both are zero. -/
theorem value (x0 : S8192x4096.Idx → EReal) (x1 : S4096x1024.Idx → EReal) (x2 : S8192x1024.Idx → EReal) (i : S8192x4096.Idx) :
    val_main_v11 (F := Ideal) x0 x1 x2 i = (∑ k : Fin 1024, x2 (ix2 (i 0) k) * x1 (ix2 (i 1) k))
      * (Ideal.ofBits .f32 0x40000000#32 * max (x0 i) (Ideal.ofBits .f32 0x00000000#32)) := by
  have z : (Ideal.ofBits .f32 0x00000000#32 : EReal) = 0 := by simp [Ideal.ofBits, Ideal.ieee]
  have h8 : val_main_v8 (F := Ideal) x1 x2 i = ∑ k : Fin 1024, x2 (ix2 (i 0) k) * x1 (ix2 (i 1) k) := by
    rw [val_main_v8_apply]
    refine Finset.sum_congr rfl fun k _ => ?_
    congr 2 <;> (funext a; match a with
      | ⟨0, _⟩ => rfl
      | ⟨1, _⟩ => rfl)
  rw [val_main_v11_apply, val_main_v9_apply, val_main_v2_apply, val_main_v1_apply, val_main_cst_apply, val_main_v10_apply, val_main_cst_2_apply,
    val_main_v6_apply, val_main_v5_apply, val_main_cst_1_apply, val_main_v0_apply, val_main_call0_v0_apply, val_main_call0_cst_apply, h8]
  simp only [Ideal.ofBits_def, Ideal.mulf_def, Ideal.maximumf_def, z]
  by_cases h : (0 : EReal) < x0 i
  · have : FloatOps.cmpf (F := Ideal) (φ := .f32) .ogt (x0 i) 0 = 1#1 := by
      simp [Ideal.cmpf_def, Ideal.cmp, h]
    rw [this]; rfl
  · have : FloatOps.cmpf (F := Ideal) (φ := .f32) .ogt (x0 i) 0 = 0#1 := by
      simp [Ideal.cmpf_def, Ideal.cmp, h]
    rw [this, max_eq_right (not_lt.mp h), mul_zero, mul_zero]; rfl

end Cert.Up

namespace Cert.Proof.UpClaims

/-- The kernel's result and the reference's derivative are equal, element by element. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Kernel2Ideal.Up.G m c, Cert.Kernel2Ideal.Up.run m ρ, ?_⟩
  refine (θ_run Cert.Reference2Ideal.defs _ _).mono (fun _ h c => ⟨(h c).1.trans ?_, (h c).2⟩)
    (Cert.Reference2Ideal.Value.run (F := Ideal) m' ρ')
  rw [Cert.Reference2Ideal.Read.val_main_v11_eq, (hagree c).1, (hagree c).2.1, (hagree c).2.2]
  funext i
  exact (Cert.Up.value _ _ _ i).trans (congrFun (Cert.Kernel2Ideal.Up.G_entry m c) i).symm

/-- The reference's run leaves the arguments and the counters alone. -/
theorem reference : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run m ρ)

end Cert.Proof.UpClaims

end
-- ==== Proof.Down.lean ====
/-
  The gradient of the feed-forward layer's second weight: what the kernel's result array ends holding, and that the
  reference's derivative is the same.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel3Ideal.Down

open Cert.Kernel3Ideal Cert.Kernel3Ideal.Gen

variable (m : (ℓ : Loc nD τ sig) → Buf (Elt Ideal) ℓ) (ρ : Dev nD → PrngReg)

theorem hz : (![0, 0] : Fin 2 → Nat) = fun _ => 0 := funext fun a => by fin_cases a <;> rfl

theorem zero_bits : (Ideal.ofBits .f32 0x00000000#32 : EReal) = 0 := by simp [Ideal.ofBits, Ideal.ieee]

/-- A tile's product read at a row and a column: the sum over the tile's rows. -/
theorem tile_dot (x : FVec Ideal S512x2048 .bf16) (y : FVec Ideal S512x1024 .bf16) (j : S2048x1024.Idx) :
    matmul dot_S512x2048_S512x1024_S2048x1024_0_0_1_1_n_n none x y (constant S2048x1024 .f32 0x00000000#32) j
      = ∑ k : Fin 512, x (ix2 k (j 0)) * y (ix2 k (j 1)) := by
  show (Ideal.ofBits .f32 0x00000000#32 : EReal) + _ = _
  rw [zero_bits, zero_add,
    ← Equiv.sum_comp (contrEquiv1 dot_S512x2048_S512x1024_S2048x1024_0_0_1_1_n_n 512 rfl rfl).symm]
  refine Finset.sum_congr rfl fun k _ => ?_
  have hk := contrEquiv1_symm_val dot_S512x2048_S512x1024_S2048x1024_0_0_1_1_n_n 512 rfl rfl k
  congr 2
  · funext a
    apply Fin.ext
    match a with
    | ⟨0, _⟩ => exact (DotDims.lhsIdx_val_of_single _ rfl j _).trans hk
    | ⟨1, _⟩ =>
      unfold DotDims.lhsIdx
      rw [dif_neg (show ⟨1, _⟩ ∉ dot_S512x2048_S512x1024_S2048x1024_0_0_1_1_n_n.lhsBatch from by decide +revert),
        dif_pos (show ⟨1, _⟩ ∈ dot_S512x2048_S512x1024_S2048x1024_0_0_1_1_n_n.lhsNonContracting from by decide +revert)]; rfl
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S512x2048_S512x1024_S2048x1024_0_0_1_1_n_n.rhsBatch from by decide +revert),
        dif_pos (show ⟨1, _⟩ ∈ dot_S512x2048_S512x1024_S2048x1024_0_0_1_1_n_n.rhsNonContracting from by decide +revert)]; rfl

/-- The square of the positive part. -/
def sq (x : EReal) : EReal := max x 0 * max x 0

/-- What one step leaves in the running sum: what it held plus the product of the two tiles. -/
theorem pay_apply (y : Vec Ideal S512x1024 .f32) (x : Vec Ideal S512x2048 .bf16) (s : Vec Ideal S2048x1024 .f32) (j : S2048x1024.Idx) :
    k0_pay2 y x s j = s j + ∑ k : Fin 512, sq (x (ix2 k (j 0))) * y (ix2 k (j 1)) := by
  show shapeCast S2048x1024 (addf s (matmul (F := Ideal) dot_S512x2048_S512x1024_S2048x1024_0_0_1_1_n_n none
    (truncf .bf16 (mulf (maximumf (extf .f32 (shapeCast S512x2048 x shapeCasts_S512x2048_S512x2048) bitsLt_bf16_f32) (broadcast S512x2048 (Scalar.ofBits .f32 0x00000000#32)))
      (maximumf (extf .f32 (shapeCast S512x2048 x shapeCasts_S512x2048_S512x2048) bitsLt_bf16_f32) (broadcast S512x2048 (Scalar.ofBits .f32 0x00000000#32)))) bitsLt_bf16_f32)
    (truncf .bf16 y bitsLt_bf16_f32) (constant S2048x1024 .f32 0x00000000#32))) shapeCasts_S2048x1024_S2048x1024 j = _
  rw [shapeCast_self, shapeCast_self]
  refine (congrArg (s j + ·) (tile_dot _ _ j)).trans ?_
  refine congrArg (s j + ·) (Finset.sum_congr rfl fun k _ => ?_)
  show max _ (Ideal.ofBits .f32 0x00000000#32) * max _ (Ideal.ofBits .f32 0x00000000#32) * _ = _
  rw [zero_bits]; rfl

/-- The running sum starts at zero. -/
theorem start_apply (j : S2048x1024.Idx) : k0_pay1 (F := Ideal) j = 0 := by
  show shapeCast S2048x1024 (broadcast S2048x1024 (Scalar.ofBits (F := Ideal) .f32 0x00000000#32)) shapeCasts_S2048x1024_S2048x1024 j = _
  rw [shapeCast_self]
  exact zero_bits

theorem sout_A (c : Dev nD) (t : Fin cfg0.N) (h0 : t.val % 16 = 0) (h1 : ¬t.val % 16 = 15) :
    (outsAt0 m c t.val t.isLt).2 = k0_pay2 (F := Ideal) (iblk m c 1 t) (iblk m c 0 t) (k0_pay1 (F := Ideal)) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S2048x1024) hz, View.readCov_unit_zero (S := S2048x1024) _ hz]
  simp only [View.readAt_eq_ld, (hs0_0 t).read_unread, (hs0_1 t).read_unread, View.ld_unit_zero (S := S512x2048) hz, View.ld_unit_zero (S := S512x1024) hz]

theorem sout_B (c : Dev nD) (t : Fin cfg0.N) (h0 : ¬t.val % 16 = 0) (h1 : ¬t.val % 16 = 15) :
    (outsAt0 m c t.val t.isLt).2 = k0_pay2 (F := Ideal) (iblk m c 1 t) (iblk m c 0 t) (outsAt0 m c (t.val - 1) (by omega)).2 := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero (S := S2048x1024) hz]
  simp only [View.readAt_eq_ld, (hs0_0 t).read_unread, (hs0_1 t).read_unread, (Memref.isWhole_whole cc0_scratch0).read_unread, View.ld_unit_zero (S := S2048x1024) hz, View.ld_unit_zero (S := S512x2048) hz, View.ld_unit_zero (S := S512x1024) hz]

theorem sout_C (c : Dev nD) (t : Fin cfg0.N) (h0 : ¬t.val % 16 = 0) (h1 : t.val % 16 = 15) :
    (outsAt0 m c t.val t.isLt).2 = k0_pay2 (F := Ideal) (iblk m c 1 t) (iblk m c 0 t) (outsAt0 m c (t.val - 1) (by omega)).2 := by
  rw [outsAt0_C m c t h0 h1]
  dsimp only
  unfold sout0_C_0
  rw [View.read_writes_eq_canon _ _ _ (scover0_C_0 c _ _ _ _ _ _ _ _ _ _ _ _ _ _)]
  unfold kernelRun0_C
  dsimp only
  sl_unfold_words
  rw [View.canon_unit_zero (S := S2048x1024) hz]
  simp only [View.readAt_eq_ld, (hs0_0 t).read_unread, (hs0_1 t).read_unread, (Memref.isWhole_whole cc0_scratch0).read_unread, View.ld_unit_zero (S := S2048x1024) hz, View.ld_unit_zero (S := S512x2048) hz, View.ld_unit_zero (S := S512x1024) hz]

/-- At the last step of a tile the output's block is the running sum. -/
theorem out_C (c : Dev nD) (t : Fin cfg0.N) (h0 : ¬t.val % 16 = 0) (h1 : t.val % 16 = 15) :
    (outsAt0 m c t.val t.isLt).1 = (outsAt0 m c t.val t.isLt).2 := by
  rw [sout_C m c t h0 h1, outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero (S := S2048x1024) hz, View.readCov_unit_zero (S := S2048x1024) _ hz]
  simp only [View.readAt_eq_ld, (hs0_0 t).read_unread, (hs0_1 t).read_unread, (Memref.isWhole_whole cc0_scratch0).read_unread, View.ld_unit_zero (S := S2048x1024) hz, View.ld_unit_zero (S := S512x2048) hz, View.ld_unit_zero (S := S512x1024) hz]
  rfl

/-- A product's summand at a row of the two arrays, zero past the last row. -/
def term (u : S8192x4096.Idx → EReal) (y : S8192x1024.Idx → EReal) (p : Fin 4096) (q : Fin 1024) (k : ℕ) : EReal :=
  if h : k < 8192 then sq (u (ix2 ⟨k, h⟩ p)) * y (ix2 ⟨k, h⟩ q) else 0

theorem idx_facts : ∀ t : Fin cfg0.N, win0_0.index t (0 : Fin 2) = t.val % 16 ∧ win0_0.index t (1 : Fin 2) = t.val / 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The column of the first array that column `p` of a tile is. -/
def col (n : ℕ) (hn : n < cfg0.N) (p : Fin 2048) : Fin 4096 :=
  ⟨n / 16 * 2048 + p.val, by have : cfg0.N = 32 := N_0; have := p.isLt; omega⟩

/-- The product of a point's two tiles is the arrays' summands over the tile's rows. -/
theorem tile_sum (t : Fin cfg0.N) (U : main_v0.ty.Contents (Elt Ideal)) (Y : main_arg1.ty.Contents (Elt Ideal)) (j : S2048x1024.Idx) :
    (∑ k : Fin 512, sq ((((cfg0.win 0).blk t).view.read (Elt Ideal) U : S512x2048.Idx → EReal) (ix2 k (j 0)))
        * (((cfg0.win 1).blk t).view.read (Elt Ideal) Y : S512x1024.Idx → EReal) (ix2 k (j 1)))
      = ∑ k ∈ Finset.range 512, term U Y (col t.val t.isLt (j 0)) (j 1) (t.val % 16 * 512 + k) := by
  obtain ⟨a0, a1, b0, b1, -, -⟩ := idx_facts t
  rw [Finset.sum_range]
  refine Finset.sum_congr rfl fun k _ => ?_
  have hk : t.val % 16 * 512 + k.val < 8192 := by have := k.isLt; omega
  unfold term
  rw [dif_pos hk]
  refine congrArg₂ (· * ·) (congrArg sq (congrArg U ?_)) (congrArg Y ?_)
  · funext a; apply Fin.ext
    match a with
    | ⟨0, _⟩ => show win0_0.index t (0 : Fin 2) * 512 + 1 * k.val = t.val % 16 * 512 + k.val; rw [a0]; omega
    | ⟨1, _⟩ => show win0_0.index t (1 : Fin 2) * 2048 + 1 * (j 0).val = t.val / 16 * 2048 + (j 0).val; rw [a1, Nat.one_mul]
  · funext a; apply Fin.ext
    match a with
    | ⟨0, _⟩ => show win0_1.index t (0 : Fin 2) * 512 + 1 * k.val = t.val % 16 * 512 + k.val; rw [b0]; omega
    | ⟨1, _⟩ => show win0_1.index t (1 : Fin 2) * 1024 + 1 * (j 1).val = (j 1).val; rw [b1, Nat.zero_mul, Nat.zero_add, Nat.one_mul]

/-- After a point the running sum holds the summands of every row up to the end of the point's rows. -/
theorem chain (c : Dev nD) : ∀ (n : ℕ) (hn : n < cfg0.N) (j : S2048x1024.Idx),
    ((outsAt0 m c n hn).2 : S2048x1024.Idx → EReal) j
      = ∑ k ∈ Finset.range (n % 16 * 512 + 512), term (V m c main_v0) (V m c main_arg1) (col n hn (j 0)) (j 1) k := by
  intro n
  induction n with
  | zero =>
    intro hn j
    rw [sout_A m c ⟨0, hn⟩ (by rfl) (show ¬0 % 16 = 15 by decide)]
    refine (pay_apply _ _ _ j).trans ?_
    rw [start_apply, zero_add]
    refine (tile_sum ⟨0, hn⟩ (V m c main_v0) (V m c main_arg1) j).trans ?_
    refine Finset.sum_congr (by norm_num) fun k _ => ?_
    show term _ _ _ _ (0 % 16 * 512 + k) = _
    rw [Nat.zero_mod, Nat.zero_mul, Nat.zero_add]
  | succ n ih =>
    intro hn j
    have hN : cfg0.N = 32 := N_0
    by_cases h0 : (n + 1) % 16 = 0
    · rw [sout_A m c ⟨n + 1, hn⟩ h0 (by dsimp only; omega)]
      refine (pay_apply _ _ _ j).trans ?_
      rw [start_apply, zero_add]
      refine (tile_sum ⟨n + 1, hn⟩ (V m c main_v0) (V m c main_arg1) j).trans ?_
      show ∑ k ∈ Finset.range 512, term _ _ _ _ ((n + 1) % 16 * 512 + k) = _
      rw [h0, Nat.zero_mul, Nat.zero_add]
      exact Finset.sum_congr rfl fun k _ => by rw [Nat.zero_add]
    · have hs : ((outsAt0 m c (n + 1) hn).2 : S2048x1024.Idx → EReal) = k0_pay2 (F := Ideal) (iblk m c 1 ⟨n + 1, hn⟩) (iblk m c 0 ⟨n + 1, hn⟩) (outsAt0 m c n (by omega)).2 := by
        by_cases h1 : (n + 1) % 16 = 15
        · exact sout_C m c ⟨n + 1, hn⟩ h0 h1
        · exact sout_B m c ⟨n + 1, hn⟩ h0 h1
      rw [hs]
      refine (pay_apply _ _ _ j).trans ?_
      refine (congrArg₂ (· + ·) (ih (by omega) j) (tile_sum ⟨n + 1, hn⟩ (V m c main_v0) (V m c main_arg1) j)).trans ?_
      have e1 : (n + 1) % 16 * 512 = n % 16 * 512 + 512 := by omega
      have e2 : col n (by omega) (j 0) = col (n + 1) hn (j 0) := Fin.ext (by
        show n / 16 * 2048 + (j 0).val = (n + 1) / 16 * 2048 + (j 0).val
        rw [show (n + 1) / 16 = n / 16 from by omega])
      show _ + ∑ k ∈ Finset.range 512, term _ _ (col (n + 1) hn (j 0)) (j 1) ((n + 1) % 16 * 512 + k) = _
      rw [e1, e2]
      exact (Finset.sum_range_add (fun k => term (V m c main_v0) (V m c main_arg1) (col (n + 1) hn (j 0)) (j 1) k) (n % 16 * 512 + 512) 512).symm

/-- The derivative at a row and a column, from its two arguments: the sum over every row of the squared positive part
    times the cotangent. -/
def G0 (u : S8192x4096.Idx → EReal) (y : S8192x1024.Idx → EReal) (i : S4096x1024.Idx) : EReal :=
  ∑ k : Fin 8192, sq (u (ix2 k (i 0))) * y (ix2 k (i 1))

theorem term_sum (u : S8192x4096.Idx → EReal) (y : S8192x1024.Idx → EReal) (i : S4096x1024.Idx) :
    (∑ k ∈ Finset.range 8192, term u y (i 0) (i 1) k) = G0 u y i := by
  rw [Finset.sum_range]
  refine Finset.sum_congr rfl fun k _ => ?_
  unfold term
  rw [dif_pos k.isLt]

/-- The result as a function of the arrays the region finds. -/
def G (c : Dev nD) : Buf (Elt Ideal) ((c : Thread nD τ).loc main_v1) := G0 (V m c main_v0) (V m c main_arg1)

/-- What the last point of a tile writes back is its block of `G`. -/
theorem flushed_eq (c : Dev nD) (t : Fin cfg0.N) (hf : (cfg0.win 2).flush t = true) :
    (dats m 0 c).flushed 2 t = ((cfg0.win 2).blk t).view.read (Elt Ideal) (G m c) := by
  have h1 : t.val % 16 = 15 := (flush0_2 t).mp hf
  have h0 : ¬t.val % 16 = 0 := by omega
  show (cfg0.win 2).cut (grid0.coords t) ((dats m 0 c).after 2 t) = _
  rw [after0_2, out_C m c t h0 h1]
  obtain ⟨-, -, -, -, d0, d1⟩ := idx_facts t
  funext (j : S2048x1024.Idx)
  refine (chain m c t.val t.isLt j).trans ?_
  rw [h1]
  refine Eq.trans ?_ (term_sum (V m c main_v0) (V m c main_arg1) (((cfg0.win 2).blk t).view.emb j))
  refine Finset.sum_congr rfl fun k _ => ?_
  have ep : col t.val t.isLt (j 0) = (((cfg0.win 2).blk t).view.emb j : S4096x1024.Idx) 0 := Fin.ext (by
    show t.val / 16 * 2048 + (j 0).val = win0_2.index t (0 : Fin 2) * 2048 + 1 * (j 0).val
    rw [d0, Nat.one_mul])
  have eq : (j 1 : Fin 1024) = (((cfg0.win 2).blk t).view.emb j : S4096x1024.Idx) 1 := Fin.ext (by
    show (j 1).val = win0_2.index t (1 : Fin 2) * 1024 + 1 * (j 1).val
    rw [d1, Nat.zero_mul, Nat.zero_add, Nat.one_mul])
  exact congrArg₂ (fun p q => term (V m c main_v0) (V m c main_arg1) p q k) ep eq

/-- An index of the result array is in point `t`'s block. -/
theorem mem_blk (t : Fin cfg0.N) (i : S4096x1024.Idx) :
    i ∈ ((cfg0.win 2).blk t).view.set ↔ t.val / 16 * 2048 ≤ (i 0 : Nat) ∧ (i 0 : Nat) < t.val / 16 * 2048 + 2048 := by
  show i ∈ ((View.whole main_v1).slice (win0_2.rect t)).set ↔ _
  rw [View.set_slice_whole, Rect.mem_set_unit]
  have h1 : (i 1 : Nat) < 1024 := (i 1).isLt
  obtain ⟨-, -, -, -, d0, d1⟩ := idx_facts t
  refine ⟨fun h => ?_, fun h a => ?_⟩
  · have : win0_2.index t (0 : Fin 2) * 2048 ≤ (i 0 : Nat) ∧ (i 0 : Nat) < win0_2.index t (0 : Fin 2) * 2048 + 2048 := h 0
    rw [d0] at this; exact this
  · match a with
    | ⟨0, _⟩ => show win0_2.index t (0 : Fin 2) * 2048 ≤ (i 0 : Nat) ∧ (i 0 : Nat) < win0_2.index t (0 : Fin 2) * 2048 + 2048
                rw [d0]; exact h
    | ⟨1, _⟩ => show win0_2.index t (1 : Fin 2) * 1024 ≤ (i 1 : Nat) ∧ (i 1 : Nat) < win0_2.index t (1 : Fin 2) * 1024 + 1024
                rw [d1, Nat.zero_mul, Nat.zero_add]; exact ⟨Nat.zero_le _, h1⟩

/-- The blocks written back tile the result array. -/
theorem cover (i : S4096x1024.Idx) :
    ∃ t : Fin cfg0.N, (cfg0.win 2).flush t = true ∧ i ∈ ((cfg0.win 2).blk t).view.set := by
  have h0 : (i 0 : Nat) < 4096 := (i 0).isLt
  have hN : cfg0.N = 32 := N_0
  have ht : (i 0 : Nat) / 2048 * 16 + 15 < cfg0.N := by omega
  refine ⟨⟨(i 0 : Nat) / 2048 * 16 + 15, ht⟩, (flush0_2 _).mpr (by dsimp only; omega), ?_⟩
  rw [mem_blk]
  dsimp only
  omega

/-- So the result array ends holding `G`. -/
theorem final (c : Dev nD) : (dats m 0 c).arrAt 2 cfg0.N = G m c :=
  (dats m 0 c).arrAt_eq_of_cover 2 (G m c) (fun t ht => flushed_eq m c t ht) cover

/-- The result is the derivative of the arguments. -/
theorem G_entry (c : Dev nD) : G m c = G0 (m ((c : Thread nD τ).loc main_arg0)) (m ((c : Thread nD τ).loc main_arg1)) := by
  have e0 : V m c main_v0 = m ((c : Thread nD τ).loc main_arg0) := by
    show StableHlo.after _ _ _ = _
    simp only [hostOps0, List.flatten_cons, List.flatten_nil, List.append_nil]
    after_results; rfl
  unfold G
  rw [V_main_arg1 m c, e0]

/-- The lines after the region widen the result array, which is the identity on the extended reals. -/
theorem tail (c : Dev nD) : Pipeline.afterTail₀ cfgs (dats m) 0 (V0 m) [hostOps1] c main_v2 = G m c := by
  unfold Pipeline.afterTail₀
  simp only [hostOps1, List.flatten_cons, List.flatten_nil, List.append_nil]
  after_results
  exact (Pipeline.withArrays_arr (cfgs 0).spec (show Function.Injective (Pipeline.arrRef spec0) by decide) c (V0 m c) (fun w => (dats m 0 c).arrAt w (cfgs 0).N) 2).trans (final m c)

/-- The run, read: the result, the arguments unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (Pipeline.mem_restRefs_of main_v2 (by decide) (by decide))).trans (tail m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c)))⟩) (run_main m ρ)

end Cert.Kernel3Ideal.Down

namespace Cert.Down

open Cert.Reference3Ideal Cert.Reference3Ideal.Gen Cert.Reference3Ideal.Read

/-- The derivative, read at a row and a column: the same sum, its factors the other way round. -/
theorem value (x0 : S8192x4096.Idx → EReal) (x1 : S8192x1024.Idx → EReal) (i : S4096x1024.Idx) :
    val_main_v5 (F := Ideal) x0 x1 i = ∑ k : Fin 8192, (max (x0 (ix2 k (i 0))) 0 * max (x0 (ix2 k (i 0))) 0) * x1 (ix2 k (i 1)) := by
  have z : (Ideal.ofBits .f32 0x00000000#32 : EReal) = 0 := by simp [Ideal.ofBits, Ideal.ieee]
  rw [val_main_v5_apply, val_main_v4_apply]
  refine Finset.sum_congr rfl fun k _ => ?_
  rw [val_main_v2_apply, val_main_v1_apply, val_main_call0_v0_apply, val_main_call0_cst_apply]
  simp only [Ideal.ofBits_def, Ideal.mulf_def, Ideal.maximumf_def, z]
  rw [show lidx_main_v4 (idx_main_v5 i) k = ix2 k (i 1) from funext fun a => match a with | ⟨0, _⟩ => rfl | ⟨1, _⟩ => rfl,
    show ridx_main_v4 (idx_main_v5 i) k = ix2 k (i 0) from funext fun a => match a with | ⟨0, _⟩ => rfl | ⟨1, _⟩ => rfl]
  exact mul_comm _ _

end Cert.Down

namespace Cert.Proof.DownClaims

/-- The kernel's result and the reference's derivative are equal, element by element. -/
theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => Cert.Kernel3Ideal.Down.G m c, Cert.Kernel3Ideal.Down.run m ρ, ?_⟩
  refine (θ_run Cert.Reference3Ideal.defs _ _).mono (fun _ h c => ⟨(h c).1.trans ?_, (h c).2⟩)
    (Cert.Reference3Ideal.Value.run (F := Ideal) m' ρ')
  rw [Cert.Reference3Ideal.Read.val_main_v5_eq, (hagree c).1, (hagree c).2]
  funext i
  exact (Cert.Down.value _ _ i).trans (congrFun (Cert.Kernel3Ideal.Down.G_entry m c) i).symm

/-- The reference's run leaves the arguments and the counters alone. -/
theorem reference : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run m ρ)

end Cert.Proof.DownClaims

end
-- ==== Proof.WUp.lean ====
/-
  The gradient of the feed-forward layer's first weight: what the kernel's result array ends holding, and that the
  reference's derivative is the same.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel4Ideal.WUp

open Cert.Kernel4Ideal Cert.Kernel4Ideal.Gen

variable (m : (ℓ : Loc nD τ sig) → Buf (Elt Ideal) ℓ) (ρ : Dev nD → PrngReg)

theorem hz : (![0, 0] : Fin 2 → Nat) = fun _ => 0 := funext fun a => by fin_cases a <;> rfl

theorem zero_bits : (Ideal.ofBits .f32 0x00000000#32 : EReal) = 0 := by simp [Ideal.ofBits, Ideal.ieee]

/-- A tile's product read at a row and a column: the sum over the tile's rows. -/
theorem tile_dot (x : FVec Ideal S512x2048 .bf16) (y : FVec Ideal S512x1024 .bf16) (j : S2048x1024.Idx) :
    matmul dot_S512x2048_S512x1024_S2048x1024_0_0_1_1_n_n none x y (constant S2048x1024 .f32 0x00000000#32) j
      = ∑ k : Fin 512, x (ix2 k (j 0)) * y (ix2 k (j 1)) := by
  show (Ideal.ofBits .f32 0x00000000#32 : EReal) + _ = _
  rw [zero_bits, zero_add,
    ← Equiv.sum_comp (contrEquiv1 dot_S512x2048_S512x1024_S2048x1024_0_0_1_1_n_n 512 rfl rfl).symm]
  refine Finset.sum_congr rfl fun k _ => ?_
  have hk := contrEquiv1_symm_val dot_S512x2048_S512x1024_S2048x1024_0_0_1_1_n_n 512 rfl rfl k
  congr 2
  · funext a
    apply Fin.ext
    match a with
    | ⟨0, _⟩ => exact (DotDims.lhsIdx_val_of_single _ rfl j _).trans hk
    | ⟨1, _⟩ =>
      unfold DotDims.lhsIdx
      rw [dif_neg (show ⟨1, _⟩ ∉ dot_S512x2048_S512x1024_S2048x1024_0_0_1_1_n_n.lhsBatch from by decide +revert),
        dif_pos (show ⟨1, _⟩ ∈ dot_S512x2048_S512x1024_S2048x1024_0_0_1_1_n_n.lhsNonContracting from by decide +revert)]; rfl
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S512x2048_S512x1024_S2048x1024_0_0_1_1_n_n.rhsBatch from by decide +revert),
        dif_pos (show ⟨1, _⟩ ∈ dot_S512x2048_S512x1024_S2048x1024_0_0_1_1_n_n.rhsNonContracting from by decide +revert)]; rfl

/-- A product of two extended reals. -/
abbrev times (x y : EReal) : EReal := x * y

/-- What one step leaves in the running sum: what it held plus the product of the two tiles. -/
theorem pay_apply (y : Vec Ideal S512x1024 .f32) (x : Vec Ideal S512x2048 .bf16) (s : Vec Ideal S2048x1024 .f32) (j : S2048x1024.Idx) :
    k0_pay2 y x s j = s j + ∑ k : Fin 512, (x (ix2 k (j 0))) * y (ix2 k (j 1)) := by
  show shapeCast S2048x1024 (addf s (matmul (F := Ideal) dot_S512x2048_S512x1024_S2048x1024_0_0_1_1_n_n none
    (shapeCast S512x2048 x shapeCasts_S512x2048_S512x2048) (truncf .bf16 y bitsLt_bf16_f32) (constant S2048x1024 .f32 0x00000000#32))) shapeCasts_S2048x1024_S2048x1024 j = _
  rw [shapeCast_self, shapeCast_self]
  exact congrArg (s j + ·) (tile_dot _ _ j)

/-- The running sum starts at zero. -/
theorem start_apply (j : S2048x1024.Idx) : k0_pay1 (F := Ideal) j = 0 := by
  show shapeCast S2048x1024 (broadcast S2048x1024 (Scalar.ofBits (F := Ideal) .f32 0x00000000#32)) shapeCasts_S2048x1024_S2048x1024 j = _
  rw [shapeCast_self]
  exact zero_bits

theorem sout_A (c : Dev nD) (t : Fin cfg0.N) (h0 : t.val % 16 = 0) (h1 : ¬t.val % 16 = 15) :
    (outsAt0 m c t.val t.isLt).2 = k0_pay2 (F := Ideal) (iblk m c 1 t) (iblk m c 0 t) (k0_pay1 (F := Ideal)) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S2048x1024) hz, View.readCov_unit_zero (S := S2048x1024) _ hz]
  simp only [View.readAt_eq_ld, (hs0_0 t).read_unread, (hs0_1 t).read_unread, View.ld_unit_zero (S := S512x2048) hz, View.ld_unit_zero (S := S512x1024) hz]

theorem sout_B (c : Dev nD) (t : Fin cfg0.N) (h0 : ¬t.val % 16 = 0) (h1 : ¬t.val % 16 = 15) :
    (outsAt0 m c t.val t.isLt).2 = k0_pay2 (F := Ideal) (iblk m c 1 t) (iblk m c 0 t) (outsAt0 m c (t.val - 1) (by omega)).2 := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero (S := S2048x1024) hz]
  simp only [View.readAt_eq_ld, (hs0_0 t).read_unread, (hs0_1 t).read_unread, (Memref.isWhole_whole cc0_scratch0).read_unread, View.ld_unit_zero (S := S2048x1024) hz, View.ld_unit_zero (S := S512x2048) hz, View.ld_unit_zero (S := S512x1024) hz]

theorem sout_C (c : Dev nD) (t : Fin cfg0.N) (h0 : ¬t.val % 16 = 0) (h1 : t.val % 16 = 15) :
    (outsAt0 m c t.val t.isLt).2 = k0_pay2 (F := Ideal) (iblk m c 1 t) (iblk m c 0 t) (outsAt0 m c (t.val - 1) (by omega)).2 := by
  rw [outsAt0_C m c t h0 h1]
  dsimp only
  unfold sout0_C_0
  rw [View.read_writes_eq_canon _ _ _ (scover0_C_0 c _ _ _ _ _ _ _ _ _ _ _ _ _ _)]
  unfold kernelRun0_C
  dsimp only
  sl_unfold_words
  rw [View.canon_unit_zero (S := S2048x1024) hz]
  simp only [View.readAt_eq_ld, (hs0_0 t).read_unread, (hs0_1 t).read_unread, (Memref.isWhole_whole cc0_scratch0).read_unread, View.ld_unit_zero (S := S2048x1024) hz, View.ld_unit_zero (S := S512x2048) hz, View.ld_unit_zero (S := S512x1024) hz]

/-- At the last step of a tile the output's block is the running sum. -/
theorem out_C (c : Dev nD) (t : Fin cfg0.N) (h0 : ¬t.val % 16 = 0) (h1 : t.val % 16 = 15) :
    (outsAt0 m c t.val t.isLt).1 = (outsAt0 m c t.val t.isLt).2 := by
  rw [sout_C m c t h0 h1, outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero (S := S2048x1024) hz, View.readCov_unit_zero (S := S2048x1024) _ hz]
  simp only [View.readAt_eq_ld, (hs0_0 t).read_unread, (hs0_1 t).read_unread, (Memref.isWhole_whole cc0_scratch0).read_unread, View.ld_unit_zero (S := S2048x1024) hz, View.ld_unit_zero (S := S512x2048) hz, View.ld_unit_zero (S := S512x1024) hz]
  rfl

/-- A product's summand at a row of the two arrays, zero past the last row. -/
def term (u : S8192x4096.Idx → EReal) (y : S8192x1024.Idx → EReal) (p : Fin 4096) (q : Fin 1024) (k : ℕ) : EReal :=
  if h : k < 8192 then (u (ix2 ⟨k, h⟩ p)) * y (ix2 ⟨k, h⟩ q) else 0

theorem idx_facts : ∀ t : Fin cfg0.N, win0_0.index t (0 : Fin 2) = t.val % 16 ∧ win0_0.index t (1 : Fin 2) = t.val / 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The column of the first array that column `p` of a tile is. -/
def col (n : ℕ) (hn : n < cfg0.N) (p : Fin 2048) : Fin 4096 :=
  ⟨n / 16 * 2048 + p.val, by have : cfg0.N = 32 := N_0; have := p.isLt; omega⟩

/-- The product of a point's two tiles is the arrays' summands over the tile's rows. -/
theorem tile_sum (t : Fin cfg0.N) (U : main_v0.ty.Contents (Elt Ideal)) (Y : main_arg0.ty.Contents (Elt Ideal)) (j : S2048x1024.Idx) :
    (∑ k : Fin 512, times ((((cfg0.win 0).blk t).view.read (Elt Ideal) U : S512x2048.Idx → EReal) (ix2 k (j 0)))
        ((((cfg0.win 1).blk t).view.read (Elt Ideal) Y : S512x1024.Idx → EReal) (ix2 k (j 1))))
      = ∑ k ∈ Finset.range 512, term U Y (col t.val t.isLt (j 0)) (j 1) (t.val % 16 * 512 + k) := by
  obtain ⟨a0, a1, b0, b1, -, -⟩ := idx_facts t
  rw [Finset.sum_range]
  refine Finset.sum_congr rfl fun k _ => ?_
  have hk : t.val % 16 * 512 + k.val < 8192 := by have := k.isLt; omega
  unfold term
  rw [dif_pos hk]
  refine congrArg₂ times (congrArg U ?_) (congrArg Y ?_)
  · funext a; apply Fin.ext
    match a with
    | ⟨0, _⟩ => show win0_0.index t (0 : Fin 2) * 512 + 1 * k.val = t.val % 16 * 512 + k.val; rw [a0]; omega
    | ⟨1, _⟩ => show win0_0.index t (1 : Fin 2) * 2048 + 1 * (j 0).val = t.val / 16 * 2048 + (j 0).val; rw [a1, Nat.one_mul]
  · funext a; apply Fin.ext
    match a with
    | ⟨0, _⟩ => show win0_1.index t (0 : Fin 2) * 512 + 1 * k.val = t.val % 16 * 512 + k.val; rw [b0]; omega
    | ⟨1, _⟩ => show win0_1.index t (1 : Fin 2) * 1024 + 1 * (j 1).val = (j 1).val; rw [b1, Nat.zero_mul, Nat.zero_add, Nat.one_mul]

/-- After a point the running sum holds the summands of every row up to the end of the point's rows. -/
theorem chain (c : Dev nD) : ∀ (n : ℕ) (hn : n < cfg0.N) (j : S2048x1024.Idx),
    ((outsAt0 m c n hn).2 : S2048x1024.Idx → EReal) j
      = ∑ k ∈ Finset.range (n % 16 * 512 + 512), term (V m c main_v0) (V m c main_arg0) (col n hn (j 0)) (j 1) k := by
  intro n
  induction n with
  | zero =>
    intro hn j
    rw [sout_A m c ⟨0, hn⟩ (by rfl) (show ¬0 % 16 = 15 by decide)]
    refine (pay_apply _ _ _ j).trans ?_
    rw [start_apply, zero_add]
    refine (tile_sum ⟨0, hn⟩ (V m c main_v0) (V m c main_arg0) j).trans ?_
    refine Finset.sum_congr (by norm_num) fun k _ => ?_
    show term _ _ _ _ (0 % 16 * 512 + k) = _
    rw [Nat.zero_mod, Nat.zero_mul, Nat.zero_add]
  | succ n ih =>
    intro hn j
    have hN : cfg0.N = 32 := N_0
    by_cases h0 : (n + 1) % 16 = 0
    · rw [sout_A m c ⟨n + 1, hn⟩ h0 (by dsimp only; omega)]
      refine (pay_apply _ _ _ j).trans ?_
      rw [start_apply, zero_add]
      refine (tile_sum ⟨n + 1, hn⟩ (V m c main_v0) (V m c main_arg0) j).trans ?_
      show ∑ k ∈ Finset.range 512, term _ _ _ _ ((n + 1) % 16 * 512 + k) = _
      rw [h0, Nat.zero_mul, Nat.zero_add]
      exact Finset.sum_congr rfl fun k _ => by rw [Nat.zero_add]
    · have hs : ((outsAt0 m c (n + 1) hn).2 : S2048x1024.Idx → EReal) = k0_pay2 (F := Ideal) (iblk m c 1 ⟨n + 1, hn⟩) (iblk m c 0 ⟨n + 1, hn⟩) (outsAt0 m c n (by omega)).2 := by
        by_cases h1 : (n + 1) % 16 = 15
        · exact sout_C m c ⟨n + 1, hn⟩ h0 h1
        · exact sout_B m c ⟨n + 1, hn⟩ h0 h1
      rw [hs]
      refine (pay_apply _ _ _ j).trans ?_
      refine (congrArg₂ (· + ·) (ih (by omega) j) (tile_sum ⟨n + 1, hn⟩ (V m c main_v0) (V m c main_arg0) j)).trans ?_
      have e1 : (n + 1) % 16 * 512 = n % 16 * 512 + 512 := by omega
      have e2 : col n (by omega) (j 0) = col (n + 1) hn (j 0) := Fin.ext (by
        show n / 16 * 2048 + (j 0).val = (n + 1) / 16 * 2048 + (j 0).val
        rw [show (n + 1) / 16 = n / 16 from by omega])
      show _ + ∑ k ∈ Finset.range 512, term _ _ (col (n + 1) hn (j 0)) (j 1) ((n + 1) % 16 * 512 + k) = _
      rw [e1, e2]
      exact (Finset.sum_range_add (fun k => term (V m c main_v0) (V m c main_arg0) (col (n + 1) hn (j 0)) (j 1) k) (n % 16 * 512 + 512) 512).symm

/-- The derivative at a row and a column, from its two arguments: the sum over every row of the cotangent times the
    layer's input; rows and columns are the other way round than in the weight. -/
def G0 (u : S8192x4096.Idx → EReal) (y : S8192x1024.Idx → EReal) (i : S4096x1024.Idx) : EReal :=
  ∑ k : Fin 8192, (u (ix2 k (i 0))) * y (ix2 k (i 1))

theorem term_sum (u : S8192x4096.Idx → EReal) (y : S8192x1024.Idx → EReal) (i : S4096x1024.Idx) :
    (∑ k ∈ Finset.range 8192, term u y (i 0) (i 1) k) = G0 u y i := by
  rw [Finset.sum_range]
  refine Finset.sum_congr rfl fun k _ => ?_
  unfold term
  rw [dif_pos k.isLt]

/-- The result as a function of the arrays the region finds. -/
def G (c : Dev nD) : Buf (Elt Ideal) ((c : Thread nD τ).loc main_v1) := G0 (V m c main_v0) (V m c main_arg0)

/-- What the last point of a tile writes back is its block of `G`. -/
theorem flushed_eq (c : Dev nD) (t : Fin cfg0.N) (hf : (cfg0.win 2).flush t = true) :
    (dats m 0 c).flushed 2 t = ((cfg0.win 2).blk t).view.read (Elt Ideal) (G m c) := by
  have h1 : t.val % 16 = 15 := (flush0_2 t).mp hf
  have h0 : ¬t.val % 16 = 0 := by omega
  show (cfg0.win 2).cut (grid0.coords t) ((dats m 0 c).after 2 t) = _
  rw [after0_2, out_C m c t h0 h1]
  obtain ⟨-, -, -, -, d0, d1⟩ := idx_facts t
  funext (j : S2048x1024.Idx)
  refine (chain m c t.val t.isLt j).trans ?_
  rw [h1]
  refine Eq.trans ?_ (term_sum (V m c main_v0) (V m c main_arg0) (((cfg0.win 2).blk t).view.emb j))
  refine Finset.sum_congr rfl fun k _ => ?_
  have ep : col t.val t.isLt (j 0) = (((cfg0.win 2).blk t).view.emb j : S4096x1024.Idx) 0 := Fin.ext (by
    show t.val / 16 * 2048 + (j 0).val = win0_2.index t (0 : Fin 2) * 2048 + 1 * (j 0).val
    rw [d0, Nat.one_mul])
  have eq : (j 1 : Fin 1024) = (((cfg0.win 2).blk t).view.emb j : S4096x1024.Idx) 1 := Fin.ext (by
    show (j 1).val = win0_2.index t (1 : Fin 2) * 1024 + 1 * (j 1).val
    rw [d1, Nat.zero_mul, Nat.zero_add, Nat.one_mul])
  exact congrArg₂ (fun p q => term (V m c main_v0) (V m c main_arg0) p q k) ep eq

/-- An index of the result array is in point `t`'s block. -/
theorem mem_blk (t : Fin cfg0.N) (i : S4096x1024.Idx) :
    i ∈ ((cfg0.win 2).blk t).view.set ↔ t.val / 16 * 2048 ≤ (i 0 : Nat) ∧ (i 0 : Nat) < t.val / 16 * 2048 + 2048 := by
  show i ∈ ((View.whole main_v1).slice (win0_2.rect t)).set ↔ _
  rw [View.set_slice_whole, Rect.mem_set_unit]
  have h1 : (i 1 : Nat) < 1024 := (i 1).isLt
  obtain ⟨-, -, -, -, d0, d1⟩ := idx_facts t
  refine ⟨fun h => ?_, fun h a => ?_⟩
  · have : win0_2.index t (0 : Fin 2) * 2048 ≤ (i 0 : Nat) ∧ (i 0 : Nat) < win0_2.index t (0 : Fin 2) * 2048 + 2048 := h 0
    rw [d0] at this; exact this
  · match a with
    | ⟨0, _⟩ => show win0_2.index t (0 : Fin 2) * 2048 ≤ (i 0 : Nat) ∧ (i 0 : Nat) < win0_2.index t (0 : Fin 2) * 2048 + 2048
                rw [d0]; exact h
    | ⟨1, _⟩ => show win0_2.index t (1 : Fin 2) * 1024 ≤ (i 1 : Nat) ∧ (i 1 : Nat) < win0_2.index t (1 : Fin 2) * 1024 + 1024
                rw [d1, Nat.zero_mul, Nat.zero_add]; exact ⟨Nat.zero_le _, h1⟩

/-- The blocks written back tile the result array. -/
theorem cover (i : S4096x1024.Idx) :
    ∃ t : Fin cfg0.N, (cfg0.win 2).flush t = true ∧ i ∈ ((cfg0.win 2).blk t).view.set := by
  have h0 : (i 0 : Nat) < 4096 := (i 0).isLt
  have hN : cfg0.N = 32 := N_0
  have ht : (i 0 : Nat) / 2048 * 16 + 15 < cfg0.N := by omega
  refine ⟨⟨(i 0 : Nat) / 2048 * 16 + 15, ht⟩, (flush0_2 _).mpr (by dsimp only; omega), ?_⟩
  rw [mem_blk]
  dsimp only
  omega

/-- So the result array ends holding `G`. -/
theorem final (c : Dev nD) : (dats m 0 c).arrAt 2 cfg0.N = G m c :=
  (dats m 0 c).arrAt_eq_of_cover 2 (G m c) (fun t ht => flushed_eq m c t ht) cover

/-- The result is the derivative of the arguments. -/
theorem G_entry (c : Dev nD) : G m c = G0 (m ((c : Thread nD τ).loc main_arg1)) (m ((c : Thread nD τ).loc main_arg0)) := by
  have e0 : V m c main_v0 = m ((c : Thread nD τ).loc main_arg1) := by
    show StableHlo.after _ _ _ = _
    simp only [hostOps0, List.flatten_cons, List.flatten_nil, List.append_nil]
    after_results; rfl
  unfold G
  rw [V_main_arg0 m c, e0]

/-- The result, its rows and columns in the weight's order. -/
def GT (c : Dev nD) : Buf (Elt Ideal) ((c : Thread nD τ).loc main_v3) := transpose S1024x4096 [1, 0] (G m c) transposes_S4096x1024_S1024x4096_1_0

/-- The lines after the region widen the result array, which is the identity on the extended reals, and transpose it. -/
theorem tail (c : Dev nD) : Pipeline.afterTail₀ cfgs (dats m) 0 (V0 m) [hostOps1] c main_v3 = GT m c := by
  unfold Pipeline.afterTail₀
  simp only [hostOps1, List.flatten_cons, List.flatten_nil, List.append_nil]
  after_results
  exact congrArg (fun z => transpose S1024x4096 [1, 0] z transposes_S4096x1024_S1024x4096_1_0)
    ((Pipeline.withArrays_arr (cfgs 0).spec (show Function.Injective (Pipeline.arrRef spec0) by decide) c (V0 m c) (fun w => (dats m 0 c).arrAt w (cfgs 0).N) 2).trans (final m c))

/-- The run, read: the result, the arguments unchanged. -/
theorem run : θ_run defs (onTc (τ := τ) (main (F := Ideal))) ⟨m, fun _ => 0, ρ⟩ fun r => ∀ c : Dev nD,
      r.2.mem ((c.tc : Thread nD τ).loc main_v3) = GT m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (Pipeline.mem_restRefs_of main_v3 (by decide) (by decide))).trans (tail m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c))⟩) (run_main m ρ)

end Cert.Kernel4Ideal.WUp

namespace Cert.WUp

open Cert.Reference4Ideal Cert.Reference4Ideal.Gen Cert.Reference4Ideal.Read

/-- The derivative before its transposition, read at a row and a column: the same sum. -/
theorem value (x0 : S8192x1024.Idx → EReal) (x1 : S8192x4096.Idx → EReal) (i : S4096x1024.Idx) :
    val_main_v2 (F := Ideal) x0 x1 i = ∑ k : Fin 8192, x1 (ix2 k (i 0)) * x0 (ix2 k (i 1)) := by
  rw [val_main_v2_apply]
  refine Finset.sum_congr rfl fun k _ => ?_
  rw [show lidx_main_v2 i k = ix2 k (i 0) from funext fun a => match a with | ⟨0, _⟩ => rfl | ⟨1, _⟩ => rfl,
    show ridx_main_v2 i k = ix2 k (i 1) from funext fun a => match a with | ⟨0, _⟩ => rfl | ⟨1, _⟩ => rfl]
  rfl

end Cert.WUp

namespace Cert.Proof.WUpClaims

/-- The kernel's result and the reference's derivative are equal, element by element. -/
theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => Cert.Kernel4Ideal.WUp.GT m c, Cert.Kernel4Ideal.WUp.run m ρ, ?_⟩
  refine (θ_run Cert.Reference4Ideal.defs _ _).mono (fun _ h c => ⟨(h c).1.trans ?_, (h c).2⟩)
    (Cert.Reference4Ideal.Value.run (F := Ideal) m' ρ')
  rw [Cert.Reference4Ideal.Read.val_main_v3_eq, (hagree c).1, (hagree c).2]
  exact congrArg (fun z => transpose Cert.Kernel4Ideal.S1024x4096 [1, 0] z Cert.Kernel4Ideal.Gen.transposes_S4096x1024_S1024x4096_1_0)
    ((funext fun i => Cert.WUp.value _ _ i).trans (Cert.Kernel4Ideal.WUp.G_entry m c).symm)

/-- The reference's run leaves the arguments and the counters alone. -/
theorem reference : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run m ρ)

end Cert.Proof.WUpClaims

end
-- ==== Proof.WO.lean ====
/-
  The gradient of the output projection's weight: what the kernel's result array ends holding, and that the
  reference's derivative is the same.
-/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel5Ideal.WO

open Cert.Kernel5Ideal Cert.Kernel5Ideal.Gen

variable (m : (ℓ : Loc nD τ sig) → Buf (Elt Ideal) ℓ) (ρ : Dev nD → PrngReg)

theorem hz : (![0, 0] : Fin 2 → Nat) = fun _ => 0 := funext fun a => by fin_cases a <;> rfl

theorem zero_bits : (Ideal.ofBits .f32 0x00000000#32 : EReal) = 0 := by simp [Ideal.ofBits, Ideal.ieee]

/-- A tile's product read at a row and a column: the sum over the tile's rows. -/
theorem tile_dot (x : FVec Ideal S512x1024 .bf16) (y : FVec Ideal S512x1024 .bf16) (j : S1024x1024.Idx) :
    matmul dot_S512x1024_S512x1024_S1024x1024_0_0_1_1_n_n none x y (constant S1024x1024 .f32 0x00000000#32) j
      = ∑ k : Fin 512, x (ix2 k (j 0)) * y (ix2 k (j 1)) := by
  show (Ideal.ofBits .f32 0x00000000#32 : EReal) + _ = _
  rw [zero_bits, zero_add,
    ← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  congr 2
  · funext a
    apply Fin.ext
    match a with
    | ⟨0, _⟩ => exact (DotDims.lhsIdx_val_of_single _ rfl j _).trans hk
    | ⟨1, _⟩ =>
      unfold DotDims.lhsIdx
      rw [dif_neg (show ⟨1, _⟩ ∉ dot_S512x1024_S512x1024_S1024x1024_0_0_1_1_n_n.lhsBatch from by decide +revert),
        dif_pos (show ⟨1, _⟩ ∈ dot_S512x1024_S512x1024_S1024x1024_0_0_1_1_n_n.lhsNonContracting from by decide +revert)]; rfl
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S512x1024_S512x1024_S1024x1024_0_0_1_1_n_n.rhsBatch from by decide +revert),
        dif_pos (show ⟨1, _⟩ ∈ dot_S512x1024_S512x1024_S1024x1024_0_0_1_1_n_n.rhsNonContracting from by decide +revert)]; rfl

/-- A product of two extended reals. -/
abbrev times (x y : EReal) : EReal := x * y

/-- What one step leaves in the running sum: what it held plus the product of the two tiles. -/
theorem pay_apply (y : Vec Ideal S512x1024 .f32) (x : Vec Ideal S512x1024 .bf16) (s : Vec Ideal S1024x1024 .f32) (j : S1024x1024.Idx) :
    k0_pay2 y x s j = s j + ∑ k : Fin 512, (x (ix2 k (j 0))) * y (ix2 k (j 1)) := by
  show shapeCast S1024x1024 (addf s (matmul (F := Ideal) dot_S512x1024_S512x1024_S1024x1024_0_0_1_1_n_n none
    (shapeCast S512x1024 x shapeCasts_S512x1024_S512x1024) (truncf .bf16 y bitsLt_bf16_f32) (constant S1024x1024 .f32 0x00000000#32))) shapeCasts_S1024x1024_S1024x1024 j = _
  rw [shapeCast_self, shapeCast_self]
  exact congrArg (s j + ·) (tile_dot _ _ j)

/-- The running sum starts at zero. -/
theorem start_apply (j : S1024x1024.Idx) : k0_pay1 (F := Ideal) j = 0 := by
  show shapeCast S1024x1024 (broadcast S1024x1024 (Scalar.ofBits (F := Ideal) .f32 0x00000000#32)) shapeCasts_S1024x1024_S1024x1024 j = _
  rw [shapeCast_self]
  exact zero_bits

theorem sout_A (c : Dev nD) (t : Fin cfg0.N) (h0 : t.val % 16 = 0) (h1 : ¬t.val % 16 = 15) :
    (outsAt0 m c t.val t.isLt).2 = k0_pay2 (F := Ideal) (iblk m c 1 t) (iblk m c 0 t) (k0_pay1 (F := Ideal)) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S512x1024) hz]

theorem sout_B (c : Dev nD) (t : Fin cfg0.N) (h0 : ¬t.val % 16 = 0) (h1 : ¬t.val % 16 = 15) :
    (outsAt0 m c t.val t.isLt).2 = k0_pay2 (F := Ideal) (iblk m c 1 t) (iblk m c 0 t) (outsAt0 m c (t.val - 1) (by omega)).2 := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero (S := S1024x1024) hz]
  simp only [View.readAt_eq_ld, (hs0_0 t).read_unread, (hs0_1 t).read_unread, (Memref.isWhole_whole cc0_scratch0).read_unread, View.ld_unit_zero (S := S1024x1024) hz, View.ld_unit_zero (S := S512x1024) hz]

theorem sout_C (c : Dev nD) (t : Fin cfg0.N) (h0 : ¬t.val % 16 = 0) (h1 : t.val % 16 = 15) :
    (outsAt0 m c t.val t.isLt).2 = k0_pay2 (F := Ideal) (iblk m c 1 t) (iblk m c 0 t) (outsAt0 m c (t.val - 1) (by omega)).2 := by
  rw [outsAt0_C m c t h0 h1]
  dsimp only
  unfold sout0_C_0
  rw [View.read_writes_eq_canon _ _ _ (scover0_C_0 c _ _ _ _ _ _ _ _ _ _ _ _ _ _)]
  unfold kernelRun0_C
  dsimp only
  sl_unfold_words
  rw [View.canon_unit_zero (S := S1024x1024) hz]
  simp only [View.readAt_eq_ld, (hs0_0 t).read_unread, (hs0_1 t).read_unread, (Memref.isWhole_whole cc0_scratch0).read_unread, View.ld_unit_zero (S := S1024x1024) hz, View.ld_unit_zero (S := S512x1024) hz]

/-- At the last step of a tile the output's block is the running sum. -/
theorem out_C (c : Dev nD) (t : Fin cfg0.N) (h0 : ¬t.val % 16 = 0) (h1 : t.val % 16 = 15) :
    (outsAt0 m c t.val t.isLt).1 = (outsAt0 m c t.val t.isLt).2 := by
  rw [sout_C m c t h0 h1, outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero (S := S1024x1024) hz, View.readCov_unit_zero (S := S1024x1024) _ hz]
  simp only [View.readAt_eq_ld, (hs0_0 t).read_unread, (hs0_1 t).read_unread, (Memref.isWhole_whole cc0_scratch0).read_unread, View.ld_unit_zero (S := S1024x1024) hz, View.ld_unit_zero (S := S512x1024) hz]
  rfl

/-- A product's summand at a row of the two arrays, zero past the last row. -/
def term (u : S8192x1024.Idx → EReal) (y : S8192x1024.Idx → EReal) (p : Fin 1024) (q : Fin 1024) (k : ℕ) : EReal :=
  if h : k < 8192 then (u (ix2 ⟨k, h⟩ p)) * y (ix2 ⟨k, h⟩ q) else 0

theorem idx_facts : ∀ t : Fin cfg0.N, win0_0.index t (0 : Fin 2) = t.val % 16 ∧ win0_0.index t (1 : Fin 2) = t.val / 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The column of the first array that column `p` of a tile is. -/
def col (n : ℕ) (hn : n < cfg0.N) (p : Fin 1024) : Fin 1024 :=
  ⟨n / 16 * 1024 + p.val, by have : cfg0.N = 16 := N_0; have := p.isLt; omega⟩

/-- The product of a point's two tiles is the arrays' summands over the tile's rows. -/
theorem tile_sum (t : Fin cfg0.N) (U : main_v0.ty.Contents (Elt Ideal)) (Y : main_arg1.ty.Contents (Elt Ideal)) (j : S1024x1024.Idx) :
    (∑ k : Fin 512, times ((((cfg0.win 0).blk t).view.read (Elt Ideal) U : S512x1024.Idx → EReal) (ix2 k (j 0)))
        ((((cfg0.win 1).blk t).view.read (Elt Ideal) Y : S512x1024.Idx → EReal) (ix2 k (j 1))))
      = ∑ k ∈ Finset.range 512, term U Y (col t.val t.isLt (j 0)) (j 1) (t.val % 16 * 512 + k) := by
  obtain ⟨a0, a1, b0, b1, -, -⟩ := idx_facts t
  rw [Finset.sum_range]
  refine Finset.sum_congr rfl fun k _ => ?_
  have hk : t.val % 16 * 512 + k.val < 8192 := by have := k.isLt; omega
  unfold term
  rw [dif_pos hk]
  refine congrArg₂ times (congrArg U ?_) (congrArg Y ?_)
  · funext a; apply Fin.ext
    match a with
    | ⟨0, _⟩ => show win0_0.index t (0 : Fin 2) * 512 + 1 * k.val = t.val % 16 * 512 + k.val; rw [a0]; omega
    | ⟨1, _⟩ => show win0_0.index t (1 : Fin 2) * 1024 + 1 * (j 0).val = t.val / 16 * 1024 + (j 0).val; rw [a1, Nat.one_mul]
  · funext a; apply Fin.ext
    match a with
    | ⟨0, _⟩ => show win0_1.index t (0 : Fin 2) * 512 + 1 * k.val = t.val % 16 * 512 + k.val; rw [b0]; omega
    | ⟨1, _⟩ => show win0_1.index t (1 : Fin 2) * 1024 + 1 * (j 1).val = (j 1).val; rw [b1, Nat.zero_mul, Nat.zero_add, Nat.one_mul]

/-- After a point the running sum holds the summands of every row up to the end of the point's rows. -/
theorem chain (c : Dev nD) : ∀ (n : ℕ) (hn : n < cfg0.N) (j : S1024x1024.Idx),
    ((outsAt0 m c n hn).2 : S1024x1024.Idx → EReal) j
      = ∑ k ∈ Finset.range (n % 16 * 512 + 512), term (V m c main_v0) (V m c main_arg1) (col n hn (j 0)) (j 1) k := by
  intro n
  induction n with
  | zero =>
    intro hn j
    rw [sout_A m c ⟨0, hn⟩ (by rfl) (show ¬0 % 16 = 15 by decide)]
    refine (pay_apply _ _ _ j).trans ?_
    rw [start_apply, zero_add]
    refine (tile_sum ⟨0, hn⟩ (V m c main_v0) (V m c main_arg1) j).trans ?_
    refine Finset.sum_congr (by norm_num) fun k _ => ?_
    show term _ _ _ _ (0 % 16 * 512 + k) = _
    rw [Nat.zero_mod, Nat.zero_mul, Nat.zero_add]
  | succ n ih =>
    intro hn j
    have hN : cfg0.N = 16 := N_0
    by_cases h0 : (n + 1) % 16 = 0
    · rw [sout_A m c ⟨n + 1, hn⟩ h0 (by dsimp only; omega)]
      refine (pay_apply _ _ _ j).trans ?_
      rw [start_apply, zero_add]
      refine (tile_sum ⟨n + 1, hn⟩ (V m c main_v0) (V m c main_arg1) j).trans ?_
      show ∑ k ∈ Finset.range 512, term _ _ _ _ ((n + 1) % 16 * 512 + k) = _
      rw [h0, Nat.zero_mul, Nat.zero_add]
      exact Finset.sum_congr rfl fun k _ => by rw [Nat.zero_add]
    · have hs : ((outsAt0 m c (n + 1) hn).2 : S1024x1024.Idx → EReal) = k0_pay2 (F := Ideal) (iblk m c 1 ⟨n + 1, hn⟩) (iblk m c 0 ⟨n + 1, hn⟩) (outsAt0 m c n (by omega)).2 := by
        by_cases h1 : (n + 1) % 16 = 15
        · exact sout_C m c ⟨n + 1, hn⟩ h0 h1
        · exact sout_B m c ⟨n + 1, hn⟩ h0 h1
      rw [hs]
      refine (pay_apply _ _ _ j).trans ?_
      refine (congrArg₂ (· + ·) (ih (by omega) j) (tile_sum ⟨n + 1, hn⟩ (V m c main_v0) (V m c main_arg1) j)).trans ?_
      have e1 : (n + 1) % 16 * 512 = n % 16 * 512 + 512 := by omega
      have e2 : col n (by omega) (j 0) = col (n + 1) hn (j 0) := Fin.ext (by
        show n / 16 * 1024 + (j 0).val = (n + 1) / 16 * 1024 + (j 0).val
        rw [show (n + 1) / 16 = n / 16 from by omega])
      show _ + ∑ k ∈ Finset.range 512, term _ _ (col (n + 1) hn (j 0)) (j 1) ((n + 1) % 16 * 512 + k) = _
      rw [e1, e2]
      exact (Finset.sum_range_add (fun k => term (V m c main_v0) (V m c main_arg1) (col (n + 1) hn (j 0)) (j 1) k) (n % 16 * 512 + 512) 512).symm

/-- The derivative at a row and a column, from its two arguments: the sum over every row of the projection's input
    times the cotangent. -/
def G0 (u : S8192x1024.Idx → EReal) (y : S8192x1024.Idx → EReal) (i : S1024x1024.Idx) : EReal :=
  ∑ k : Fin 8192, (u (ix2 k (i 0))) * y (ix2 k (i 1))

theorem term_sum (u : S8192x1024.Idx → EReal) (y : S8192x1024.Idx → EReal) (i : S1024x1024.Idx) :
    (∑ k ∈ Finset.range 8192, term u y (i 0) (i 1) k) = G0 u y i := by
  rw [Finset.sum_range]
  refine Finset.sum_congr rfl fun k _ => ?_
  unfold term
  rw [dif_pos k.isLt]

/-- The result as a function of the arrays the region finds. -/
def G (c : Dev nD) : Buf (Elt Ideal) ((c : Thread nD τ).loc main_v1) := G0 (V m c main_v0) (V m c main_arg1)

/-- What the last point of a tile writes back is its block of `G`. -/
theorem flushed_eq (c : Dev nD) (t : Fin cfg0.N) (hf : (cfg0.win 2).flush t = true) :
    (dats m 0 c).flushed 2 t = ((cfg0.win 2).blk t).view.read (Elt Ideal) (G m c) := by
  have h1 : t.val % 16 = 15 := (flush0_2 t).mp hf
  have h0 : ¬t.val % 16 = 0 := by omega
  show (cfg0.win 2).cut (grid0.coords t) ((dats m 0 c).after 2 t) = _
  rw [after0_2, out_C m c t h0 h1]
  obtain ⟨-, -, -, -, d0, d1⟩ := idx_facts t
  funext (j : S1024x1024.Idx)
  refine (chain m c t.val t.isLt j).trans ?_
  rw [h1]
  refine Eq.trans ?_ (term_sum (V m c main_v0) (V m c main_arg1) (((cfg0.win 2).blk t).view.emb j))
  refine Finset.sum_congr rfl fun k _ => ?_
  have ep : col t.val t.isLt (j 0) = (((cfg0.win 2).blk t).view.emb j : S1024x1024.Idx) 0 := Fin.ext (by
    show t.val / 16 * 1024 + (j 0).val = win0_2.index t (0 : Fin 2) * 1024 + 1 * (j 0).val
    rw [d0, Nat.one_mul])
  have eq : (j 1 : Fin 1024) = (((cfg0.win 2).blk t).view.emb j : S1024x1024.Idx) 1 := Fin.ext (by
    show (j 1).val = win0_2.index t (1 : Fin 2) * 1024 + 1 * (j 1).val
    rw [d1, Nat.zero_mul, Nat.zero_add, Nat.one_mul])
  exact congrArg₂ (fun p q => term (V m c main_v0) (V m c main_arg1) p q k) ep eq

/-- An index of the result array is in point `t`'s block. -/
theorem mem_blk (t : Fin cfg0.N) (i : S1024x1024.Idx) :
    i ∈ ((cfg0.win 2).blk t).view.set ↔ t.val / 16 * 1024 ≤ (i 0 : Nat) ∧ (i 0 : Nat) < t.val / 16 * 1024 + 1024 := by
  show i ∈ ((View.whole main_v1).slice (win0_2.rect t)).set ↔ _
  rw [View.set_slice_whole, Rect.mem_set_unit]
  have h1 : (i 1 : Nat) < 1024 := (i 1).isLt
  obtain ⟨-, -, -, -, d0, d1⟩ := idx_facts t
  refine ⟨fun h => ?_, fun h a => ?_⟩
  · have : win0_2.index t (0 : Fin 2) * 1024 ≤ (i 0 : Nat) ∧ (i 0 : Nat) < win0_2.index t (0 : Fin 2) * 1024 + 1024 := h 0
    rw [d0] at this; exact this
  · match a with
    | ⟨0, _⟩ => show win0_2.index t (0 : Fin 2) * 1024 ≤ (i 0 : Nat) ∧ (i 0 : Nat) < win0_2.index t (0 : Fin 2) * 1024 + 1024
                rw [d0]; exact h
    | ⟨1, _⟩ => show win0_2.index t (1 : Fin 2) * 1024 ≤ (i 1 : Nat) ∧ (i 1 : Nat) < win0_2.index t (1 : Fin 2) * 1024 + 1024
                rw [d1, Nat.zero_mul, Nat.zero_add]; exact ⟨Nat.zero_le _, h1⟩

/-- The blocks written back tile the result array. -/
theorem cover (i : S1024x1024.Idx) :
    ∃ t : Fin cfg0.N, (cfg0.win 2).flush t = true ∧ i ∈ ((cfg0.win 2).blk t).view.set := by
  have h0 : (i 0 : Nat) < 1024 := (i 0).isLt
  have hN : cfg0.N = 16 := N_0
  have ht : (i 0 : Nat) / 1024 * 16 + 15 < cfg0.N := by omega
  refine ⟨⟨(i 0 : Nat) / 1024 * 16 + 15, ht⟩, (flush0_2 _).mpr (by dsimp only; omega), ?_⟩
  rw [mem_blk]
  dsimp only
  omega

/-- So the result array ends holding `G`. -/
theorem final (c : Dev nD) : (dats m 0 c).arrAt 2 cfg0.N = G m c :=
  (dats m 0 c).arrAt_eq_of_cover 2 (G m c) (fun t ht => flushed_eq m c t ht) cover

/-- The result is the derivative of the arguments. -/
theorem G_entry (c : Dev nD) : G m c = G0 (m ((c : Thread nD τ).loc main_arg0)) (m ((c : Thread nD τ).loc main_arg1)) := by
  have e0 : V m c main_v0 = m ((c : Thread nD τ).loc main_arg0) := by
    show StableHlo.after _ _ _ = _
    simp only [hostOps0, List.flatten_cons, List.flatten_nil, List.append_nil]
    after_results; rfl
  unfold G
  rw [V_main_arg1 m c, e0]

/-- The lines after the region widen the result array, which is the identity on the extended reals. -/
theorem tail (c : Dev nD) : Pipeline.afterTail₀ cfgs (dats m) 0 (V0 m) [hostOps1] c main_v2 = G m c := by
  unfold Pipeline.afterTail₀
  simp only [hostOps1, List.flatten_cons, List.flatten_nil, List.append_nil]
  after_results
  exact (Pipeline.withArrays_arr (cfgs 0).spec (show Function.Injective (Pipeline.arrRef spec0) by decide) c (V0 m c) (fun w => (dats m 0 c).arrAt w (cfgs 0).N) 2).trans (final m c)

/-- The run, read: the result, the arguments unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (Pipeline.mem_restRefs_of main_v2 (by decide) (by decide))).trans (tail m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c)))⟩) (run_main m ρ)

end Cert.Kernel5Ideal.WO

namespace Cert.WO

open Cert.Reference5Ideal Cert.Reference5Ideal.Gen Cert.Reference5Ideal.Read

/-- The derivative, read at a row and a column: the same sum, its factors the other way round. -/
theorem value (x0 x1 : S8192x1024.Idx → EReal) (i : S1024x1024.Idx) :
    val_main_v3 (F := Ideal) x0 x1 i = ∑ k : Fin 8192, x0 (ix2 k (i 0)) * x1 (ix2 k (i 1)) := by
  rw [val_main_v3_apply, val_main_v2_apply]
  refine Finset.sum_congr rfl fun k _ => ?_
  rw [show lidx_main_v2 (idx_main_v3 i) k = ix2 k (i 1) from funext fun a => match a with | ⟨0, _⟩ => rfl | ⟨1, _⟩ => rfl,
    show ridx_main_v2 (idx_main_v3 i) k = ix2 k (i 0) from funext fun a => match a with | ⟨0, _⟩ => rfl | ⟨1, _⟩ => rfl]
  exact mul_comm _ _

end Cert.WO

namespace Cert.Proof.WOClaims

/-- The kernel's result and the reference's derivative are equal, element by element. -/
theorem algebraic : Cert.algebraic_Kernel5Ideal_Reference5Ideal (hKernel5Ideal := Cert.Kernel5Ideal.Gen.facts) (hReference5Ideal := Cert.Reference5Ideal.Gen.facts) := by
  intro m ρ m' ρ' _ hagree
  refine ⟨fun c => Cert.Kernel5Ideal.WO.G m c, Cert.Kernel5Ideal.WO.run m ρ, ?_⟩
  refine (θ_run Cert.Reference5Ideal.defs _ _).mono (fun _ h c => ⟨(h c).1.trans ?_, (h c).2⟩)
    (Cert.Reference5Ideal.Value.run (F := Ideal) m' ρ')
  rw [Cert.Reference5Ideal.Read.val_main_v3_eq, (hagree c).1, (hagree c).2]
  funext i
  exact (Cert.WO.value _ _ i).trans (congrFun (Cert.Kernel5Ideal.WO.G_entry m c) i).symm

/-- The reference's run leaves the arguments and the counters alone. -/
theorem reference : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run m ρ)

end Cert.Proof.WOClaims

end
-- ==== Proof.Mixn.lean ====
/-
  The gradient of the output projection's input: what the kernel's result array ends holding, and that the reference's
  derivative is the same.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel6Ideal.Mixn

open Cert.Kernel6Ideal Cert.Kernel6Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The tile's product read at a row and a column: the sum over the shared axis. -/
theorem tile_dot (x : FVec Ideal S512x1024 .bf16) (y : FVec Ideal S1024x1024 .bf16) (j : S512x1024.Idx) :
    matmul dot_S512x1024_S1024x1024_S512x1024_1_1_0_0_n_n none x y (constant S512x1024 .f32 0x00000000#32) j
      = ∑ k : Fin 1024, x (ix2 (j 0) k) * y (ix2 (j 1) k) := by
  show (Ideal.ofBits .f32 0x00000000#32 : EReal) + _ = _
  rw [show (Ideal.ofBits .f32 0x00000000#32 : EReal) = 0 from by simp [Ideal.ofBits, Ideal.ieee], zero_add,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  congr 2
  · funext a
    apply Fin.ext
    match a with
    | ⟨0, _⟩ =>
      unfold DotDims.lhsIdx
      rw [dif_neg (show ⟨0, _⟩ ∉ dot_S512x1024_S1024x1024_S512x1024_1_1_0_0_n_n.lhsBatch from by decide +revert),
        dif_pos (show ⟨0, _⟩ ∈ dot_S512x1024_S1024x1024_S512x1024_1_1_0_0_n_n.lhsNonContracting from by decide +revert)]; rfl
    | ⟨1, _⟩ => exact (DotDims.lhsIdx_val_of_single _ rfl j _).trans hk
  · funext a
    apply Fin.ext
    match a with
    | ⟨0, _⟩ =>
      unfold DotDims.rhsIdx
      rw [dif_neg (show ⟨0, _⟩ ∉ dot_S512x1024_S1024x1024_S512x1024_1_1_0_0_n_n.rhsBatch from by decide +revert),
        dif_pos (show ⟨0, _⟩ ∈ dot_S512x1024_S1024x1024_S512x1024_1_1_0_0_n_n.rhsNonContracting from by decide +revert)]; rfl
    | ⟨1, _⟩ => exact (DotDims.rhsIdx_val_of_single _ rfl j _).trans hk

/-- What one tile of the result holds at a row and a column, from the tile's inputs. -/
theorem pay_apply (x : Vec Ideal S512x1024 .f32) (y : Vec Ideal S1024x1024 .bf16) (j : S512x1024.Idx) :
    k0_pay1 x y j = ∑ k : Fin 1024, x (ix2 (j 0) k) * y (ix2 (j 1) k) := by
  show matmul (F := Ideal) dot_S512x1024_S1024x1024_S512x1024_1_1_0_0_n_n none (truncf .bf16 x bitsLt_bf16_f32) (shapeCast S1024x1024 y shapeCasts_S1024x1024_S1024x1024) (constant S512x1024 .f32 0x00000000#32) j = _
  rw [shapeCast_self]
  exact tile_dot _ _ _

/-- The product at a row and a column: the sum over the shared axis. -/
def G0 (x : S8192x1024.Idx → EReal) (y : S1024x1024.Idx → EReal) (i : S8192x1024.Idx) : EReal :=
  ∑ k : Fin 1024, x (ix2 (i 0) k) * y (ix2 (i 1) k)

/-- The result as a function of the arrays the region finds. -/
def G (c : Dev nD) : Buf (Elt Ideal) ((c : Thread nD τ).loc main_v1) := G0 (V m c main_arg1) (V m c main_v0)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tile computed from the tiles of two arrays is the tile of the product. -/
theorem tile_eq (t : Fin cfg0.N) (X : main_arg1.ty.Contents (Elt Ideal)) (Y : main_v0.ty.Contents (Elt Ideal)) :
    k0_pay1 (F := Ideal) (((cfg0.win 0).blk t).view.read (Elt Ideal) X) (((cfg0.win 1).blk t).view.read (Elt Ideal) Y)
      = fun j : S512x1024.Idx => G0 X Y (((cfg0.win 2).blk t).view.emb j) := by
  obtain ⟨a0, a1, b0, b1, d0, d1⟩ := idx_facts t
  funext j
  refine (pay_apply _ _ j).trans ?_
  unfold G0
  refine Finset.sum_congr rfl fun k _ => congrArg₂ (· * ·) (congrArg X ?_) (congrArg Y ?_)
  · funext a; apply Fin.ext
    match a with
    | ⟨0, _⟩ => show win0_0.index t (0 : Fin 2) * 512 + 1 * (j 0).val = win0_2.index t (0 : Fin 2) * 512 + 1 * (j 0).val; rw [a0, d0]
    | ⟨1, _⟩ => show win0_0.index t (1 : Fin 2) * 1024 + 1 * k.val = k.val; rw [a1]; omega
  · funext a; apply Fin.ext
    match a with
    | ⟨0, _⟩ => show win0_1.index t (0 : Fin 2) * 1024 + 1 * (j 1).val = win0_2.index t (1 : Fin 2) * 1024 + 1 * (j 1).val; rw [b0, d1]
    | ⟨1, _⟩ => show win0_1.index t (1 : Fin 2) * 1024 + 1 * k.val = k.val; rw [b1]; omega

/-- What point `t` writes back is its block of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz, View.ld_unit_zero (S := S512x1024) hz, View.ld_unit_zero (S := S1024x1024) hz]
  exact tile_eq t (V m c main_arg1) (V m c main_v0)

/-- An index of the result array is in point `t`'s block. -/
theorem mem_blk (t : Fin cfg0.N) (i : S8192x1024.Idx) :
    i ∈ ((cfg0.win 2).blk t).view.set ↔ t.val * 512 ≤ (i 0 : Nat) ∧ (i 0 : Nat) < t.val * 512 + 512 := by
  show i ∈ ((View.whole main_v1).slice (win0_2.rect t)).set ↔ _
  rw [View.set_slice_whole, Rect.mem_set_unit]
  have h1 : (i 1 : Nat) < 1024 := (i 1).isLt
  obtain ⟨-, -, -, -, d0, d1⟩ := idx_facts t
  refine ⟨fun h => ?_, fun h a => ?_⟩
  · have : win0_2.index t (0 : Fin 2) * 512 ≤ (i 0 : Nat) ∧ (i 0 : Nat) < win0_2.index t (0 : Fin 2) * 512 + 512 := h 0
    rw [d0] at this; exact this
  · match a with
    | ⟨0, _⟩ => show win0_2.index t (0 : Fin 2) * 512 ≤ (i 0 : Nat) ∧ (i 0 : Nat) < win0_2.index t (0 : Fin 2) * 512 + 512
                rw [d0]; exact h
    | ⟨1, _⟩ => show win0_2.index t (1 : Fin 2) * 1024 ≤ (i 1 : Nat) ∧ (i 1 : Nat) < win0_2.index t (1 : Fin 2) * 1024 + 1024
                rw [d1, Nat.zero_mul, Nat.zero_add]; exact ⟨Nat.zero_le _, h1⟩

/-- The blocks tile the result array. -/
theorem cover (i : S8192x1024.Idx) :
    ∃ t : Fin cfg0.N, (cfg0.win 2).flush t = true ∧ i ∈ ((cfg0.win 2).blk t).view.set := by
  have h0 : (i 0 : Nat) < 8192 := (i 0).isLt
  have hN : cfg0.N = 16 := N_0
  have ht : (i 0 : Nat) / 512 < cfg0.N := by omega
  refine ⟨⟨(i 0 : Nat) / 512, ht⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

/-- The arrays the region finds are the arguments. -/
theorem entry (c : Dev nD) : V m c main_v0 = m ((c : Thread nD τ).loc main_arg0) := by
  show StableHlo.after _ _ _ = _
  simp only [hostOps0, List.flatten_cons, List.flatten_nil, List.append_nil]
  after_results; rfl

/-- The run, read: the result, the arguments unchanged. -/
theorem run : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c)))⟩) (run_main m ρ)

end Cert.Kernel6Ideal.Mixn

namespace Cert.Mixn

open Cert.Reference6Ideal Cert.Reference6Ideal.Gen Cert.Reference6Ideal.Read

/-- The derivative, read at a row and a column: the same sum. -/
theorem value (x0 : S1024x1024.Idx → EReal) (x1 : S8192x1024.Idx → EReal) (i : S8192x1024.Idx) :
    val_main_v2 (F := Ideal) x0 x1 i = ∑ k : Fin 1024, x1 (ix2 (i 0) k) * x0 (ix2 (i 1) k) := by
  rw [val_main_v2_apply]
  refine Finset.sum_congr rfl fun k _ => ?_
  rw [show lidx_main_v2 i k = ix2 (i 0) k from funext fun a => match a with | ⟨0, _⟩ => rfl | ⟨1, _⟩ => rfl,
    show ridx_main_v2 i k = ix2 (i 1) k from funext fun a => match a with | ⟨0, _⟩ => rfl | ⟨1, _⟩ => rfl]
  rfl

end Cert.Mixn

namespace Cert.Proof.MixnClaims

/-- The kernel's result and the reference's derivative are equal, element by element. -/
theorem algebraic : Cert.algebraic_Kernel6Ideal_Reference6Ideal (hKernel6Ideal := Cert.Kernel6Ideal.Gen.facts) (hReference6Ideal := Cert.Reference6Ideal.Gen.facts) := by
  intro m ρ m' ρ' _ hagree
  refine ⟨fun c => Cert.Kernel6Ideal.Mixn.G m c, Cert.Kernel6Ideal.Mixn.run m ρ, ?_⟩
  refine (θ_run Cert.Reference6Ideal.defs _ _).mono (fun _ h c => ⟨(h c).1.trans ?_, (h c).2⟩)
    (Cert.Reference6Ideal.Value.run (F := Ideal) m' ρ')
  rw [Cert.Reference6Ideal.Read.val_main_v2_eq, (hagree c).1, (hagree c).2]
  funext i
  refine (Cert.Mixn.value _ _ i).trans ?_
  show _ = Cert.Kernel6Ideal.Mixn.G0 (Cert.Kernel6Ideal.Gen.V m c Cert.Kernel6Ideal.main_arg1) (Cert.Kernel6Ideal.Gen.V m c Cert.Kernel6Ideal.main_v0) i
  rw [Cert.Kernel6Ideal.Gen.V_main_arg1 m c, Cert.Kernel6Ideal.Mixn.entry m c]
  rfl

/-- The reference's run leaves the arguments and the counters alone. -/
theorem reference : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run m ρ)

end Cert.Proof.MixnClaims

end
-- ==== Proof.WIn.lean ====
/-
  The derivative by the input projection's weight, its columns in four parts: what the kernel's result array ends
  holding, and that the reference's derivative is the same.
-/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.Value
public import Idealize.ShloMosaic.Lib.Pipeline.ReadBack
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel7Ideal.WIn

open Cert.Kernel7Ideal Cert.Kernel7Ideal.Gen

variable (m : (ℓ : Loc nD τ sig) → Buf (Elt Ideal) ℓ) (ρ : Dev nD → PrngReg)

theorem hz : (![0, 0] : Fin 2 → Nat) = fun _ => 0 := funext fun a => by fin_cases a <;> rfl

theorem zero_bits : (Ideal.ofBits .f32 0x00000000#32 : EReal) = 0 := by simp [Ideal.ofBits, Ideal.ieee]

/-- A tile's product read at a row and a column: the sum over the tile's rows. -/
theorem tile_dot (x : FVec Ideal S512x512 .bf16) (y : FVec Ideal S512x1024 .bf16) (j : S512x1024.Idx) :
    matmul dot_S512x512_S512x1024_S512x1024_0_0_1_1_n_n none x y (constant S512x1024 .f32 0x00000000#32) j
      = ∑ k : Fin 512, x (ix2 k (j 0)) * y (ix2 k (j 1)) := by
  show (Ideal.ofBits .f32 0x00000000#32 : EReal) + _ = _
  rw [zero_bits, zero_add,
    ← Equiv.sum_comp (contrEquiv1 dot_S512x512_S512x1024_S512x1024_0_0_1_1_n_n 512 rfl rfl).symm]
  refine Finset.sum_congr rfl fun k _ => ?_
  have hk := contrEquiv1_symm_val dot_S512x512_S512x1024_S512x1024_0_0_1_1_n_n 512 rfl rfl k
  congr 2
  · funext a
    apply Fin.ext
    match a with
    | ⟨0, _⟩ => exact (DotDims.lhsIdx_val_of_single _ rfl j _).trans hk
    | ⟨1, _⟩ =>
      unfold DotDims.lhsIdx
      rw [dif_neg (show ⟨1, _⟩ ∉ dot_S512x512_S512x1024_S512x1024_0_0_1_1_n_n.lhsBatch from by decide +revert),
        dif_pos (show ⟨1, _⟩ ∈ dot_S512x512_S512x1024_S512x1024_0_0_1_1_n_n.lhsNonContracting from by decide +revert)]; rfl
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S512x512_S512x1024_S512x1024_0_0_1_1_n_n.rhsBatch from by decide +revert),
        dif_pos (show ⟨1, _⟩ ∈ dot_S512x512_S512x1024_S512x1024_0_0_1_1_n_n.rhsNonContracting from by decide +revert)]; rfl

/-- A tile's product read at a row and a column: the sum over the tile's rows. -/
theorem tile_dot_wide (x : FVec Ideal S512x1024 .bf16) (y : FVec Ideal S512x1024 .bf16) (j : S1024x1024.Idx) :
    matmul dot_S512x1024_S512x1024_S1024x1024_0_0_1_1_n_n none x y (constant S1024x1024 .f32 0x00000000#32) j
      = ∑ k : Fin 512, x (ix2 k (j 0)) * y (ix2 k (j 1)) := by
  show (Ideal.ofBits .f32 0x00000000#32 : EReal) + _ = _
  rw [zero_bits, zero_add,
    ← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  congr 2
  · funext a
    apply Fin.ext
    match a with
    | ⟨0, _⟩ => exact (DotDims.lhsIdx_val_of_single _ rfl j _).trans hk
    | ⟨1, _⟩ =>
      unfold DotDims.lhsIdx
      rw [dif_neg (show ⟨1, _⟩ ∉ dot_S512x1024_S512x1024_S1024x1024_0_0_1_1_n_n.lhsBatch from by decide +revert),
        dif_pos (show ⟨1, _⟩ ∈ dot_S512x1024_S512x1024_S1024x1024_0_0_1_1_n_n.lhsNonContracting from by decide +revert)]; rfl
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S512x1024_S512x1024_S1024x1024_0_0_1_1_n_n.rhsBatch from by decide +revert),
        dif_pos (show ⟨1, _⟩ ∈ dot_S512x1024_S512x1024_S1024x1024_0_0_1_1_n_n.rhsNonContracting from by decide +revert)]; rfl

/-- A product of two extended reals. -/
abbrev times (x y : EReal) : EReal := x * y

/-- What one step leaves in a part of the running sum: what it held plus the product of the two tiles. -/
theorem pay5_apply (y : Vec Ideal S512x1024 .f32) (x : Vec Ideal S512x512 .bf16) (s : Vec Ideal S512x1024 .f32) (j : S512x1024.Idx) :
    k0_pay5 y x s j = s j + ∑ k : Fin 512, times (x (ix2 k (j 0))) (y (ix2 k (j 1))) := by
  show shapeCast S512x1024 (addf s (matmul (F := Ideal) dot_S512x512_S512x1024_S512x1024_0_0_1_1_n_n none
    (shapeCast S512x512 x shapeCasts_S512x512_S512x512) (truncf .bf16 y bitsLt_bf16_f32) (constant S512x1024 .f32 0x00000000#32))) shapeCasts_S512x1024_S512x1024 j = _
  rw [shapeCast_self, shapeCast_self]
  exact congrArg (s j + ·) (tile_dot _ _ j)

/-- What one step leaves in a part of the running sum: what it held plus the product of the two tiles. -/
theorem pay6_apply (y : Vec Ideal S512x1024 .f32) (x : Vec Ideal S512x512 .bf16) (s : Vec Ideal S512x1024 .f32) (j : S512x1024.Idx) :
    k0_pay6 y x s j = s j + ∑ k : Fin 512, times (x (ix2 k (j 0))) (y (ix2 k (j 1))) := by
  show shapeCast S512x1024 (addf s (matmul (F := Ideal) dot_S512x512_S512x1024_S512x1024_0_0_1_1_n_n none
    (shapeCast S512x512 x shapeCasts_S512x512_S512x512) (truncf .bf16 y bitsLt_bf16_f32) (constant S512x1024 .f32 0x00000000#32))) shapeCasts_S512x1024_S512x1024 j = _
  rw [shapeCast_self, shapeCast_self]
  exact congrArg (s j + ·) (tile_dot _ _ j)

/-- What one step leaves in a part of the running sum: what it held plus the product of the two tiles. -/
theorem pay7_apply (y : Vec Ideal S512x1024 .f32) (x : Vec Ideal S512x512 .bf16) (s : Vec Ideal S512x1024 .f32) (j : S512x1024.Idx) :
    k0_pay7 y x s j = s j + ∑ k : Fin 512, times (x (ix2 k (j 0))) (y (ix2 k (j 1))) := by
  show shapeCast S512x1024 (addf s (matmul (F := Ideal) dot_S512x512_S512x1024_S512x1024_0_0_1_1_n_n none
    (shapeCast S512x512 x shapeCasts_S512x512_S512x512) (truncf .bf16 y bitsLt_bf16_f32) (constant S512x1024 .f32 0x00000000#32))) shapeCasts_S512x1024_S512x1024 j = _
  rw [shapeCast_self, shapeCast_self]
  exact congrArg (s j + ·) (tile_dot _ _ j)

/-- What one step leaves in the last part of the running sum. -/
theorem pay1_apply (y : Vec Ideal S512x1024 .f32) (x : Vec Ideal S512x1024 .bf16) (s : Vec Ideal S1024x1024 .f32) (j : S1024x1024.Idx) :
    k0_pay1 (k0_pay4 y) x s j = s j + ∑ k : Fin 512, times (x (ix2 k (j 0))) (y (ix2 k (j 1))) := by
  show shapeCast S1024x1024 (addf s (matmul (F := Ideal) dot_S512x1024_S512x1024_S1024x1024_0_0_1_1_n_n none
    (shapeCast S512x1024 x shapeCasts_S512x1024_S512x1024) (truncf .bf16 y bitsLt_bf16_f32) (constant S1024x1024 .f32 0x00000000#32))) shapeCasts_S1024x1024_S1024x1024 j = _
  rw [shapeCast_self, shapeCast_self]
  exact congrArg (s j + ·) (tile_dot_wide _ _ j)

/-- The running sum starts at zero. -/
theorem start_apply (j : S2560x1024.Idx) : k0_pay3 (F := Ideal) j = 0 := by
  show shapeCast S2560x1024 (broadcast S2560x1024 (Scalar.ofBits (F := Ideal) .f32 0x00000000#32)) shapeCasts_S2560x1024_S2560x1024 j = _
  rw [shapeCast_self]
  exact zero_bits

/-- Column `r` of the four parts side by side, at row `k`. -/
def col {n : Nat} (a b c : (⟨2, ![n, 512]⟩ : Shape).Idx → EReal) (d : (⟨2, ![n, 1024]⟩ : Shape).Idx → EReal) (k : Fin n) (r : Fin 2560) : EReal :=
  if h0 : r.val < 512 then a (ix2 k ⟨r.val, h0⟩)
  else if h1 : r.val < 1024 then b (ix2 k ⟨r.val - 512, by omega⟩)
  else if h2 : r.val < 1536 then c (ix2 k ⟨r.val - 1024, by omega⟩)
  else d (ix2 k ⟨r.val - 1536, by omega⟩)

section
variable {n : Nat} (a b c : (⟨2, ![n, 512]⟩ : Shape).Idx → EReal) (d : (⟨2, ![n, 1024]⟩ : Shape).Idx → EReal) (k : Fin n) (r : Fin 2560)

theorem col_0 (p : Fin 512) (h : r.val = p.val) : col a b c d k r = a (ix2 k p) := by
  have := p.isLt
  unfold col
  rw [dif_pos (show r.val < 512 by omega)]
  exact congrArg (fun z => a (ix2 k z)) (Fin.ext h)

theorem col_1 (p : Fin 512) (h : r.val = 512 + p.val) : col a b c d k r = b (ix2 k p) := by
  have := p.isLt
  unfold col
  rw [dif_neg (show ¬r.val < 512 by omega), dif_pos (show r.val < 1024 by omega)]
  exact congrArg (fun z => b (ix2 k z)) (Fin.ext (by show r.val - 512 = p.val; omega))

theorem col_2 (p : Fin 512) (h : r.val = 1024 + p.val) : col a b c d k r = c (ix2 k p) := by
  have := p.isLt
  unfold col
  rw [dif_neg (show ¬r.val < 512 by omega), dif_neg (show ¬r.val < 1024 by omega), dif_pos (show r.val < 1536 by omega)]
  exact congrArg (fun z => c (ix2 k z)) (Fin.ext (by show r.val - 1024 = p.val; omega))

theorem col_3 (p : Fin 1024) (h : r.val = 1536 + p.val) : col a b c d k r = d (ix2 k p) := by
  have := p.isLt
  unfold col
  rw [dif_neg (show ¬r.val < 512 by omega), dif_neg (show ¬r.val < 1024 by omega), dif_neg (show ¬r.val < 1536 by omega)]
  exact congrArg (fun z => d (ix2 k z)) (Fin.ext (by show r.val - 1536 = p.val; omega))

end

/-- What one step leaves in the running sum: what it held plus the product of the four parts' tiles with the input's. -/
def step (x0 x1 x2 : S512x512.Idx → EReal) (x3 y : S512x1024.Idx → EReal) (s : S2560x1024.Idx → EReal) (i : S2560x1024.Idx) : EReal :=
  s i + ∑ k : Fin 512, times (col x0 x1 x2 x3 k (i 0)) (y (ix2 k (i 1)))

abbrev q0 : Rect S2560x1024 := Rect.unit (s := S2560x1024) ![0, 0] S512x1024.size inb_S2560x1024_S512x1024_0_0

abbrev q1 : Rect S2560x1024 := Rect.unit (s := S2560x1024) ![512, 0] S512x1024.size inb_S2560x1024_S512x1024_512_0

abbrev q2 : Rect S2560x1024 := Rect.unit (s := S2560x1024) ![1024, 0] S512x1024.size inb_S2560x1024_S512x1024_1024_0

abbrev q3 : Rect S2560x1024 := Rect.unit (s := S2560x1024) ![1536, 0] S1024x1024.size inb_S2560x1024_S1024x1024_1536_0

theorem off_q1 (i : S2560x1024.Idx) (hm : i ∈ q1.set) : 512 ≤ (i 0).val :=
  ((Rect.mem_set_unit (inb := inb_S2560x1024_S512x1024_512_0)).mp hm 0).1

theorem drop_1 (w : q1.shape.Idx → Elt Ideal .f32) (L : List (View.Piece (Elt Ideal) S2560x1024 (.f32 : EltTy))) (i : S2560x1024.Idx)
    (h : ¬512 ≤ (i 0).val) : View.canon (⟨q1, w⟩ :: L) i = View.canon L i :=
  View.canon_cons_of_not_mem ⟨q1, w⟩ L (fun hm => h (off_q1 i hm))

theorem off_q2 (i : S2560x1024.Idx) (hm : i ∈ q2.set) : 1024 ≤ (i 0).val :=
  ((Rect.mem_set_unit (inb := inb_S2560x1024_S512x1024_1024_0)).mp hm 0).1

theorem drop_2 (w : q2.shape.Idx → Elt Ideal .f32) (L : List (View.Piece (Elt Ideal) S2560x1024 (.f32 : EltTy))) (i : S2560x1024.Idx)
    (h : ¬1024 ≤ (i 0).val) : View.canon (⟨q2, w⟩ :: L) i = View.canon L i :=
  View.canon_cons_of_not_mem ⟨q2, w⟩ L (fun hm => h (off_q2 i hm))

theorem off_q3 (i : S2560x1024.Idx) (hm : i ∈ q3.set) : 1536 ≤ (i 0).val :=
  ((Rect.mem_set_unit (inb := inb_S2560x1024_S1024x1024_1536_0)).mp hm 0).1

theorem drop_3 (w : q3.shape.Idx → Elt Ideal .f32) (L : List (View.Piece (Elt Ideal) S2560x1024 (.f32 : EltTy))) (i : S2560x1024.Idx)
    (h : ¬1536 ≤ (i 0).val) : View.canon (⟨q3, w⟩ :: L) i = View.canon L i :=
  View.canon_cons_of_not_mem ⟨q3, w⟩ L (fun hm => h (off_q3 i hm))

theorem fill_0 (Z : S2560x1024.Idx → Elt Ideal .f32)  : (View.whole cc0_scratch0).readCov (Val := Elt Ideal) [⟨Rect.unit ![0, 0] S2560x1024.size inb_S2560x1024_S2560x1024_0_0, Z⟩] q0.toLoadRect = View.ld Z q0 := by
  rw [View.readCov_fill _ _ Z _ _ (fun a => by fin_cases a <;> rfl)]

theorem fill_1 (Z : S2560x1024.Idx → Elt Ideal .f32) (A0 : q0.shape.Idx → Elt Ideal .f32) : (View.whole cc0_scratch0).readCov (Val := Elt Ideal) [⟨q0, A0⟩, ⟨Rect.unit ![0, 0] S2560x1024.size inb_S2560x1024_S2560x1024_0_0, Z⟩] q1.toLoadRect = View.ld Z q1 := by
  rw [View.readCov_skip _ _ _ _ _ (by decide +kernel), View.readCov_fill _ _ Z _ _ (fun a => by fin_cases a <;> rfl)]

theorem fill_2 (Z : S2560x1024.Idx → Elt Ideal .f32) (A0 : q0.shape.Idx → Elt Ideal .f32) (A1 : q1.shape.Idx → Elt Ideal .f32) : (View.whole cc0_scratch0).readCov (Val := Elt Ideal) [⟨q1, A1⟩, ⟨q0, A0⟩, ⟨Rect.unit ![0, 0] S2560x1024.size inb_S2560x1024_S2560x1024_0_0, Z⟩] q2.toLoadRect = View.ld Z q2 := by
  rw [View.readCov_skip _ _ _ _ _ (by decide +kernel), View.readCov_skip _ _ _ _ _ (by decide +kernel), View.readCov_fill _ _ Z _ _ (fun a => by fin_cases a <;> rfl)]

theorem fill_3 (Z : S2560x1024.Idx → Elt Ideal .f32) (A0 : q0.shape.Idx → Elt Ideal .f32) (A1 : q1.shape.Idx → Elt Ideal .f32) (A2 : q2.shape.Idx → Elt Ideal .f32) : (View.whole cc0_scratch0).readCov (Val := Elt Ideal) [⟨q2, A2⟩, ⟨q1, A1⟩, ⟨q0, A0⟩, ⟨Rect.unit ![0, 0] S2560x1024.size inb_S2560x1024_S2560x1024_0_0, Z⟩] q3.toLoadRect = View.ld Z q3 := by
  rw [View.readCov_skip _ _ _ _ _ (by decide +kernel), View.readCov_skip _ _ _ _ _ (by decide +kernel), View.readCov_skip _ _ _ _ _ (by decide +kernel), View.readCov_fill _ _ Z _ _ (fun a => by fin_cases a <;> rfl)]

theorem piece_0 (x0 x1 x2 : Vec Ideal S512x512 .bf16) (x3 : Vec Ideal S512x1024 .bf16) (y : Vec Ideal S512x1024 .f32)
    (s : Vec Ideal S2560x1024 .f32) (x : S512x1024.Idx) : k0_pay5 y x0 (View.ld s q0) x = step x0 x1 x2 x3 y s (q0.emb x) := by
  refine (pay5_apply y x0 _ x).trans ?_
  unfold step
  refine congrArg₂ (fun u v : EReal => u + v) rfl (Finset.sum_congr rfl fun k _ => congrArg₂ times (col_0 _ _ _ _ k _ (x 0) ?_).symm (congrArg y ?_))
  · show 0 + 1 * (x 0).val = (x 0).val; omega
  · funext a; apply Fin.ext
    match a with
    | ⟨0, _⟩ => rfl
    | ⟨1, _⟩ => show (x 1).val = 0 + 1 * (x 1).val; omega

theorem piece_1 (x0 x1 x2 : Vec Ideal S512x512 .bf16) (x3 : Vec Ideal S512x1024 .bf16) (y : Vec Ideal S512x1024 .f32)
    (s : Vec Ideal S2560x1024 .f32) (x : S512x1024.Idx) : k0_pay6 y x1 (View.ld s q1) x = step x0 x1 x2 x3 y s (q1.emb x) := by
  refine (pay6_apply y x1 _ x).trans ?_
  unfold step
  refine congrArg₂ (fun u v : EReal => u + v) rfl (Finset.sum_congr rfl fun k _ => congrArg₂ times (col_1 _ _ _ _ k _ (x 0) ?_).symm (congrArg y ?_))
  · show 512 + 1 * (x 0).val = 512 + (x 0).val; omega
  · funext a; apply Fin.ext
    match a with
    | ⟨0, _⟩ => rfl
    | ⟨1, _⟩ => show (x 1).val = 0 + 1 * (x 1).val; omega

theorem piece_2 (x0 x1 x2 : Vec Ideal S512x512 .bf16) (x3 : Vec Ideal S512x1024 .bf16) (y : Vec Ideal S512x1024 .f32)
    (s : Vec Ideal S2560x1024 .f32) (x : S512x1024.Idx) : k0_pay7 y x2 (View.ld s q2) x = step x0 x1 x2 x3 y s (q2.emb x) := by
  refine (pay7_apply y x2 _ x).trans ?_
  unfold step
  refine congrArg₂ (fun u v : EReal => u + v) rfl (Finset.sum_congr rfl fun k _ => congrArg₂ times (col_2 _ _ _ _ k _ (x 0) ?_).symm (congrArg y ?_))
  · show 1024 + 1 * (x 0).val = 1024 + (x 0).val; omega
  · funext a; apply Fin.ext
    match a with
    | ⟨0, _⟩ => rfl
    | ⟨1, _⟩ => show (x 1).val = 0 + 1 * (x 1).val; omega

theorem piece_3 (x0 x1 x2 : Vec Ideal S512x512 .bf16) (x3 : Vec Ideal S512x1024 .bf16) (y : Vec Ideal S512x1024 .f32)
    (s : Vec Ideal S2560x1024 .f32) (x : S1024x1024.Idx) : k0_pay1 (k0_pay4 y) x3 (View.ld s q3) x = step x0 x1 x2 x3 y s (q3.emb x) := by
  refine (pay1_apply y x3 _ x).trans ?_
  unfold step
  refine congrArg₂ (fun u v : EReal => u + v) rfl (Finset.sum_congr rfl fun k _ => congrArg₂ times (col_3 _ _ _ _ k _ (x 0) ?_).symm (congrArg y ?_))
  · show 1536 + 1 * (x 0).val = 1536 + (x 0).val; omega
  · funext a; apply Fin.ext
    match a with
    | ⟨0, _⟩ => rfl
    | ⟨1, _⟩ => show (x 1).val = 0 + 1 * (x 1).val; omega

theorem at_0 (i : S2560x1024.Idx) (h1 : ¬512 ≤ (i 0).val) : ∃ x : S512x1024.Idx, i = q0.emb x := by
  have hi0 : (i 0).val < 2560 := (i 0).isLt
  have hi1 : (i 1).val < 1024 := (i 1).isLt
  have hk : (i 0).val - 0 < 512 := by omega
  refine ⟨ix2 ⟨(i 0).val - 0, hk⟩ ⟨(i 1).val, hi1⟩, ?_⟩
  funext a; apply Fin.ext
  match a with
  | ⟨0, _⟩ => show (i 0).val = 0 + 1 * ((i 0).val - 0); omega
  | ⟨1, _⟩ => show (i 1).val = 0 + 1 * (i 1).val; omega

theorem at_1 (i : S2560x1024.Idx) (h : 512 ≤ (i 0).val) (h1 : ¬1024 ≤ (i 0).val) : ∃ x : S512x1024.Idx, i = q1.emb x := by
  have hi0 : (i 0).val < 2560 := (i 0).isLt
  have hi1 : (i 1).val < 1024 := (i 1).isLt
  have hk : (i 0).val - 512 < 512 := by omega
  refine ⟨ix2 ⟨(i 0).val - 512, hk⟩ ⟨(i 1).val, hi1⟩, ?_⟩
  funext a; apply Fin.ext
  match a with
  | ⟨0, _⟩ => show (i 0).val = 512 + 1 * ((i 0).val - 512); omega
  | ⟨1, _⟩ => show (i 1).val = 0 + 1 * (i 1).val; omega

theorem at_2 (i : S2560x1024.Idx) (h : 1024 ≤ (i 0).val) (h1 : ¬1536 ≤ (i 0).val) : ∃ x : S512x1024.Idx, i = q2.emb x := by
  have hi0 : (i 0).val < 2560 := (i 0).isLt
  have hi1 : (i 1).val < 1024 := (i 1).isLt
  have hk : (i 0).val - 1024 < 512 := by omega
  refine ⟨ix2 ⟨(i 0).val - 1024, hk⟩ ⟨(i 1).val, hi1⟩, ?_⟩
  funext a; apply Fin.ext
  match a with
  | ⟨0, _⟩ => show (i 0).val = 1024 + 1 * ((i 0).val - 1024); omega
  | ⟨1, _⟩ => show (i 1).val = 0 + 1 * (i 1).val; omega

theorem at_3 (i : S2560x1024.Idx) (h : 1536 ≤ (i 0).val) : ∃ x : S1024x1024.Idx, i = q3.emb x := by
  have hi0 : (i 0).val < 2560 := (i 0).isLt
  have hi1 : (i 1).val < 1024 := (i 1).isLt
  have hk : (i 0).val - 1536 < 1024 := by omega
  refine ⟨ix2 ⟨(i 0).val - 1536, hk⟩ ⟨(i 1).val, hi1⟩, ?_⟩
  funext a; apply Fin.ext
  match a with
  | ⟨0, _⟩ => show (i 0).val = 1536 + 1 * ((i 0).val - 1536); omega
  | ⟨1, _⟩ => show (i 1).val = 0 + 1 * (i 1).val; omega

theorem pay2_eq (v : Vec Ideal S2560x1024 .f32) : k0_pay2 v = v := rfl

/-- The four parts stored one after another hold one step of the running sum, whatever was stored before. -/
theorem canon_step (x0 x1 x2 : Vec Ideal S512x512 .bf16) (x3 : Vec Ideal S512x1024 .bf16) (y : Vec Ideal S512x1024 .f32)
    (s : Vec Ideal S2560x1024 .f32) (T : List (View.Piece (Elt Ideal) S2560x1024 (.f32 : EltTy))) :
    View.canon (⟨q3, k0_pay1 (k0_pay4 y) x3 (View.ld s q3)⟩ :: ⟨q2, k0_pay7 y x2 (View.ld s q2)⟩ :: ⟨q1, k0_pay6 y x1 (View.ld s q1)⟩ :: ⟨q0, k0_pay5 y x0 (View.ld s q0)⟩ :: T) = step x0 x1 x2 x3 y s := by
  funext i
  by_cases h3 : 1536 ≤ (i 0).val
  · obtain ⟨x, hx⟩ := at_3 i h3
    exact (congrArg _ hx).trans ((View.canon_cons_emb q3 _ _ x).trans ((piece_3 x0 x1 x2 x3 y s x).trans (congrArg (step x0 x1 x2 x3 y s) hx.symm)))
  refine (drop_3 _ _ i h3).trans ?_
  by_cases h2 : 1024 ≤ (i 0).val
  · obtain ⟨x, hx⟩ := at_2 i h2 h3
    exact (congrArg _ hx).trans ((View.canon_cons_emb q2 _ _ x).trans ((piece_2 x0 x1 x2 x3 y s x).trans (congrArg (step x0 x1 x2 x3 y s) hx.symm)))
  refine (drop_2 _ _ i h2).trans ?_
  by_cases h1 : 512 ≤ (i 0).val
  · obtain ⟨x, hx⟩ := at_1 i h1 h2
    exact (congrArg _ hx).trans ((View.canon_cons_emb q1 _ _ x).trans ((piece_1 x0 x1 x2 x3 y s x).trans (congrArg (step x0 x1 x2 x3 y s) hx.symm)))
  refine (drop_1 _ _ i h1).trans ?_
  obtain ⟨x, hx⟩ := at_0 i h1
  exact (congrArg _ hx).trans ((View.canon_cons_emb q0 _ _ x).trans ((piece_0 x0 x1 x2 x3 y s x).trans (congrArg (step x0 x1 x2 x3 y s) hx.symm)))

/-- A load of the whole buffer after the four stores reads one step of the running sum. -/
theorem load_step (x0 x1 x2 : Vec Ideal S512x512 .bf16) (x3 : Vec Ideal S512x1024 .bf16) (y : Vec Ideal S512x1024 .f32) (s : Vec Ideal S2560x1024 .f32) :
    (View.whole cc0_scratch0).readCov (Val := Elt Ideal) [⟨q3, k0_pay1 (k0_pay4 y) x3 (View.ld s q3)⟩, ⟨q2, k0_pay7 y x2 (View.ld s q2)⟩, ⟨q1, k0_pay6 y x1 (View.ld s q1)⟩, ⟨q0, k0_pay5 y x0 (View.ld s q0)⟩]
      (Rect.unit (s := S2560x1024) ![0, 0] S2560x1024.size inb_S2560x1024_S2560x1024_0_0).toLoadRect = step x0 x1 x2 x3 y s := by
  rw [View.readCov_eq_canon', canon_step]
  funext j
  refine congrArg (step x0 x1 x2 x3 y s) ?_
  funext a; apply Fin.ext
  match a with
  | ⟨0, _⟩ => show 0 + 1 * (j 0).val = (j 0).val; omega
  | ⟨1, _⟩ => show 0 + 1 * (j 1).val = (j 1).val; omega

theorem sout_A (c : Dev nD) (t : Fin cfg0.N) (h0 : t.val % 16 = 0) (h1 : ¬t.val % 16 = 15) :
    (outsAt0 m c t.val t.isLt).2 = step (iblk m c 0 t) (iblk m c 1 t) (iblk m c 2 t) (iblk m c 3 t) (iblk m c 4 t) (k0_pay3 (F := Ideal)) := by
  rw [outsAt0_A m c t h0 h1]
  dsimp only
  unfold sout0_A_0
  rw [View.read_writes_eq_canon _ _ _ (scover0_A_0 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, View.ld_unit_zero (S := S512x512) hz, View.ld_unit_zero (S := S512x1024) hz]
  rw [fill_3, fill_2, fill_1, fill_0]
  exact canon_step _ _ _ _ _ _ _

theorem sout_B (c : Dev nD) (t : Fin cfg0.N) (h0 : ¬t.val % 16 = 0) (h1 : ¬t.val % 16 = 15) :
    (outsAt0 m c t.val t.isLt).2 = step (iblk m c 0 t) (iblk m c 1 t) (iblk m c 2 t) (iblk m c 3 t) (iblk m c 4 t) (outsAt0 m c (t.val - 1) (by omega)).2 := by
  rw [outsAt0_B m c t h0 h1]
  dsimp only
  unfold sout0_B_0
  rw [View.read_writes_eq_canon _ _ _ (scover0_B_0 c _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, View.ld_unit_zero (S := S512x512) hz, View.ld_unit_zero (S := S512x1024) hz]
  exact canon_step _ _ _ _ _ _ _

theorem sout_C (c : Dev nD) (t : Fin cfg0.N) (h0 : ¬t.val % 16 = 0) (h1 : t.val % 16 = 15) :
    (outsAt0 m c t.val t.isLt).2 = step (iblk m c 0 t) (iblk m c 1 t) (iblk m c 2 t) (iblk m c 3 t) (iblk m c 4 t) (outsAt0 m c (t.val - 1) (by omega)).2 := by
  rw [outsAt0_C m c t h0 h1]
  dsimp only
  unfold sout0_C_0
  rw [View.read_writes_eq_canon _ _ _ (scover0_C_0 c _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, View.ld_unit_zero (S := S512x512) hz, View.ld_unit_zero (S := S512x1024) hz]
  exact canon_step _ _ _ _ _ _ _

/-- At the last step the output's block is the running sum. -/
theorem out_C (c : Dev nD) (t : Fin cfg0.N) (h0 : ¬t.val % 16 = 0) (h1 : t.val % 16 = 15) :
    (outsAt0 m c t.val t.isLt).1 = (outsAt0 m c t.val t.isLt).2 := by
  rw [sout_C m c t h0 h1, outsAt0_C m c t h0 h1]
  dsimp only
  unfold out0_C_5
  rw [View.read_writes_eq_canon _ _ _ (cover0_C_5 c _ _ _ _ _ _ _ _ _ _ _ _ _ _ _ _ _ _ _ _ _ _ _)]
  unfold kernelRun0_C
  dsimp only
  sl_unfold_words
  rw [View.canon_unit_zero (S := S2560x1024) hz]
  simp only [View.readAt_eq_ld, (hs0_0 t).read_unread, (hs0_1 t).read_unread, (hs0_2 t).read_unread, (hs0_3 t).read_unread, (hs0_4 t).read_unread, (Memref.isWhole_whole cc0_scratch0).read_unread, View.ld_unit_zero (S := S512x512) hz, View.ld_unit_zero (S := S512x1024) hz]
  rw [pay2_eq]
  exact load_step _ _ _ _ _ _

/-- A product's summand at a row of the arrays, zero past the last row. -/
def term (u0 u1 u2 : S8192x512.Idx → EReal) (u3 y : S8192x1024.Idx → EReal) (p : Fin 2560) (q : Fin 1024) (k : ℕ) : EReal :=
  if h : k < 8192 then times (col u0 u1 u2 u3 ⟨k, h⟩ p) (y (ix2 ⟨k, h⟩ q)) else 0

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- A column of the four parts' tiles is the arrays' column at the tile's row. -/
theorem col_read (t : Fin cfg0.N) (U0 : main_v4.ty.Contents (Elt Ideal)) (U1 : main_v5.ty.Contents (Elt Ideal)) (U2 : main_v6.ty.Contents (Elt Ideal))
    (U3 : main_v7.ty.Contents (Elt Ideal)) (k : Fin 512) (r : Fin 2560) (hk : t.val * 512 + k.val < 8192) :
    col (n := 512) (((cfg0.win 0).blk t).view.read (Elt Ideal) U0 : S512x512.Idx → EReal) (((cfg0.win 1).blk t).view.read (Elt Ideal) U1 : S512x512.Idx → EReal)
        (((cfg0.win 2).blk t).view.read (Elt Ideal) U2 : S512x512.Idx → EReal) (((cfg0.win 3).blk t).view.read (Elt Ideal) U3 : S512x1024.Idx → EReal) k r
      = col (n := 8192) U0 U1 U2 U3 ⟨t.val * 512 + k.val, hk⟩ r := by
  obtain ⟨a0, a1, b0, b1, c0, c1, d0, d1, -⟩ := idx_facts t
  have hr := r.isLt
  by_cases h3 : 1536 ≤ r.val
  · have hp : r.val = 1536 + (r.val - 1536) := by omega
    refine (col_3 _ _ _ _ k r ⟨r.val - 1536, by omega⟩ hp).trans (Eq.trans (congrArg U3 ?_) (col_3 U0 U1 U2 U3 ⟨t.val * 512 + k.val, hk⟩ r ⟨r.val - 1536, by omega⟩ hp).symm)
    funext a; apply Fin.ext
    match a with
    | ⟨0, _⟩ => show win0_3.index t (0 : Fin 2) * 512 + 1 * k.val = t.val * 512 + k.val; rw [d0, Nat.one_mul]
    | ⟨1, _⟩ => show win0_3.index t (1 : Fin 2) * 1024 + 1 * (r.val - 1536) = r.val - 1536; rw [d1, Nat.zero_mul, Nat.zero_add, Nat.one_mul]
  by_cases h2 : 1024 ≤ r.val
  · have hp : r.val = 1024 + (r.val - 1024) := by omega
    refine (col_2 _ _ _ _ k r ⟨r.val - 1024, by omega⟩ hp).trans (Eq.trans (congrArg U2 ?_) (col_2 U0 U1 U2 U3 ⟨t.val * 512 + k.val, hk⟩ r ⟨r.val - 1024, by omega⟩ hp).symm)
    funext a; apply Fin.ext
    match a with
    | ⟨0, _⟩ => show win0_2.index t (0 : Fin 2) * 512 + 1 * k.val = t.val * 512 + k.val; rw [c0, Nat.one_mul]
    | ⟨1, _⟩ => show win0_2.index t (1 : Fin 2) * 512 + 1 * (r.val - 1024) = r.val - 1024; rw [c1, Nat.zero_mul, Nat.zero_add, Nat.one_mul]
  by_cases h1 : 512 ≤ r.val
  · have hp : r.val = 512 + (r.val - 512) := by omega
    refine (col_1 _ _ _ _ k r ⟨r.val - 512, by omega⟩ hp).trans (Eq.trans (congrArg U1 ?_) (col_1 U0 U1 U2 U3 ⟨t.val * 512 + k.val, hk⟩ r ⟨r.val - 512, by omega⟩ hp).symm)
    funext a; apply Fin.ext
    match a with
    | ⟨0, _⟩ => show win0_1.index t (0 : Fin 2) * 512 + 1 * k.val = t.val * 512 + k.val; rw [b0, Nat.one_mul]
    | ⟨1, _⟩ => show win0_1.index t (1 : Fin 2) * 512 + 1 * (r.val - 512) = r.val - 512; rw [b1, Nat.zero_mul, Nat.zero_add, Nat.one_mul]
  have hp : r.val = (r.val - 0) := by omega
  refine (col_0 _ _ _ _ k r ⟨r.val - 0, by omega⟩ hp).trans (Eq.trans (congrArg U0 ?_) (col_0 U0 U1 U2 U3 ⟨t.val * 512 + k.val, hk⟩ r ⟨r.val - 0, by omega⟩ hp).symm)
  funext a; apply Fin.ext
  match a with
  | ⟨0, _⟩ => show win0_0.index t (0 : Fin 2) * 512 + 1 * k.val = t.val * 512 + k.val; rw [a0, Nat.one_mul]
  | ⟨1, _⟩ => show win0_0.index t (1 : Fin 2) * 512 + 1 * (r.val - 0) = r.val - 0; rw [a1, Nat.zero_mul, Nat.zero_add, Nat.one_mul]

/-- The product of a point's tiles is the arrays' summands over the tile's rows. -/
theorem tile_sum (t : Fin cfg0.N) (U0 : main_v4.ty.Contents (Elt Ideal)) (U1 : main_v5.ty.Contents (Elt Ideal)) (U2 : main_v6.ty.Contents (Elt Ideal))
    (U3 : main_v7.ty.Contents (Elt Ideal)) (Y : main_arg0.ty.Contents (Elt Ideal)) (j : S2560x1024.Idx) :
    (∑ k : Fin 512, times (col (n := 512) (((cfg0.win 0).blk t).view.read (Elt Ideal) U0 : S512x512.Idx → EReal) (((cfg0.win 1).blk t).view.read (Elt Ideal) U1 : S512x512.Idx → EReal)
        (((cfg0.win 2).blk t).view.read (Elt Ideal) U2 : S512x512.Idx → EReal) (((cfg0.win 3).blk t).view.read (Elt Ideal) U3 : S512x1024.Idx → EReal) k (j 0))
        ((((cfg0.win 4).blk t).view.read (Elt Ideal) Y : S512x1024.Idx → EReal) (ix2 k (j 1))))
      = ∑ k ∈ Finset.range 512, term U0 U1 U2 U3 Y (j 0) (j 1) (t.val * 512 + k) := by
  obtain ⟨-, -, -, -, -, -, -, -, e0, e1, -⟩ := idx_facts t
  have hN : cfg0.N = 16 := N_0
  have ht := t.isLt
  rw [Finset.sum_range]
  refine Finset.sum_congr rfl fun k _ => ?_
  have hk : t.val * 512 + k.val < 8192 := by have := k.isLt; omega
  unfold term
  rw [dif_pos hk]
  refine congrArg₂ times (col_read t U0 U1 U2 U3 k (j 0) hk) (congrArg Y ?_)
  funext a; apply Fin.ext
  match a with
  | ⟨0, _⟩ => show win0_4.index t (0 : Fin 2) * 512 + 1 * k.val = t.val * 512 + k.val; rw [e0, Nat.one_mul]
  | ⟨1, _⟩ => show win0_4.index t (1 : Fin 2) * 1024 + 1 * (j 1).val = (j 1).val; rw [e1, Nat.zero_mul, Nat.zero_add, Nat.one_mul]

/-- After a point the running sum holds the summands of every row up to the end of the point's rows. -/
theorem chain (c : Dev nD) : ∀ (n : ℕ) (hn : n < cfg0.N) (j : S2560x1024.Idx),
    ((outsAt0 m c n hn).2 : S2560x1024.Idx → EReal) j
      = ∑ k ∈ Finset.range (n * 512 + 512), term (V m c main_v4) (V m c main_v5) (V m c main_v6) (V m c main_v7) (V m c main_arg0) (j 0) (j 1) k := by
  intro n
  induction n with
  | zero =>
    intro hn j
    rw [sout_A m c ⟨0, hn⟩ (by rfl) (show ¬0 % 16 = 15 by decide)]
    unfold step
    rw [start_apply, zero_add]
    refine (tile_sum ⟨0, hn⟩ (V m c main_v4) (V m c main_v5) (V m c main_v6) (V m c main_v7) (V m c main_arg0) j).trans ?_
    refine Finset.sum_congr (by norm_num) fun k _ => ?_
    show term _ _ _ _ _ _ _ (0 * 512 + k) = _
    rw [Nat.zero_mul, Nat.zero_add]
  | succ n ih =>
    intro hn j
    have hN : cfg0.N = 16 := N_0
    have h0 : ¬(n + 1) % 16 = 0 := by omega
    have hs : ((outsAt0 m c (n + 1) hn).2 : S2560x1024.Idx → EReal) = step (iblk m c 0 ⟨n + 1, hn⟩) (iblk m c 1 ⟨n + 1, hn⟩) (iblk m c 2 ⟨n + 1, hn⟩)
        (iblk m c 3 ⟨n + 1, hn⟩) (iblk m c 4 ⟨n + 1, hn⟩) (outsAt0 m c n (by omega)).2 := by
      by_cases h1 : (n + 1) % 16 = 15
      · exact sout_C m c ⟨n + 1, hn⟩ h0 h1
      · exact sout_B m c ⟨n + 1, hn⟩ h0 h1
    rw [hs]
    unfold step
    refine (congrArg₂ (fun u v : EReal => u + v) (ih (by omega) j) (tile_sum ⟨n + 1, hn⟩ (V m c main_v4) (V m c main_v5) (V m c main_v6) (V m c main_v7) (V m c main_arg0) j)).trans ?_
    have e1 : (n + 1) * 512 = n * 512 + 512 := by omega
    show _ + ∑ k ∈ Finset.range 512, term _ _ _ _ _ (j 0) (j 1) ((n + 1) * 512 + k) = _
    rw [e1]
    exact (Finset.sum_range_add (fun k => term (V m c main_v4) (V m c main_v5) (V m c main_v6) (V m c main_v7) (V m c main_arg0) (j 0) (j 1) k) (n * 512 + 512) 512).symm

/-- The derivative at a row and a column from the four parts of the cotangent's columns and the layer's input; rows and
    columns are the other way round than in the weight. -/
def G0 (u0 u1 u2 : S8192x512.Idx → EReal) (u3 y : S8192x1024.Idx → EReal) (i : S2560x1024.Idx) : EReal :=
  ∑ k : Fin 8192, times (col u0 u1 u2 u3 k (i 0)) (y (ix2 k (i 1)))

theorem term_sum (u0 u1 u2 : S8192x512.Idx → EReal) (u3 y : S8192x1024.Idx → EReal) (i : S2560x1024.Idx) :
    (∑ k ∈ Finset.range 8192, term u0 u1 u2 u3 y (i 0) (i 1) k) = G0 u0 u1 u2 u3 y i := by
  rw [Finset.sum_range]
  refine Finset.sum_congr rfl fun k _ => ?_
  unfold term
  rw [dif_pos k.isLt]

/-- The result as a function of the arrays the region finds. -/
def G (c : Dev nD) : Buf (Elt Ideal) ((c : Thread nD τ).loc main_v8) := G0 (V m c main_v4) (V m c main_v5) (V m c main_v6) (V m c main_v7) (V m c main_arg0)

/-- What the last point writes back is `G`. -/
theorem flushed_eq (c : Dev nD) (t : Fin cfg0.N) (hf : (cfg0.win 5).flush t = true) :
    (dats m 0 c).flushed 5 t = ((cfg0.win 5).blk t).view.read (Elt Ideal) (G m c) := by
  have h1 : t.val % 16 = 15 := (flush0_5 t).mp hf
  have h0 : ¬t.val % 16 = 0 := by omega
  have hN : cfg0.N = 16 := N_0
  have ht := t.isLt
  have h2 : t.val * 512 + 512 = 8192 := by omega
  show (cfg0.win 5).cut (grid0.coords t) ((dats m 0 c).after 5 t) = _
  rw [after0_5, out_C m c t h0 h1]
  obtain ⟨-, -, -, -, -, -, -, -, -, -, d0, d1⟩ := idx_facts t
  funext (j : S2560x1024.Idx)
  refine (chain m c t.val t.isLt j).trans ?_
  rw [h2]
  refine (term_sum (V m c main_v4) (V m c main_v5) (V m c main_v6) (V m c main_v7) (V m c main_arg0) j).trans (congrArg (G0 (V m c main_v4) (V m c main_v5) (V m c main_v6) (V m c main_v7) (V m c main_arg0)) ?_)
  funext a; apply Fin.ext
  match a with
  | ⟨0, _⟩ => show (j 0).val = win0_5.index t (0 : Fin 2) * 2560 + 1 * (j 0).val; rw [d0, Nat.zero_mul, Nat.zero_add, Nat.one_mul]
  | ⟨1, _⟩ => show (j 1).val = win0_5.index t (1 : Fin 2) * 1024 + 1 * (j 1).val; rw [d1, Nat.zero_mul, Nat.zero_add, Nat.one_mul]

/-- The last point's block is the whole result array. -/
theorem cover (i : S2560x1024.Idx) :
    ∃ t : Fin cfg0.N, (cfg0.win 5).flush t = true ∧ i ∈ ((cfg0.win 5).blk t).view.set := by
  have h0 : (i 0 : Nat) < 2560 := (i 0).isLt
  have h1 : (i 1 : Nat) < 1024 := (i 1).isLt
  have hN : cfg0.N = 16 := N_0
  have h15 : 15 < cfg0.N := by omega
  refine ⟨⟨15, h15⟩, (flush0_5 _).mpr (by dsimp only), ?_⟩
  obtain ⟨-, -, -, -, -, -, -, -, -, -, d0, d1⟩ := idx_facts ⟨15, h15⟩
  show i ∈ ((View.whole main_v8).slice (win0_5.rect ⟨15, h15⟩)).set
  rw [View.set_slice_whole, Rect.mem_set_unit]
  intro a
  match a with
  | ⟨0, _⟩ => show win0_5.index _ (0 : Fin 2) * 2560 ≤ (i 0 : Nat) ∧ (i 0 : Nat) < win0_5.index _ (0 : Fin 2) * 2560 + 2560
              rw [d0, Nat.zero_mul, Nat.zero_add]; exact ⟨Nat.zero_le _, h0⟩
  | ⟨1, _⟩ => show win0_5.index _ (1 : Fin 2) * 1024 ≤ (i 1 : Nat) ∧ (i 1 : Nat) < win0_5.index _ (1 : Fin 2) * 1024 + 1024
              rw [d1, Nat.zero_mul, Nat.zero_add]; exact ⟨Nat.zero_le _, h1⟩

/-- So the result array ends holding `G`. -/
theorem final (c : Dev nD) : (dats m 0 c).arrAt 5 cfg0.N = G m c :=
  (dats m 0 c).arrAt_eq_of_cover 5 (G m c) (fun t ht => flushed_eq m c t ht) cover

/-- One of the parts the region finds, read at a row and a column of the second argument. -/
theorem entry_v4 (c : Dev nD) (k : Fin 8192) (p : Fin 512) (q : Fin 2560) (h : q.val = 0 + p.val) :
    (V m c main_v4 : S8192x512.Idx → EReal) (ix2 k p) = (m ((c : Thread nD τ).loc main_arg1) : S8192x2560.Idx → EReal) (ix2 k q) := by
  have e : V m c main_v4 = extractStridedSlice S8192x512 ![0, 0] (m ((c : Thread nD τ).loc main_arg1) : S8192x2560.Idx → EReal) slices_S8192x2560_S8192x512_0_0 := by
    show StableHlo.after _ _ _ = _
    simp only [hostOps0, List.flatten_cons, List.flatten_nil, List.append_nil]
    after_results; rfl
  refine (congrFun e (ix2 k p)).trans ?_
  exact extractStridedSlice_apply ![0, 0] _ slices_S8192x2560_S8192x512_0_0 (ix2 k p) (ix2 k q) (fun a => match a with
    | ⟨0, _⟩ => (Nat.zero_add k.val).symm
    | ⟨1, _⟩ => h)

/-- One of the parts the region finds, read at a row and a column of the second argument. -/
theorem entry_v5 (c : Dev nD) (k : Fin 8192) (p : Fin 512) (q : Fin 2560) (h : q.val = 512 + p.val) :
    (V m c main_v5 : S8192x512.Idx → EReal) (ix2 k p) = (m ((c : Thread nD τ).loc main_arg1) : S8192x2560.Idx → EReal) (ix2 k q) := by
  have e : V m c main_v5 = extractStridedSlice S8192x512 ![0, 512] (m ((c : Thread nD τ).loc main_arg1) : S8192x2560.Idx → EReal) slices_S8192x2560_S8192x512_0_512 := by
    show StableHlo.after _ _ _ = _
    simp only [hostOps0, List.flatten_cons, List.flatten_nil, List.append_nil]
    after_results; rfl
  refine (congrFun e (ix2 k p)).trans ?_
  exact extractStridedSlice_apply ![0, 512] _ slices_S8192x2560_S8192x512_0_512 (ix2 k p) (ix2 k q) (fun a => match a with
    | ⟨0, _⟩ => (Nat.zero_add k.val).symm
    | ⟨1, _⟩ => h)

/-- One of the parts the region finds, read at a row and a column of the second argument. -/
theorem entry_v6 (c : Dev nD) (k : Fin 8192) (p : Fin 512) (q : Fin 2560) (h : q.val = 1024 + p.val) :
    (V m c main_v6 : S8192x512.Idx → EReal) (ix2 k p) = (m ((c : Thread nD τ).loc main_arg1) : S8192x2560.Idx → EReal) (ix2 k q) := by
  have e : V m c main_v6 = extractStridedSlice S8192x512 ![0, 1024] (m ((c : Thread nD τ).loc main_arg1) : S8192x2560.Idx → EReal) slices_S8192x2560_S8192x512_0_1024 := by
    show StableHlo.after _ _ _ = _
    simp only [hostOps0, List.flatten_cons, List.flatten_nil, List.append_nil]
    after_results; rfl
  refine (congrFun e (ix2 k p)).trans ?_
  exact extractStridedSlice_apply ![0, 1024] _ slices_S8192x2560_S8192x512_0_1024 (ix2 k p) (ix2 k q) (fun a => match a with
    | ⟨0, _⟩ => (Nat.zero_add k.val).symm
    | ⟨1, _⟩ => h)

/-- One of the parts the region finds, read at a row and a column of the second argument. -/
theorem entry_v7 (c : Dev nD) (k : Fin 8192) (p : Fin 1024) (q : Fin 2560) (h : q.val = 1536 + p.val) :
    (V m c main_v7 : S8192x1024.Idx → EReal) (ix2 k p) = (m ((c : Thread nD τ).loc main_arg1) : S8192x2560.Idx → EReal) (ix2 k q) := by
  have e : V m c main_v7 = extractStridedSlice S8192x1024 ![0, 1536] (m ((c : Thread nD τ).loc main_arg1) : S8192x2560.Idx → EReal) slices_S8192x2560_S8192x1024_0_1536 := by
    show StableHlo.after _ _ _ = _
    simp only [hostOps0, List.flatten_cons, List.flatten_nil, List.append_nil]
    after_results; rfl
  refine (congrFun e (ix2 k p)).trans ?_
  exact extractStridedSlice_apply ![0, 1536] _ slices_S8192x2560_S8192x1024_0_1536 (ix2 k p) (ix2 k q) (fun a => match a with
    | ⟨0, _⟩ => (Nat.zero_add k.val).symm
    | ⟨1, _⟩ => h)

/-- The parts side by side are the second argument. -/
theorem col_entry (c : Dev nD) (k : Fin 8192) (r : Fin 2560) :
    col (n := 8192) (V m c main_v4) (V m c main_v5) (V m c main_v6) (V m c main_v7) k r = (m ((c : Thread nD τ).loc main_arg1) : S8192x2560.Idx → EReal) (ix2 k r) := by
  have hr := r.isLt
  by_cases h3 : 1536 ≤ r.val
  · exact (col_3 _ _ _ _ k r ⟨r.val - 1536, by omega⟩ (by show r.val = 1536 + (r.val - 1536); omega)).trans (entry_v7 m c k _ r (by show r.val = 1536 + (r.val - 1536); omega))
  by_cases h2 : 1024 ≤ r.val
  · exact (col_2 _ _ _ _ k r ⟨r.val - 1024, by omega⟩ (by show r.val = 1024 + (r.val - 1024); omega)).trans (entry_v6 m c k _ r (by show r.val = 1024 + (r.val - 1024); omega))
  by_cases h1 : 512 ≤ r.val
  · exact (col_1 _ _ _ _ k r ⟨r.val - 512, by omega⟩ (by show r.val = 512 + (r.val - 512); omega)).trans (entry_v5 m c k _ r (by show r.val = 512 + (r.val - 512); omega))
  exact (col_0 _ _ _ _ k r ⟨r.val - 0, by omega⟩ (by show r.val = (r.val - 0); omega)).trans (entry_v4 m c k _ r (by show r.val = 0 + (r.val - 0); omega))

/-- The derivative at a row and a column from the arguments' buffers. -/
def D (a1 : S8192x2560.Idx → EReal) (a0 : S8192x1024.Idx → EReal) (i : S2560x1024.Idx) : EReal :=
  ∑ k : Fin 8192, times (a1 (ix2 k (i 0))) (a0 (ix2 k (i 1)))

/-- The result is the derivative of the arguments. -/
theorem G_entry (c : Dev nD) : G m c = D (m ((c : Thread nD τ).loc main_arg1)) (m ((c : Thread nD τ).loc main_arg0)) := by
  unfold G
  funext i
  unfold G0 D
  refine Finset.sum_congr rfl fun k _ => congrArg₂ times (col_entry m c k (i 0)) ?_
  exact congrFun (V_main_arg0 m c) _

/-- The result, its rows and columns in the weight's order. -/
def GT (c : Dev nD) : Buf (Elt Ideal) ((c : Thread nD τ).loc main_v10) := transpose S1024x2560 [1, 0] (G m c) transposes_S2560x1024_S1024x2560_1_0

/-- The lines after the region widen the result array, which is the identity on the extended reals, and transpose it. -/
theorem tail (c : Dev nD) : Pipeline.afterTail₀ cfgs (dats m) 0 (V0 m) [hostOps1] c main_v10 = GT m c := by
  unfold Pipeline.afterTail₀
  simp only [hostOps1, List.flatten_cons, List.flatten_nil, List.append_nil]
  after_results
  exact congrArg (fun z => transpose S1024x2560 [1, 0] z transposes_S2560x1024_S1024x2560_1_0)
    ((Pipeline.withArrays_arr (cfgs 0).spec (show Function.Injective (Pipeline.arrRef spec0) by decide) c (V0 m c) (fun w => (dats m 0 c).arrAt w (cfgs 0).N) 5).trans (final m c))

/-- The run, read: the result, the arguments unchanged. -/
theorem run : θ_run defs (onTc (τ := τ) (main (F := Ideal))) ⟨m, fun _ => 0, ρ⟩ fun r => ∀ c : Dev nD,
      r.2.mem ((c.tc : Thread nD τ).loc main_v10) = GT m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v10 (Pipeline.mem_restRefs_of main_v10 (by decide) (by decide))).trans (tail m c),
      ((h c).1 4).trans (((dats m 0 c).arrAt_in 4 rfl _).trans ((A_eq m c 4).trans (V_main_arg0 m c))),
      (((h c).2 main_arg1 (Pipeline.mem_restRefs_of main_arg1 (by decide) (by decide))).trans (W_main_arg1 m (dats m) c))⟩) (run_main m ρ)

end Cert.Kernel7Ideal.WIn

namespace Cert.WIn

open Cert.Reference7Ideal Cert.Reference7Ideal.Gen Cert.Reference7Ideal.Read

/-- The derivative before its transposition, read at a row and a column: the same sum. -/
theorem value (x0 : S8192x1024.Idx → EReal) (x1 : S8192x2560.Idx → EReal) (i : S2560x1024.Idx) :
    val_main_v2 (F := Ideal) x0 x1 i = ∑ k : Fin 8192, x1 (ix2 k (i 0)) * x0 (ix2 k (i 1)) := by
  rw [val_main_v2_apply]
  refine Finset.sum_congr rfl fun k _ => ?_
  rw [show lidx_main_v2 i k = ix2 k (i 0) from funext fun a => match a with | ⟨0, _⟩ => rfl | ⟨1, _⟩ => rfl,
    show ridx_main_v2 i k = ix2 k (i 1) from funext fun a => match a with | ⟨0, _⟩ => rfl | ⟨1, _⟩ => rfl]
  rfl

end Cert.WIn

namespace Cert.Proof.WInClaims

/-- The kernel's result and the reference's derivative are equal, element by element. -/
theorem algebraic : Cert.algebraic_Kernel7Ideal_Reference7Ideal (hKernel7Ideal := Cert.Kernel7Ideal.Gen.facts) (hReference7Ideal := Cert.Reference7Ideal.Gen.facts) := by
  intro m ρ m' ρ' _ hagree
  refine ⟨fun c => Cert.Kernel7Ideal.WIn.GT m c, Cert.Kernel7Ideal.WIn.run m ρ, ?_⟩
  refine (θ_run Cert.Reference7Ideal.defs _ _).mono (fun _ h c => ⟨(h c).1.trans ?_, (h c).2⟩)
    (Cert.Reference7Ideal.Value.run (F := Ideal) m' ρ')
  rw [Cert.Reference7Ideal.Read.val_main_v3_eq, (hagree c).1, (hagree c).2]
  exact congrArg (fun z => transpose Cert.Kernel7Ideal.S1024x2560 [1, 0] z Cert.Kernel7Ideal.Gen.transposes_S2560x1024_S1024x2560_1_0)
    (funext fun i => (Cert.WIn.value _ _ i).trans (congrFun (Cert.Kernel7Ideal.WIn.G_entry m c) i).symm)

/-- The reference's run leaves the arguments and the counters alone. -/
theorem reference : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run m ρ)

end Cert.Proof.WInClaims

end
-- ==== Proof.DX.lean ====
/-
  The gradient of a layer's input through its input projection: what the kernel's result array ends holding, and that
  the reference's derivative is the same.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel8Ideal.DX

open Cert.Kernel8Ideal Cert.Kernel8Ideal.Gen

variable (m : (ℓ : Loc nD τ sig) → Buf (Elt Ideal) ℓ) (ρ : Dev nD → PrngReg)

theorem hz : (![0, 0] : Fin 2 → Nat) = fun _ => 0 := funext fun a => by fin_cases a <;> rfl

/-- A product of two extended reals. -/
abbrev times (x y : EReal) : EReal := x * y

/-- The product of two tiles read at a row and a column: the sum over the shared axis. -/
theorem tile_dot (x : FVec Ideal S256x512 .bf16) (y : FVec Ideal S512x1024 .bf16) (j : S256x1024.Idx) :
    matmul dot_S256x512_S512x1024_S256x1024_1_0_0_1_n_n none x y (constant S256x1024 .f32 0x00000000#32) j
      = ∑ k : Fin 512, x (ix2 (j 0) k) * y (ix2 k (j 1)) := by
  show (Ideal.ofBits .f32 0x00000000#32 : EReal) + _ = _
  rw [show (Ideal.ofBits .f32 0x00000000#32 : EReal) = 0 from by simp [Ideal.ofBits, Ideal.ieee], zero_add,
    ← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  congr 2
  · funext a
    apply Fin.ext
    match a with
    | ⟨0, _⟩ =>
      unfold DotDims.lhsIdx
      rw [dif_neg (show ⟨0, _⟩ ∉ dot_S256x512_S512x1024_S256x1024_1_0_0_1_n_n.lhsBatch from by decide +revert),
        dif_pos (show ⟨0, _⟩ ∈ dot_S256x512_S512x1024_S256x1024_1_0_0_1_n_n.lhsNonContracting from by decide +revert)]; rfl
    | ⟨1, _⟩ => exact (DotDims.lhsIdx_val_of_single _ rfl j _).trans hk
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S256x512_S512x1024_S256x1024_1_0_0_1_n_n.rhsBatch from by decide +revert),
        dif_pos (show ⟨1, _⟩ ∈ dot_S256x512_S512x1024_S256x1024_1_0_0_1_n_n.rhsNonContracting from by decide +revert)]; rfl

/-- The product of two tiles read at a row and a column: the sum over the shared axis. -/
theorem tile_dot_wide (x : FVec Ideal S256x1024 .bf16) (y : FVec Ideal S1024x1024 .bf16) (j : S256x1024.Idx) :
    matmul dot_S256x1024_S1024x1024_S256x1024_1_0_0_1_n_n none x y (constant S256x1024 .f32 0x00000000#32) j
      = ∑ k : Fin 1024, x (ix2 (j 0) k) * y (ix2 k (j 1)) := by
  show (Ideal.ofBits .f32 0x00000000#32 : EReal) + _ = _
  rw [show (Ideal.ofBits .f32 0x00000000#32 : EReal) = 0 from by simp [Ideal.ofBits, Ideal.ieee], zero_add,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  congr 2
  · funext a
    apply Fin.ext
    match a with
    | ⟨0, _⟩ =>
      unfold DotDims.lhsIdx
      rw [dif_neg (show ⟨0, _⟩ ∉ dot_S256x1024_S1024x1024_S256x1024_1_0_0_1_n_n.lhsBatch from by decide +revert),
        dif_pos (show ⟨0, _⟩ ∈ dot_S256x1024_S1024x1024_S256x1024_1_0_0_1_n_n.lhsNonContracting from by decide +revert)]; rfl
    | ⟨1, _⟩ => exact (DotDims.lhsIdx_val_of_single _ rfl j _).trans hk
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S256x1024_S1024x1024_S256x1024_1_0_0_1_n_n.rhsBatch from by decide +revert),
        dif_pos (show ⟨1, _⟩ ∈ dot_S256x1024_S1024x1024_S256x1024_1_0_0_1_n_n.rhsNonContracting from by decide +revert)]; rfl

/-- What one tile of the result holds at a row and a column: the four parts' products, and the scaled residual. -/
theorem pay_apply (x0 x1 x2 : Vec Ideal S256x512 .bf16) (x3 : Vec Ideal S256x1024 .bf16) (y0 y1 y2 : Vec Ideal S512x1024 .bf16)
    (y3 : Vec Ideal S1024x1024 .bf16) (s : Vec Ideal S256x1024 .f32) (j : S256x1024.Idx) :
    k0_pay1 x0 y0 x1 y1 x2 y2 x3 y3 s j
      = (∑ k : Fin 512, x0 (ix2 (j 0) k) * y0 (ix2 k (j 1))) + (∑ k : Fin 512, x1 (ix2 (j 0) k) * y1 (ix2 k (j 1)))
        + (∑ k : Fin 512, x2 (ix2 (j 0) k) * y2 (ix2 k (j 1))) + (∑ k : Fin 1024, x3 (ix2 (j 0) k) * y3 (ix2 k (j 1)))
        + Ideal.ofBits .f32 0x3FB504F3#32 * s j := by
  show matmul (F := Ideal) dot_S256x512_S512x1024_S256x1024_1_0_0_1_n_n none (shapeCast S256x512 x0 shapeCasts_S256x512_S256x512) (shapeCast S512x1024 y0 shapeCasts_S512x1024_S512x1024) (constant S256x1024 .f32 0x00000000#32) j
    + matmul (F := Ideal) dot_S256x512_S512x1024_S256x1024_1_0_0_1_n_n none (shapeCast S256x512 x1 shapeCasts_S256x512_S256x512) (shapeCast S512x1024 y1 shapeCasts_S512x1024_S512x1024) (constant S256x1024 .f32 0x00000000#32) j
    + matmul (F := Ideal) dot_S256x512_S512x1024_S256x1024_1_0_0_1_n_n none (shapeCast S256x512 x2 shapeCasts_S256x512_S256x512) (shapeCast S512x1024 y2 shapeCasts_S512x1024_S512x1024) (constant S256x1024 .f32 0x00000000#32) j
    + matmul (F := Ideal) dot_S256x1024_S1024x1024_S256x1024_1_0_0_1_n_n none (shapeCast S256x1024 x3 shapeCasts_S256x1024_S256x1024) (shapeCast S1024x1024 y3 shapeCasts_S1024x1024_S1024x1024) (constant S256x1024 .f32 0x00000000#32) j
    + Ideal.ofBits .f32 0x3FB504F3#32 * s j = _
  simp only [shapeCast_self]
  rw [tile_dot, tile_dot, tile_dot, tile_dot_wide]

/-- The derivative at a row and a column from the cotangent's four column parts, the transposed weight and the
    residual's derivative. -/
def G0 (x0 x1 x2 : S8192x512.Idx → EReal) (x3 : S8192x1024.Idx → EReal) (w : S2560x1024.Idx → EReal) (s : S8192x1024.Idx → EReal)
    (i : S8192x1024.Idx) : EReal :=
  (∑ k : Fin 512, x0 (ix2 (i 0) k) * w (ix2 ⟨k.val, by omega⟩ (i 1)))
    + (∑ k : Fin 512, x1 (ix2 (i 0) k) * w (ix2 ⟨512 + k.val, by omega⟩ (i 1)))
    + (∑ k : Fin 512, x2 (ix2 (i 0) k) * w (ix2 ⟨1024 + k.val, by omega⟩ (i 1)))
    + (∑ k : Fin 1024, x3 (ix2 (i 0) k) * w (ix2 ⟨1536 + k.val, by omega⟩ (i 1)))
    + Ideal.ofBits .f32 0x3FB504F3#32 * s i

/-- The result as a function of the arrays the region finds. -/
def G (c : Dev nD) : Buf (Elt Ideal) ((c : Thread nD τ).loc main_v10) :=
  G0 (V m c main_v4) (V m c main_v5) (V m c main_v6) (V m c main_v7) (V m c main_v9) (V m c main_arg1)

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Part 0's tile product is the part's summands. -/
theorem part0 (t : Fin cfg0.N) (X : main_v4.ty.Contents (Elt Ideal)) (W : main_v9.ty.Contents (Elt Ideal)) (j : S256x1024.Idx) :
    (∑ k : Fin 512, times ((((cfg0.win 0).blk t).view.read (Elt Ideal) X : S256x512.Idx → EReal) (ix2 (j 0) k))
        ((View.ld (((cfg0.win 4).blk t).view.read (Elt Ideal) W : S2560x1024.Idx → EReal) r0_1 : S512x1024.Idx → EReal) (ix2 k (j 1))))
      = ∑ k : Fin 512, times ((X : S8192x512.Idx → EReal) (ix2 ((((cfg0.win 6).blk t).view.emb j : S8192x1024.Idx) 0) k))
        ((W : S2560x1024.Idx → EReal) (ix2 ⟨k.val, by omega⟩ ((((cfg0.win 6).blk t).view.emb j : S8192x1024.Idx) 1))) := by
  obtain ⟨a0, a1, b0, b1, c0, c1, d0, d1, e0, e1, -, -, g0, g1⟩ := idx_facts t
  refine Finset.sum_congr rfl fun k _ => congrArg₂ times (congrArg X ?_) (congrArg W ?_)
  · funext a; apply Fin.ext
    match a with
    | ⟨0, _⟩ => show win0_0.index t (0 : Fin 2) * 256 + 1 * (j 0).val = win0_6.index t (0 : Fin 2) * 256 + 1 * (j 0).val; rw [a0, g0]
    | ⟨1, _⟩ => show win0_0.index t (1 : Fin 2) * 512 + 1 * k.val = k.val; rw [a1]; omega
  · funext a; apply Fin.ext
    match a with
    | ⟨0, _⟩ => show win0_4.index t (0 : Fin 2) * 2560 + 1 * (0 + 1 * k.val) = k.val; rw [e0]; omega
    | ⟨1, _⟩ => show win0_4.index t (1 : Fin 2) * 1024 + 1 * (0 + 1 * (j 1).val) = win0_6.index t (1 : Fin 2) * 1024 + 1 * (j 1).val; rw [e1, g1, Nat.zero_add (1 * (j 1).val), Nat.one_mul, Nat.zero_mul, Nat.zero_add]

/-- Part 1's tile product is the part's summands. -/
theorem part1 (t : Fin cfg0.N) (X : main_v5.ty.Contents (Elt Ideal)) (W : main_v9.ty.Contents (Elt Ideal)) (j : S256x1024.Idx) :
    (∑ k : Fin 512, times ((((cfg0.win 1).blk t).view.read (Elt Ideal) X : S256x512.Idx → EReal) (ix2 (j 0) k))
        ((View.ld (((cfg0.win 4).blk t).view.read (Elt Ideal) W : S2560x1024.Idx → EReal) r0_2 : S512x1024.Idx → EReal) (ix2 k (j 1))))
      = ∑ k : Fin 512, times ((X : S8192x512.Idx → EReal) (ix2 ((((cfg0.win 6).blk t).view.emb j : S8192x1024.Idx) 0) k))
        ((W : S2560x1024.Idx → EReal) (ix2 ⟨512 + k.val, by omega⟩ ((((cfg0.win 6).blk t).view.emb j : S8192x1024.Idx) 1))) := by
  obtain ⟨a0, a1, b0, b1, c0, c1, d0, d1, e0, e1, -, -, g0, g1⟩ := idx_facts t
  refine Finset.sum_congr rfl fun k _ => congrArg₂ times (congrArg X ?_) (congrArg W ?_)
  · funext a; apply Fin.ext
    match a with
    | ⟨0, _⟩ => show win0_1.index t (0 : Fin 2) * 256 + 1 * (j 0).val = win0_6.index t (0 : Fin 2) * 256 + 1 * (j 0).val; rw [b0, g0]
    | ⟨1, _⟩ => show win0_1.index t (1 : Fin 2) * 512 + 1 * k.val = k.val; rw [b1]; omega
  · funext a; apply Fin.ext
    match a with
    | ⟨0, _⟩ => show win0_4.index t (0 : Fin 2) * 2560 + 1 * (512 + 1 * k.val) = 512 + k.val; rw [e0]; omega
    | ⟨1, _⟩ => show win0_4.index t (1 : Fin 2) * 1024 + 1 * (0 + 1 * (j 1).val) = win0_6.index t (1 : Fin 2) * 1024 + 1 * (j 1).val; rw [e1, g1, Nat.zero_add (1 * (j 1).val), Nat.one_mul, Nat.zero_mul, Nat.zero_add]

/-- Part 2's tile product is the part's summands. -/
theorem part2 (t : Fin cfg0.N) (X : main_v6.ty.Contents (Elt Ideal)) (W : main_v9.ty.Contents (Elt Ideal)) (j : S256x1024.Idx) :
    (∑ k : Fin 512, times ((((cfg0.win 2).blk t).view.read (Elt Ideal) X : S256x512.Idx → EReal) (ix2 (j 0) k))
        ((View.ld (((cfg0.win 4).blk t).view.read (Elt Ideal) W : S2560x1024.Idx → EReal) r0_3 : S512x1024.Idx → EReal) (ix2 k (j 1))))
      = ∑ k : Fin 512, times ((X : S8192x512.Idx → EReal) (ix2 ((((cfg0.win 6).blk t).view.emb j : S8192x1024.Idx) 0) k))
        ((W : S2560x1024.Idx → EReal) (ix2 ⟨1024 + k.val, by omega⟩ ((((cfg0.win 6).blk t).view.emb j : S8192x1024.Idx) 1))) := by
  obtain ⟨a0, a1, b0, b1, c0, c1, d0, d1, e0, e1, -, -, g0, g1⟩ := idx_facts t
  refine Finset.sum_congr rfl fun k _ => congrArg₂ times (congrArg X ?_) (congrArg W ?_)
  · funext a; apply Fin.ext
    match a with
    | ⟨0, _⟩ => show win0_2.index t (0 : Fin 2) * 256 + 1 * (j 0).val = win0_6.index t (0 : Fin 2) * 256 + 1 * (j 0).val; rw [c0, g0]
    | ⟨1, _⟩ => show win0_2.index t (1 : Fin 2) * 512 + 1 * k.val = k.val; rw [c1]; omega
  · funext a; apply Fin.ext
    match a with
    | ⟨0, _⟩ => show win0_4.index t (0 : Fin 2) * 2560 + 1 * (1024 + 1 * k.val) = 1024 + k.val; rw [e0]; omega
    | ⟨1, _⟩ => show win0_4.index t (1 : Fin 2) * 1024 + 1 * (0 + 1 * (j 1).val) = win0_6.index t (1 : Fin 2) * 1024 + 1 * (j 1).val; rw [e1, g1, Nat.zero_add (1 * (j 1).val), Nat.one_mul, Nat.zero_mul, Nat.zero_add]

/-- Part 3's tile product is the part's summands. -/
theorem part3 (t : Fin cfg0.N) (X : main_v7.ty.Contents (Elt Ideal)) (W : main_v9.ty.Contents (Elt Ideal)) (j : S256x1024.Idx) :
    (∑ k : Fin 1024, times ((((cfg0.win 3).blk t).view.read (Elt Ideal) X : S256x1024.Idx → EReal) (ix2 (j 0) k))
        ((View.ld (((cfg0.win 4).blk t).view.read (Elt Ideal) W : S2560x1024.Idx → EReal) r0_5 : S1024x1024.Idx → EReal) (ix2 k (j 1))))
      = ∑ k : Fin 1024, times ((X : S8192x1024.Idx → EReal) (ix2 ((((cfg0.win 6).blk t).view.emb j : S8192x1024.Idx) 0) k))
        ((W : S2560x1024.Idx → EReal) (ix2 ⟨1536 + k.val, by omega⟩ ((((cfg0.win 6).blk t).view.emb j : S8192x1024.Idx) 1))) := by
  obtain ⟨a0, a1, b0, b1, c0, c1, d0, d1, e0, e1, -, -, g0, g1⟩ := idx_facts t
  refine Finset.sum_congr rfl fun k _ => congrArg₂ times (congrArg X ?_) (congrArg W ?_)
  · funext a; apply Fin.ext
    match a with
    | ⟨0, _⟩ => show win0_3.index t (0 : Fin 2) * 256 + 1 * (j 0).val = win0_6.index t (0 : Fin 2) * 256 + 1 * (j 0).val; rw [d0, g0]
    | ⟨1, _⟩ => show win0_3.index t (1 : Fin 2) * 1024 + 1 * k.val = k.val; rw [d1]; omega
  · funext a; apply Fin.ext
    match a with
    | ⟨0, _⟩ => show win0_4.index t (0 : Fin 2) * 2560 + 1 * (1536 + 1 * k.val) = 1536 + k.val; rw [e0]; omega
    | ⟨1, _⟩ => show win0_4.index t (1 : Fin 2) * 1024 + 1 * (0 + 1 * (j 1).val) = win0_6.index t (1 : Fin 2) * 1024 + 1 * (j 1).val; rw [e1, g1, Nat.zero_add (1 * (j 1).val), Nat.one_mul, Nat.zero_mul, Nat.zero_add]

/-- The tile computed from the arrays' tiles is the tile of the derivative. -/
theorem tile_eq (t : Fin cfg0.N) (X0 : main_v4.ty.Contents (Elt Ideal)) (X1 : main_v5.ty.Contents (Elt Ideal)) (X2 : main_v6.ty.Contents (Elt Ideal))
    (X3 : main_v7.ty.Contents (Elt Ideal)) (W : main_v9.ty.Contents (Elt Ideal)) (S : main_arg1.ty.Contents (Elt Ideal)) :
    k0_pay1 (F := Ideal) (((cfg0.win 0).blk t).view.read (Elt Ideal) X0) (View.ld (((cfg0.win 4).blk t).view.read (Elt Ideal) W) r0_1) (((cfg0.win 1).blk t).view.read (Elt Ideal) X1) (View.ld (((cfg0.win 4).blk t).view.read (Elt Ideal) W) r0_2)
        (((cfg0.win 2).blk t).view.read (Elt Ideal) X2) (View.ld (((cfg0.win 4).blk t).view.read (Elt Ideal) W) r0_3) (((cfg0.win 3).blk t).view.read (Elt Ideal) X3) (View.ld (((cfg0.win 4).blk t).view.read (Elt Ideal) W) r0_5) (((cfg0.win 5).blk t).view.read (Elt Ideal) S)
      = fun j : S256x1024.Idx => G0 X0 X1 X2 X3 W S (((cfg0.win 6).blk t).view.emb j) := by
  obtain ⟨-, -, -, -, -, -, -, -, -, -, f0, f1, g0, g1⟩ := idx_facts t
  funext j
  refine (pay_apply _ _ _ _ _ _ _ _ _ j).trans ?_
  unfold G0
  refine congrArg₂ (· + ·) (congrArg₂ (· + ·) (congrArg₂ (· + ·) (congrArg₂ (· + ·) (part0 t X0 W j) (part1 t X1 W j)) (part2 t X2 W j)) (part3 t X3 W j))
    (congrArg (Ideal.ofBits .f32 0x3FB504F3#32 * ·) (congrArg S ?_))
  funext a; apply Fin.ext
  match a with
  | ⟨0, _⟩ => show win0_5.index t (0 : Fin 2) * 256 + 1 * (j 0).val = win0_6.index t (0 : Fin 2) * 256 + 1 * (j 0).val; rw [f0, g0]
  | ⟨1, _⟩ => show win0_5.index t (1 : Fin 2) * 1024 + 1 * (j 1).val = win0_6.index t (1 : Fin 2) * 1024 + 1 * (j 1).val; rw [f1, g1]

/-- What point `t` writes back is its block of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz, View.ld_unit_zero (S := S256x512) hz, View.ld_unit_zero (S := S256x512) hz, View.ld_unit_zero (S := S256x512) hz,
    View.ld_unit_zero (S := S256x1024) hz, View.ld_unit_zero (S := S256x1024) hz]
  exact tile_eq t (V m c main_v4) (V m c main_v5) (V m c main_v6) (V m c main_v7) (V m c main_v9) (V m c main_arg1)

/-- An index of the result array is in point `t`'s block. -/
theorem mem_blk (t : Fin cfg0.N) (i : S8192x1024.Idx) :
    i ∈ ((cfg0.win 6).blk t).view.set ↔ t.val * 256 ≤ (i 0 : Nat) ∧ (i 0 : Nat) < t.val * 256 + 256 := by
  show i ∈ ((View.whole main_v10).slice (win0_6.rect t)).set ↔ _
  rw [View.set_slice_whole, Rect.mem_set_unit]
  have h1 : (i 1 : Nat) < 1024 := (i 1).isLt
  obtain ⟨-, -, -, -, -, -, -, -, -, -, -, -, d0, d1⟩ := idx_facts t
  refine ⟨fun h => ?_, fun h a => ?_⟩
  · have : win0_6.index t (0 : Fin 2) * 256 ≤ (i 0 : Nat) ∧ (i 0 : Nat) < win0_6.index t (0 : Fin 2) * 256 + 256 := h 0
    rw [d0] at this; exact this
  · match a with
    | ⟨0, _⟩ => show win0_6.index t (0 : Fin 2) * 256 ≤ (i 0 : Nat) ∧ (i 0 : Nat) < win0_6.index t (0 : Fin 2) * 256 + 256
                rw [d0]; exact h
    | ⟨1, _⟩ => show win0_6.index t (1 : Fin 2) * 1024 ≤ (i 1 : Nat) ∧ (i 1 : Nat) < win0_6.index t (1 : Fin 2) * 1024 + 1024
                rw [d1, Nat.zero_mul, Nat.zero_add]; exact ⟨Nat.zero_le _, h1⟩

/-- The blocks tile the result array. -/
theorem cover (i : S8192x1024.Idx) :
    ∃ t : Fin cfg0.N, (cfg0.win 6).flush t = true ∧ i ∈ ((cfg0.win 6).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_6 _, ?_⟩
  rw [mem_blk]
  dsimp only
  omega

/-- So the result array ends holding `G`. -/
theorem final (c : Dev nD) : (dats m 0 c).arrAt 6 cfg0.N = G m c :=
  (dats m 0 c).arrAt_eq_of_cover 6 (G m c) (fun t _ => flushed_eq m c t) cover

theorem entry4 (c : Dev nD) : V m c main_v4 = extractStridedSlice S8192x512 ![0, 0] (m ((c : Thread nD τ).loc main_arg2) : S8192x2560.Idx → EReal) slices_S8192x2560_S8192x512_0_0 := by
  show StableHlo.after _ _ _ = _
  simp only [hostOps0, List.flatten_cons, List.flatten_nil, List.append_nil]
  after_results; rfl

theorem entry5 (c : Dev nD) : V m c main_v5 = extractStridedSlice S8192x512 ![0, 512] (m ((c : Thread nD τ).loc main_arg2) : S8192x2560.Idx → EReal) slices_S8192x2560_S8192x512_0_512 := by
  show StableHlo.after _ _ _ = _
  simp only [hostOps0, List.flatten_cons, List.flatten_nil, List.append_nil]
  after_results; rfl

theorem entry6 (c : Dev nD) : V m c main_v6 = extractStridedSlice S8192x512 ![0, 1024] (m ((c : Thread nD τ).loc main_arg2) : S8192x2560.Idx → EReal) slices_S8192x2560_S8192x512_0_1024 := by
  show StableHlo.after _ _ _ = _
  simp only [hostOps0, List.flatten_cons, List.flatten_nil, List.append_nil]
  after_results; rfl

theorem entry7 (c : Dev nD) : V m c main_v7 = extractStridedSlice S8192x1024 ![0, 1536] (m ((c : Thread nD τ).loc main_arg2) : S8192x2560.Idx → EReal) slices_S8192x2560_S8192x1024_0_1536 := by
  show StableHlo.after _ _ _ = _
  simp only [hostOps0, List.flatten_cons, List.flatten_nil, List.append_nil]
  after_results; rfl

theorem entry9 (c : Dev nD) : V m c main_v9 = transpose S2560x1024 [1, 0] (m ((c : Thread nD τ).loc main_arg0) : S1024x2560.Idx → EReal) transposes_S1024x2560_S2560x1024_1_0 := by
  show StableHlo.after _ _ _ = _
  simp only [hostOps0, List.flatten_cons, List.flatten_nil, List.append_nil]
  after_results; rfl

/-- A sum over the 2560 columns is the sum over its four parts. -/
theorem sum_parts (f : Fin 2560 → EReal) : (∑ k, f k)
    = (∑ k : Fin 512, f ⟨k.val, by omega⟩) + (∑ k : Fin 512, f ⟨512 + k.val, by omega⟩)
      + (∑ k : Fin 512, f ⟨1024 + k.val, by omega⟩) + (∑ k : Fin 1024, f ⟨1536 + k.val, by omega⟩) := by
  refine (Fin.sum_univ_add (a := 1536) (b := 1024) f).trans (congrArg₂ (· + ·) ?_ rfl)
  refine (Fin.sum_univ_add (a := 1024) (b := 512) fun k => f (Fin.castAdd 1024 k)).trans (congrArg₂ (· + ·) ?_ rfl)
  exact Fin.sum_univ_add (a := 512) (b := 512) fun k => f (Fin.castAdd 1024 (Fin.castAdd 512 k))

/-- So the result is the whole product and the scaled residual. -/
theorem G_entry (c : Dev nD) (i : S8192x1024.Idx) : G m c i
    = (∑ k : Fin 2560, times ((m ((c : Thread nD τ).loc main_arg2) : S8192x2560.Idx → EReal) (ix2 (i 0) k))
        ((m ((c : Thread nD τ).loc main_arg0) : S1024x2560.Idx → EReal) (ix2 (i 1) k)))
      + times (Ideal.ofBits .f32 0x3FB504F3#32) ((m ((c : Thread nD τ).loc main_arg1) : S8192x1024.Idx → EReal) i) := by
  unfold G
  rw [entry4 m c, entry5 m c, entry6 m c, entry7 m c, entry9 m c, V_main_arg1 m c]
  generalize (m ((c : Thread nD τ).loc main_arg2) : S8192x2560.Idx → EReal) = x
  generalize (m ((c : Thread nD τ).loc main_arg0) : S1024x2560.Idx → EReal) = w
  refine congrArg₂ (· + ·) ?_ rfl
  refine Eq.trans ?_ (sum_parts fun k => times (x (ix2 (i 0) k)) (w (ix2 (i 1) k))).symm
  have hw : ∀ k : Fin 2560, transpose S2560x1024 [1, 0] w transposes_S1024x2560_S2560x1024_1_0 (ix2 k (i 1)) = w (ix2 (i 1) k) := fun k =>
    transpose_apply [1, 0] w transposes_S1024x2560_S2560x1024_1_0 (ix2 k (i 1)) (ix2 (i 1) k) (fun b => match b with
      | ⟨0, _⟩ => rfl
      | ⟨1, _⟩ => rfl)
  refine congrArg₂ (· + ·) (congrArg₂ (· + ·) (congrArg₂ (· + ·) ?_ ?_) ?_) ?_
  · refine Finset.sum_congr rfl fun k _ => congrArg₂ times ?_ (hw _)
    exact extractStridedSlice_apply ![0, 0] x slices_S8192x2560_S8192x512_0_0 (ix2 (i 0) k) (ix2 (i 0) ⟨k.val, by omega⟩) (fun a => match a with
      | ⟨0, _⟩ => (Nat.zero_add _).symm
      | ⟨1, _⟩ => (Nat.zero_add _).symm)
  · refine Finset.sum_congr rfl fun k _ => congrArg₂ times ?_ (hw _)
    exact extractStridedSlice_apply ![0, 512] x slices_S8192x2560_S8192x512_0_512 (ix2 (i 0) k) (ix2 (i 0) ⟨512 + k.val, by omega⟩) (fun a => match a with
      | ⟨0, _⟩ => (Nat.zero_add _).symm
      | ⟨1, _⟩ => rfl)
  · refine Finset.sum_congr rfl fun k _ => congrArg₂ times ?_ (hw _)
    exact extractStridedSlice_apply ![0, 1024] x slices_S8192x2560_S8192x512_0_1024 (ix2 (i 0) k) (ix2 (i 0) ⟨1024 + k.val, by omega⟩) (fun a => match a with
      | ⟨0, _⟩ => (Nat.zero_add _).symm
      | ⟨1, _⟩ => rfl)
  · refine Finset.sum_congr rfl fun k _ => congrArg₂ times ?_ (hw _)
    exact extractStridedSlice_apply ![0, 1536] x slices_S8192x2560_S8192x1024_0_1536 (ix2 (i 0) k) (ix2 (i 0) ⟨1536 + k.val, by omega⟩) (fun a => match a with
      | ⟨0, _⟩ => (Nat.zero_add _).symm
      | ⟨1, _⟩ => rfl)

/-- The run, read: the result, the arguments unchanged. -/
theorem run : θ_run defs (onTc (τ := τ) (main (F := Ideal))) ⟨m, fun _ => 0, ρ⟩ fun r => ∀ c : Dev nD,
      r.2.mem ((c.tc : Thread nD τ).loc main_v10) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 6).trans (final m c),
      ((h c).2 main_arg0 (Pipeline.mem_restRefs_of main_arg0 (by decide) (by decide))).trans (V_main_arg0 m c),
      ((h c).1 5).trans (((dats m 0 c).arrAt_in 5 rfl _).trans ((A_eq m c 5).trans (V_main_arg1 m c))),
      ((h c).2 main_arg2 (Pipeline.mem_restRefs_of main_arg2 (by decide) (by decide))).trans (V_main_arg2 m c)⟩) (run_main m ρ)

end Cert.Kernel8Ideal.DX

namespace Cert.DX

open Cert.Reference8Ideal Cert.Reference8Ideal.Gen Cert.Reference8Ideal.Read

/-- The derivative, read at a row and a column: the same sum and the same scaled residual. -/
theorem value (x0 : S1024x2560.Idx → EReal) (x1 : S8192x1024.Idx → EReal) (x2 : S8192x2560.Idx → EReal) (i : S8192x1024.Idx) :
    val_main_v7 (F := Ideal) x0 x1 x2 i = (∑ k : Fin 2560, x2 (ix2 (i 0) k) * x0 (ix2 (i 1) k)) + Ideal.ofBits .f32 0x3FB504F3#32 * x1 i := by
  rw [val_main_v7_apply, val_main_v6_apply, val_main_v5_apply, val_main_cst_1_apply, val_main_v4_apply]
  refine congrArg₂ (· + ·) (Finset.sum_congr rfl fun k _ => ?_) rfl
  rw [show lidx_main_v4 i k = ix2 (i 0) k from funext fun a => match a with | ⟨0, _⟩ => rfl | ⟨1, _⟩ => rfl,
    show ridx_main_v4 i k = ix2 (i 1) k from funext fun a => match a with | ⟨0, _⟩ => rfl | ⟨1, _⟩ => rfl]
  rfl

end Cert.DX

namespace Cert.Proof.DXClaims

/-- The kernel's result and the reference's derivative are equal, element by element. -/
theorem algebraic : Cert.algebraic_Kernel8Ideal_Reference8Ideal (hKernel8Ideal := Cert.Kernel8Ideal.Gen.facts) (hReference8Ideal := Cert.Reference8Ideal.Gen.facts) := by
  intro m ρ m' ρ' _ hagree
  refine ⟨fun c => Cert.Kernel8Ideal.DX.G m c, Cert.Kernel8Ideal.DX.run m ρ, ?_⟩
  refine (θ_run Cert.Reference8Ideal.defs _ _).mono (fun _ h c => ⟨(h c).1.trans ?_, (h c).2⟩)
    (Cert.Reference8Ideal.Value.run (F := Ideal) m' ρ')
  rw [Cert.Reference8Ideal.Read.val_main_v7_eq, (hagree c).1, (hagree c).2.1, (hagree c).2.2]
  funext i
  exact (Cert.DX.value _ _ _ i).trans (Cert.Kernel8Ideal.DX.G_entry m c i).symm

/-- The reference's run leaves the arguments and the counters alone. -/
theorem reference : Cert.quiescent_Reference8Ideal (hReference8Ideal := Cert.Reference8Ideal.Gen.facts) := fun m ρ _ =>
  (θ_run Cert.Reference8Ideal.defs _ _).mono (fun r h => ⟨fun c => (h c).2,
      Idealize.ShloMosaic.sem_eq_zero_of_no_sems (by decide) r.2⟩)
    (Cert.Reference8Ideal.Value.run m ρ)

end Cert.Proof.DXClaims

end
-- ==== Proof.FfnUp.lean ====
/-
  The feed-forward layer's first product: what the kernel's result array ends holding, and that the reference's
  product is the same.
-/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel9Ideal.FfnUp

open Cert.Kernel9Ideal Cert.Kernel9Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The tile's product read at a row and a column: the sum over the shared axis. -/
theorem tile_dot (x : FVec Ideal S256x1024 .bf16) (y : FVec Ideal S4096x1024 .bf16) (j : S256x4096.Idx) :
    matmul dot_S256x1024_S4096x1024_S256x4096_1_1_0_0_n_n none x y (constant S256x4096 .f32 0x00000000#32) j
      = ∑ k : Fin 1024, x (ix2 (j 0) k) * y (ix2 (j 1) k) := by
  show (Ideal.ofBits .f32 0x00000000#32 : EReal) + _ = _
  rw [show (Ideal.ofBits .f32 0x00000000#32 : EReal) = 0 from by simp [Ideal.ofBits, Ideal.ieee], zero_add,
    ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  congr 2
  · funext a
    apply Fin.ext
    match a with
    | ⟨0, _⟩ =>
      unfold DotDims.lhsIdx
      rw [dif_neg (show ⟨0, _⟩ ∉ dot_S256x1024_S4096x1024_S256x4096_1_1_0_0_n_n.lhsBatch from by decide +revert),
        dif_pos (show ⟨0, _⟩ ∈ dot_S256x1024_S4096x1024_S256x4096_1_1_0_0_n_n.lhsNonContracting from by decide +revert)]; rfl
    | ⟨1, _⟩ => exact (DotDims.lhsIdx_val_of_single _ rfl j _).trans hk
  · funext a
    apply Fin.ext
    match a with
    | ⟨0, _⟩ =>
      unfold DotDims.rhsIdx
      rw [dif_neg (show ⟨0, _⟩ ∉ dot_S256x1024_S4096x1024_S256x4096_1_1_0_0_n_n.rhsBatch from by decide +revert),
        dif_pos (show ⟨0, _⟩ ∈ dot_S256x1024_S4096x1024_S256x4096_1_1_0_0_n_n.rhsNonContracting from by decide +revert)]; rfl
    | ⟨1, _⟩ => exact (DotDims.rhsIdx_val_of_single _ rfl j _).trans hk

/-- What one tile of the result holds at a row and a column, from the tile's inputs. -/
theorem pay_apply (x : Vec Ideal S256x1024 .f32) (y : Vec Ideal S4096x1024 .bf16) (j : S256x4096.Idx) :
    k0_pay1 x y j = ∑ k : Fin 1024, x (ix2 (j 0) k) * y (ix2 (j 1) k) := by
  show matmul (F := Ideal) dot_S256x1024_S4096x1024_S256x4096_1_1_0_0_n_n none (truncf .bf16 x bitsLt_bf16_f32) (shapeCast S4096x1024 y shapeCasts_S4096x1024_S4096x1024) (constant S256x4096 .f32 0x00000000#32) j = _
  rw [shapeCast_self]
  exact tile_dot _ _ _

/-- The product at a row and a column: the sum over the shared axis. -/
def G0 (x : S8192x1024.Idx → EReal) (y : S4096x1024.Idx → EReal) (i : S8192x4096.Idx) : EReal :=
  ∑ k : Fin 1024, x (ix2 (i 0) k) * y (ix2 (i 1) k)

/-- The result as a function of the arrays the region finds. -/
def G (c : Dev nD) : Buf (Elt Ideal) ((c : Thread nD τ).loc main_v2) := G0 (V m c main_arg0) (V m c main_v1)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tile computed from the tiles of two arrays is the tile of the product. -/
theorem tile_eq (t : Fin cfg0.N) (X : main_arg0.ty.Contents (Elt Ideal)) (Y : main_v1.ty.Contents (Elt Ideal)) :
    k0_pay1 (F := Ideal) (((cfg0.win 0).blk t).view.read (Elt Ideal) X) (((cfg0.win 1).blk t).view.read (Elt Ideal) Y)
      = fun j : S256x4096.Idx => G0 X Y (((cfg0.win 2).blk t).view.emb j) := by
  obtain ⟨a0, a1, b0, b1, d0, d1⟩ := idx_facts t
  funext j
  refine (pay_apply _ _ j).trans ?_
  unfold G0
  refine Finset.sum_congr rfl fun k _ => congrArg₂ (· * ·) (congrArg X ?_) (congrArg Y ?_)
  · funext a; apply Fin.ext
    match a with
    | ⟨0, _⟩ => show win0_0.index t (0 : Fin 2) * 256 + 1 * (j 0).val = win0_2.index t (0 : Fin 2) * 256 + 1 * (j 0).val; rw [a0, d0]
    | ⟨1, _⟩ => show win0_0.index t (1 : Fin 2) * 1024 + 1 * k.val = k.val; rw [a1]; omega
  · funext a; apply Fin.ext
    match a with
    | ⟨0, _⟩ => show win0_1.index t (0 : Fin 2) * 4096 + 1 * (j 1).val = win0_2.index t (1 : Fin 2) * 4096 + 1 * (j 1).val; rw [b0, d1]
    | ⟨1, _⟩ => show win0_1.index t (1 : Fin 2) * 1024 + 1 * k.val = k.val; rw [b1]; omega

/-- What point `t` writes back is its block of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz, View.ld_unit_zero (S := S256x1024) hz, View.ld_unit_zero (S := S4096x1024) hz]
  exact tile_eq t (V m c main_arg0) (V m c main_v1)

/-- An index of the result array is in point `t`'s block. -/
theorem mem_blk (t : Fin cfg0.N) (i : S8192x4096.Idx) :
    i ∈ ((cfg0.win 2).blk t).view.set ↔ t.val * 256 ≤ (i 0 : Nat) ∧ (i 0 : Nat) < t.val * 256 + 256 := by
  show i ∈ ((View.whole main_v2).slice (win0_2.rect t)).set ↔ _
  rw [View.set_slice_whole, Rect.mem_set_unit]
  have h1 : (i 1 : Nat) < 4096 := (i 1).isLt
  obtain ⟨-, -, -, -, d0, d1⟩ := idx_facts t
  refine ⟨fun h => ?_, fun h a => ?_⟩
  · have : win0_2.index t (0 : Fin 2) * 256 ≤ (i 0 : Nat) ∧ (i 0 : Nat) < win0_2.index t (0 : Fin 2) * 256 + 256 := h 0
    rw [d0] at this; exact this
  · match a with
    | ⟨0, _⟩ => show win0_2.index t (0 : Fin 2) * 256 ≤ (i 0 : Nat) ∧ (i 0 : Nat) < win0_2.index t (0 : Fin 2) * 256 + 256
                rw [d0]; exact h
    | ⟨1, _⟩ => show win0_2.index t (1 : Fin 2) * 4096 ≤ (i 1 : Nat) ∧ (i 1 : Nat) < win0_2.index t (1 : Fin 2) * 4096 + 4096
                rw [d1, Nat.zero_mul, Nat.zero_add]; exact ⟨Nat.zero_le _, h1⟩

/-- The blocks tile the result array. -/
theorem cover (i : S8192x4096.Idx) :
    ∃ t : Fin cfg0.N, (cfg0.win 2).flush t = true ∧ i ∈ ((cfg0.win 2).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

/-- The arrays the region finds are the first argument and the second transposed. -/
theorem entry (c : Dev nD) : V m c main_v1 = transpose S4096x1024 [1, 0] (m ((c : Thread nD τ).loc main_arg1) : S1024x4096.Idx → EReal) transposes_S1024x4096_S4096x1024_1_0 := by
  show StableHlo.after _ _ _ = _
  simp only [hostOps0, List.flatten_cons, List.flatten_nil, List.append_nil]
  after_results; rfl

/-- The lines after the region widen the result array, which is the identity on the extended reals. -/
theorem tail (c : Dev nD) : Pipeline.afterTail₀ cfgs (dats m) 0 (V0 m) [hostOps1] c main_v3 = G m c := by
  unfold Pipeline.afterTail₀
  simp only [hostOps1, List.flatten_cons, List.flatten_nil, List.append_nil]
  after_results
  exact (Pipeline.withArrays_arr (cfgs 0).spec (show Function.Injective (Pipeline.arrRef spec0) by decide) c (V0 m c) (fun w => (dats m 0 c).arrAt w (cfgs 0).N) 2).trans (final m c)

/-- The run, read: the result, the arguments unchanged. -/
theorem run : θ_run defs (onTc (τ := τ) (main (F := Ideal))) ⟨m, fun _ => 0, ρ⟩ fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (Pipeline.mem_restRefs_of main_v3 (by decide) (by decide))).trans (tail m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c))⟩) (run_main m ρ)

end Cert.Kernel9Ideal.FfnUp

namespace Cert.FfnUp

open Cert.Reference9Ideal Cert.Reference9Ideal.Gen Cert.Reference9Ideal.Read

/-- The product, read at a row and a column: the same sum. -/
theorem value (x0 : S8192x1024.Idx → EReal) (x1 : S1024x4096.Idx → EReal) (i : S8192x4096.Idx) :
    val_main_v0 (F := Ideal) x0 x1 i = ∑ k : Fin 1024, x0 (ix2 (i 0) k) * x1 (ix2 k (i 1)) := by
  rw [val_main_v0_apply]
  refine Finset.sum_congr rfl fun k _ => ?_
  rw [show lidx_main_v0 i k = ix2 (i 0) k from funext fun a => match a with | ⟨0, _⟩ => rfl | ⟨1, _⟩ => rfl,
    show ridx_main_v0 i k = ix2 k (i 1) from funext fun a => match a with | ⟨0, _⟩ => rfl | ⟨1, _⟩ => rfl]
  rfl

end Cert.FfnUp

namespace Cert.Proof.FfnUpClaims

/-- The kernel's result and the reference's product are equal, element by element. -/
theorem algebraic : Cert.algebraic_Kernel9Ideal_Reference9Ideal (hKernel9Ideal := Cert.Kernel9Ideal.Gen.facts) (hReference9Ideal := Cert.Reference9Ideal.Gen.facts) := by
  intro m ρ m' ρ' _ hagree
  refine ⟨fun c => Cert.Kernel9Ideal.FfnUp.G m c, Cert.Kernel9Ideal.FfnUp.run m ρ, ?_⟩
  refine (θ_run Cert.Reference9Ideal.defs _ _).mono (fun _ h c => ⟨(h c).1.trans ?_, (h c).2⟩)
    (Cert.Reference9Ideal.Value.run (F := Ideal) m' ρ')
  rw [Cert.Reference9Ideal.Read.val_main_v0_eq, (hagree c).1, (hagree c).2]
  funext i
  refine (Cert.FfnUp.value _ _ i).trans ?_
  show _ = Cert.Kernel9Ideal.FfnUp.G0 (Cert.Kernel9Ideal.Gen.V m c Cert.Kernel9Ideal.main_arg0) (Cert.Kernel9Ideal.Gen.V m c Cert.Kernel9Ideal.main_v1) i
  rw [Cert.Kernel9Ideal.Gen.V_main_arg0 m c, Cert.Kernel9Ideal.FfnUp.entry m c]
  refine Finset.sum_congr rfl fun k _ => congrArg₂ (fun x y : EReal => x * y) rfl ?_
  exact (transpose_apply [1, 0] _ Cert.Kernel9Ideal.Gen.transposes_S1024x4096_S4096x1024_1_0 (ix2 (i 1) k) (ix2 k (i 1)) (fun b => match b with
    | ⟨0, _⟩ => rfl
    | ⟨1, _⟩ => rfl)).symm

/-- The reference's run leaves the arguments and the counters alone. -/
theorem reference : Cert.quiescent_Reference9Ideal (hReference9Ideal := Cert.Reference9Ideal.Gen.facts) := fun m ρ _ =>
  (θ_run Cert.Reference9Ideal.defs _ _).mono (fun r h => ⟨fun c => (h c).2,
      Idealize.ShloMosaic.sem_eq_zero_of_no_sems (by decide) r.2⟩)
    (Cert.Reference9Ideal.Value.run m ρ)

end Cert.Proof.FfnUpClaims

end
-- ==== Proof.Rows.lean ====
/-
  A row's mean, its spread and the normalised row, as functions of the row's elements, and the vector operations of a
  kernel that computes them over a tile of rows.
-/
module

public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.PureOps.Ideal.Laws

@[expose] public section

noncomputable section

open Idealize.ShloMosaic Idealize.ShloMosaic.ValueIdx

namespace Cert.Rows

/-- The mean of a row's 1024 elements. -/
def mean (r : Fin 1024 → EReal) : EReal := Ideal.div (∑ k : Fin 1024, r k) (Ideal.ofBits .f32 0x44800000#32)

/-- One over the square root of a row's variance with the small constant added. -/
def spread (r : Fin 1024 → EReal) : EReal :=
  Ideal.rsqrt (mean (fun k => (r k - mean r) * (r k - mean r)) + Ideal.ofBits .f32 0x3727C5AC#32)

/-- The normalised row at column `q`: centred, divided by the spread, scaled and shifted. -/
def norm (r : Fin 1024 → EReal) (g b : EReal) (q : Fin 1024) : EReal := (r q - mean r) * spread r * g + b

variable {a : Nat}

/-- The index a reduced row's coordinate is lifted to. -/
theorem lift_row (h : (⟨2, ![a, 1024]⟩ : Shape).Reduces [1] (⟨1, ![a]⟩ : Shape)) (p : Fin a)
    (k : Fin ((⟨2, ![a, 1024]⟩ : Shape).size 1)) : h.lift (ix1 p) k = ix2 p (⟨k.val, k.isLt⟩ : Fin 1024) := by
  funext x; apply Fin.ext
  match x with
  | ⟨0, _⟩ => rfl
  | ⟨1, _⟩ => rfl

/-- The kernel's mean over a tile of rows, read at a row. -/
theorem mean_apply (s : FVec Ideal ⟨2, ![a, 1024]⟩ .f32) (h : (⟨2, ![a, 1024]⟩ : Shape).Reduces [1] (⟨1, ![a]⟩ : Shape))
    (hφ : FKind.Formats .f32) (hacc : 0x00000000#32 = FKind.add.neutral .f32 hφ) (hc : (⟨1, ![a]⟩ : Shape).ShapeCasts ⟨2, ![a, 1]⟩) (p : Fin a) (u : Fin 1) :
    divf (shapeCast ⟨2, ![a, 1]⟩ (multiReduction .add [1] ⟨1, ![a]⟩ s 0x00000000#32 h hφ hacc) hc)
        (broadcast ⟨2, ![a, 1]⟩ (Scalar.ofBits (F := Ideal) .f32 0x44800000#32)) (ix2 p u)
      = mean (fun k => s (ix2 p k)) := by
  show Ideal.div (shapeCast ⟨2, ![a, 1]⟩ _ hc (ix2 p u)) (Ideal.ofBits .f32 0x44800000#32) = _
  rw [shapeCast_a_a1_apply, Ideal.multiReduction_add_single]
  unfold mean
  refine congrArg (fun z : EReal => Ideal.div z _) (Finset.sum_congr rfl fun k _ => congrArg s ?_)
  exact lift_row h p k

/-- A column of one element per row, spread over the columns, read at a row and a column. -/
theorem spread_cols (v : (⟨2, ![a, 1]⟩ : Shape).Idx → EReal) (h : (⟨2, ![a, 1]⟩ : Shape).Broadcasts ⟨2, ![a, 1024]⟩)
    (p : Fin a) (q : Fin 1024) : broadcastTo ⟨2, ![a, 1024]⟩ v h (ix2 p q) = v (ix2 p (0 : Fin 1)) := by
  refine broadcastTo_apply v h (ix2 p q) (ix2 p (0 : Fin 1)) fun x => ?_
  match x with
  | ⟨0, _⟩ =>
    show p.val = if a = 1 then 0 else p.val
    split
    · have := p.isLt; omega
    · rfl
  | ⟨1, _⟩ => rfl

/-- The kernel's normalisation over a tile of rows, read at a row and a column. -/
theorem norm_apply (s : FVec Ideal ⟨2, ![a, 1024]⟩ .f32) (g b : FVec Ideal ⟨2, ![1, 1024]⟩ .f32)
    (h : (⟨2, ![a, 1024]⟩ : Shape).Reduces [1] (⟨1, ![a]⟩ : Shape)) (hφ : FKind.Formats .f32)
    (hacc : 0x00000000#32 = FKind.add.neutral .f32 hφ) (hc : (⟨1, ![a]⟩ : Shape).ShapeCasts ⟨2, ![a, 1]⟩)
    (hb : (⟨2, ![a, 1]⟩ : Shape).Broadcasts ⟨2, ![a, 1024]⟩) (hv : (⟨2, ![1, 1024]⟩ : Shape).Broadcasts ⟨2, ![a, 1024]⟩)
    (M : FVec Ideal ⟨2, ![a, 1]⟩ .f32) (hM : M = divf (shapeCast ⟨2, ![a, 1]⟩ (multiReduction .add [1] ⟨1, ![a]⟩ s 0x00000000#32 h hφ hacc) hc)
        (broadcast ⟨2, ![a, 1]⟩ (Scalar.ofBits (F := Ideal) .f32 0x44800000#32)))
    (X : FVec Ideal ⟨2, ![a, 1024]⟩ .f32) (hX : X = subf s (broadcastTo ⟨2, ![a, 1024]⟩ M hb))
    (p : Fin a) (q : Fin 1024) :
    addf (mulf (mulf X (broadcastTo ⟨2, ![a, 1024]⟩ (rsqrt (addf (divf (shapeCast ⟨2, ![a, 1]⟩
          (multiReduction .add [1] ⟨1, ![a]⟩ (mulf X X) 0x00000000#32 h hφ hacc) hc)
        (broadcast ⟨2, ![a, 1]⟩ (Scalar.ofBits (F := Ideal) .f32 0x44800000#32)))
        (broadcast ⟨2, ![a, 1]⟩ (Scalar.ofBits (F := Ideal) .f32 0x3727C5AC#32)))) hb))
      (broadcastTo ⟨2, ![a, 1024]⟩ g hv)) (broadcastTo ⟨2, ![a, 1024]⟩ b hv) (ix2 p q)
      = norm (fun k => s (ix2 p k)) (g (ix2 (0 : Fin 1) q)) (b (ix2 (0 : Fin 1) q)) q := by
  have hx : ∀ k : Fin 1024, X (ix2 p k) = s (ix2 p k) - mean (fun k => s (ix2 p k)) := fun k => by
    rw [hX]
    show s (ix2 p k) - broadcastTo ⟨2, ![a, 1024]⟩ M hb (ix2 p k) = _
    rw [spread_cols, hM, mean_apply]
  show X (ix2 p q) * broadcastTo ⟨2, ![a, 1024]⟩ (rsqrt (F := Ideal) _) hb (ix2 p q) * broadcastTo ⟨2, ![a, 1024]⟩ g hv (ix2 p q)
    + broadcastTo ⟨2, ![a, 1024]⟩ b hv (ix2 p q) = _
  rw [spread_cols, broadcastTo_1b_ab_apply, broadcastTo_1b_ab_apply, hx q]
  unfold norm
  refine congrArg (fun z : EReal => (s (ix2 p q) - mean (fun k => s (ix2 p k))) * z * g (ix2 (0 : Fin 1) q) + b (ix2 (0 : Fin 1) q)) ?_
  unfold spread
  refine congrArg Ideal.rsqrt (congrArg (fun z : EReal => z + Ideal.ofBits .f32 0x3727C5AC#32) ?_)
  refine (mean_apply (mulf X X) h hφ hacc hc p 0).trans (congrArg mean (funext fun k => ?_))
  show X (ix2 p k) * X (ix2 p k) = _
  rw [hx k]

end Cert.Rows

end
-- ==== Proof.FfnDown.lean ====
/-
  The feed-forward layer's second product with the residual and the normalisation: what the kernel's two result
  arrays end holding, and that the reference's sum and its normalised rows are the same.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Rows
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel10Ideal.FfnDown

open Cert.Kernel10Ideal Cert.Kernel10Ideal.Gen

variable (m : (ℓ : Loc nD τ sig) → Buf (Elt Ideal) ℓ) (ρ : Dev nD → PrngReg)

/-- What the kernel does to an element of its first operand before the product. -/
def act (z : EReal) : EReal := max z (Ideal.ofBits .f32 0x00000000#32) * max z (Ideal.ofBits .f32 0x00000000#32)

theorem hz : (![0, 0] : Fin 2 → Nat) = fun _ => 0 := funext fun a => by fin_cases a <;> rfl

/-- A product of two extended reals. -/
abbrev times (x y : EReal) : EReal := x * y

/-- The product of two tiles read at a row and a column: the sum over the shared axis. -/
theorem tile_dot (x : FVec Ideal S256x4096 .bf16) (y : FVec Ideal S4096x1024 .bf16) (j : S256x1024.Idx) :
    matmul dot_S256x4096_S4096x1024_S256x1024_1_0_0_1_n_n none x y (constant S256x1024 .f32 0x00000000#32) j
      = ∑ k : Fin 4096, x (ix2 (j 0) k) * y (ix2 k (j 1)) := by
  show (Ideal.ofBits .f32 0x00000000#32 : EReal) + _ = _
  rw [show (Ideal.ofBits .f32 0x00000000#32 : EReal) = 0 from by simp [Ideal.ofBits, Ideal.ieee], zero_add,
    ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  congr 2
  · funext a
    apply Fin.ext
    match a with
    | ⟨0, _⟩ =>
      unfold DotDims.lhsIdx
      rw [dif_neg (show ⟨0, _⟩ ∉ dot_S256x4096_S4096x1024_S256x1024_1_0_0_1_n_n.lhsBatch from by decide +revert),
        dif_pos (show ⟨0, _⟩ ∈ dot_S256x4096_S4096x1024_S256x1024_1_0_0_1_n_n.lhsNonContracting from by decide +revert)]; rfl
    | ⟨1, _⟩ => exact (DotDims.lhsIdx_val_of_single _ rfl j _).trans hk
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S256x4096_S4096x1024_S256x1024_1_0_0_1_n_n.rhsBatch from by decide +revert),
        dif_pos (show ⟨1, _⟩ ∈ dot_S256x4096_S4096x1024_S256x1024_1_0_0_1_n_n.rhsNonContracting from by decide +revert)]; rfl

/-- What one tile of the sum holds at a row and a column: the scaled residual and the product. -/
theorem pay1_apply (x : Vec Ideal S256x4096 .bf16) (w : Vec Ideal S4096x1024 .bf16) (s : Vec Ideal S256x1024 .f32) (j : S256x1024.Idx) :
    k0_pay1 x w s j = Ideal.ofBits .f32 0x3FB504F3#32 * s j + ∑ k : Fin 4096, times (act (x (ix2 (j 0) k))) (w (ix2 k (j 1))) := by
  show Ideal.ofBits .f32 0x3FB504F3#32 * s j + matmul (F := Ideal) dot_S256x4096_S4096x1024_S256x1024_1_0_0_1_n_n none (truncf .bf16 (mulf (maximumf (extf .f32 (shapeCast S256x4096 x shapeCasts_S256x4096_S256x4096) bitsLt_bf16_f32) (broadcast S256x4096 (Scalar.ofBits (F := Ideal) .f32 0x00000000#32))) (maximumf (extf .f32 (shapeCast S256x4096 x shapeCasts_S256x4096_S256x4096) bitsLt_bf16_f32) (broadcast S256x4096 (Scalar.ofBits (F := Ideal) .f32 0x00000000#32)))) bitsLt_bf16_f32) (shapeCast S4096x1024 w shapeCasts_S4096x1024_S4096x1024) (constant S256x1024 .f32 0x00000000#32) j = _
  simp only [shapeCast_self]
  rw [tile_dot]
  rfl

/-- What one tile of the normalised result holds at a row and a column: the normalised row of the sum. -/
theorem pay2_apply (x : Vec Ideal S256x4096 .bf16) (w : Vec Ideal S4096x1024 .bf16) (s : Vec Ideal S256x1024 .f32) (g b : Vec Ideal S1x1024 .f32)
    (p : Fin 256) (q : Fin 1024) :
    k0_pay2 x w s g b (ix2 p q) = Cert.Rows.norm (fun k => k0_pay1 x w s (ix2 p k)) (g (ix2 (0 : Fin 1) q)) (b (ix2 (0 : Fin 1) q)) q := by
  unfold k0_pay2
  dsimp only
  rw [shapeCast_self, shapeCast_self]
  exact Cert.Rows.norm_apply (k0_pay1 x w s) g b reduces_S256x1024_S256 (.inl rfl) rfl shapeCasts_S256_S256x1 broadcasts_S256x1_S256x1024 broadcasts_S1x1024_S256x1024 _ rfl _ rfl p q

/-- The sum at a row and a column: the scaled residual and the product over the shared axis. -/
def H5 (x : S8192x4096.Idx → EReal) (w : S4096x1024.Idx → EReal) (s : S8192x1024.Idx → EReal) (i : S8192x1024.Idx) : EReal :=
  Ideal.ofBits .f32 0x3FB504F3#32 * s i + ∑ k : Fin 4096, times (act (x (ix2 (i 0) k))) (w (ix2 k (i 1)))

/-- The normalised sum at a row and a column. -/
def H6 (x : S8192x4096.Idx → EReal) (w : S4096x1024.Idx → EReal) (s : S8192x1024.Idx → EReal) (g b : S1x1024.Idx → EReal) (i : S8192x1024.Idx) : EReal :=
  Cert.Rows.norm (fun k => H5 x w s (ix2 (i 0) k)) (g (ix2 (0 : Fin 1) (i 1))) (b (ix2 (0 : Fin 1) (i 1))) (i 1)

/-- The first result as a function of the arrays the region finds. -/
def G5 (c : Dev nD) : Buf (Elt Ideal) ((c : Thread nD τ).loc main_v4_0) := H5 (V m c main_v0) (V m c main_v1) (V m c main_arg0)

/-- The second result as a function of the arrays the region finds. -/
def G6 (c : Dev nD) : Buf (Elt Ideal) ((c : Thread nD τ).loc main_v4_1) :=
  H6 (V m c main_v0) (V m c main_v1) (V m c main_arg0) (V m c main_v2) (V m c main_v3)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The tile of the sum computed from the tiles of the arrays is the tile of the whole sum. -/
theorem tile_eq5 (t : Fin cfg0.N) (X : main_v0.ty.Contents (Elt Ideal)) (W : main_v1.ty.Contents (Elt Ideal)) (S : main_arg0.ty.Contents (Elt Ideal)) :
    k0_pay1 (F := Ideal) (((cfg0.win 0).blk t).view.read (Elt Ideal) X) (((cfg0.win 1).blk t).view.read (Elt Ideal) W) (((cfg0.win 2).blk t).view.read (Elt Ideal) S)
      = fun j : S256x1024.Idx => H5 X W S (((cfg0.win 5).blk t).view.emb j) := by
  obtain ⟨a0, a1, b0, b1, c0, c1, -, -, -, -, d0, d1, -⟩ := idx_facts t
  funext j
  refine (pay1_apply _ _ _ j).trans ?_
  unfold H5
  refine congrArg₂ (fun x y : EReal => x + y) (congrArg (times (Ideal.ofBits .f32 0x3FB504F3#32)) (congrArg S ?_))
    (Finset.sum_congr rfl fun k _ => congrArg₂ times (congrArg act (congrArg X ?_)) (congrArg W ?_))
  · funext a; apply Fin.ext
    match a with
    | ⟨0, _⟩ => show win0_2.index t (0 : Fin 2) * 256 + 1 * (j 0).val = win0_5.index t (0 : Fin 2) * 256 + 1 * (j 0).val; rw [c0, d0]
    | ⟨1, _⟩ => show win0_2.index t (1 : Fin 2) * 1024 + 1 * (j 1).val = win0_5.index t (1 : Fin 2) * 1024 + 1 * (j 1).val; rw [c1, d1]
  · funext a; apply Fin.ext
    match a with
    | ⟨0, _⟩ => show win0_0.index t (0 : Fin 2) * 256 + 1 * (j 0).val = win0_5.index t (0 : Fin 2) * 256 + 1 * (j 0).val; rw [a0, d0]
    | ⟨1, _⟩ => show win0_0.index t (1 : Fin 2) * 4096 + 1 * k.val = k.val; rw [a1]; omega
  · funext a; apply Fin.ext
    match a with
    | ⟨0, _⟩ => show win0_1.index t (0 : Fin 2) * 4096 + 1 * k.val = k.val; rw [b0]; omega
    | ⟨1, _⟩ => show win0_1.index t (1 : Fin 2) * 1024 + 1 * (j 1).val = win0_5.index t (1 : Fin 2) * 1024 + 1 * (j 1).val; rw [b1, d1]

/-- Equal rows, scales, shifts and columns normalise alike. -/
theorem norm_congr {r r' : Fin 1024 → EReal} {g g' b b' : EReal} {q q' : Fin 1024} (hr : r = r') (hg : g = g') (hb : b = b') (hq : q = q') :
    Cert.Rows.norm r g b q = Cert.Rows.norm r' g' b' q' := by
  subst hr hg hb hq; rfl

/-- The normalised tile computed from the tiles of the arrays is the tile of the whole normalised sum. -/
theorem tile_eq6 (t : Fin cfg0.N) (X : main_v0.ty.Contents (Elt Ideal)) (W : main_v1.ty.Contents (Elt Ideal)) (S : main_arg0.ty.Contents (Elt Ideal))
    (Γ : main_v2.ty.Contents (Elt Ideal)) (B : main_v3.ty.Contents (Elt Ideal)) :
    k0_pay2 (F := Ideal) (((cfg0.win 0).blk t).view.read (Elt Ideal) X) (((cfg0.win 1).blk t).view.read (Elt Ideal) W) (((cfg0.win 2).blk t).view.read (Elt Ideal) S)
        (((cfg0.win 3).blk t).view.read (Elt Ideal) Γ) (((cfg0.win 4).blk t).view.read (Elt Ideal) B)
      = fun j : S256x1024.Idx => H6 X W S Γ B (((cfg0.win 6).blk t).view.emb j) := by
  obtain ⟨-, -, -, -, -, -, g0, g1, b0, b1, d0, d1, e0, e1⟩ := idx_facts t
  funext j
  have hj : j = ix2 (j 0) (j 1) := funext fun a => match a with | ⟨0, _⟩ => rfl | ⟨1, _⟩ => rfl
  refine (congrArg (k0_pay2 _ _ _ _ _) hj).trans ((pay2_apply _ _ _ _ _ (j 0) (j 1)).trans ?_)
  unfold H6
  refine norm_congr (funext fun k => ?_) (congrArg Γ ?_) (congrArg B ?_) ?_
  · refine (congrFun (tile_eq5 t X W S) (ix2 (j 0) k)).trans (congrArg (H5 X W S) ?_)
    funext a; apply Fin.ext
    match a with
    | ⟨0, _⟩ => show win0_5.index t (0 : Fin 2) * 256 + 1 * (j 0).val = win0_6.index t (0 : Fin 2) * 256 + 1 * (j 0).val; rw [d0, e0]
    | ⟨1, _⟩ => show win0_5.index t (1 : Fin 2) * 1024 + 1 * k.val = k.val; rw [d1]; omega
  · funext a; apply Fin.ext
    match a with
    | ⟨0, _⟩ => show win0_3.index t (0 : Fin 2) * 1 + 1 * 0 = 0; rw [g0]
    | ⟨1, _⟩ => show win0_3.index t (1 : Fin 2) * 1024 + 1 * (j 1).val = win0_6.index t (1 : Fin 2) * 1024 + 1 * (j 1).val; rw [g1, e1]
  · funext a; apply Fin.ext
    match a with
    | ⟨0, _⟩ => show win0_4.index t (0 : Fin 2) * 1 + 1 * 0 = 0; rw [b0]
    | ⟨1, _⟩ => show win0_4.index t (1 : Fin 2) * 1024 + 1 * (j 1).val = win0_6.index t (1 : Fin 2) * 1024 + 1 * (j 1).val; rw [b1, e1]
  · apply Fin.ext
    show (j 1).val = win0_6.index t (1 : Fin 2) * 1024 + 1 * (j 1).val
    rw [e1, Nat.zero_mul, Nat.zero_add, Nat.one_mul]

/-- What point `t` writes back of the sum is its block. -/
theorem flushed_eq5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz, View.ld_unit_zero (S := S256x4096) hz, View.ld_unit_zero (S := S4096x1024) hz, View.ld_unit_zero (S := S256x1024) hz]
  exact tile_eq5 t (V m c main_v0) (V m c main_v1) (V m c main_arg0)

/-- What point `t` writes back of the normalised sum is its block. -/
theorem flushed_eq6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz, View.ld_unit_zero (S := S256x4096) hz, View.ld_unit_zero (S := S4096x1024) hz, View.ld_unit_zero (S := S256x1024) hz, View.ld_unit_zero (S := S1x1024) hz, View.ld_unit_zero (S := S1x1024) hz]
  exact tile_eq6 t (V m c main_v0) (V m c main_v1) (V m c main_arg0) (V m c main_v2) (V m c main_v3)

/-- An index of the result array is in point `t`'s block. -/
theorem mem_blk5 (t : Fin cfg0.N) (i : S8192x1024.Idx) :
    i ∈ ((cfg0.win 5).blk t).view.set ↔ t.val * 256 ≤ (i 0 : Nat) ∧ (i 0 : Nat) < t.val * 256 + 256 := by
  show i ∈ ((View.whole main_v4_0).slice (win0_5.rect t)).set ↔ _
  rw [View.set_slice_whole, Rect.mem_set_unit]
  have h1 : (i 1 : Nat) < 1024 := (i 1).isLt
  obtain ⟨-, -, -, -, -, -, -, -, -, -, d0, d1, -⟩ := idx_facts t
  refine ⟨fun h => ?_, fun h a => ?_⟩
  · have : win0_5.index t (0 : Fin 2) * 256 ≤ (i 0 : Nat) ∧ (i 0 : Nat) < win0_5.index t (0 : Fin 2) * 256 + 256 := h 0
    rw [d0] at this; exact this
  · match a with
    | ⟨0, _⟩ => show win0_5.index t (0 : Fin 2) * 256 ≤ (i 0 : Nat) ∧ (i 0 : Nat) < win0_5.index t (0 : Fin 2) * 256 + 256
                rw [d0]; exact h
    | ⟨1, _⟩ => show win0_5.index t (1 : Fin 2) * 1024 ≤ (i 1 : Nat) ∧ (i 1 : Nat) < win0_5.index t (1 : Fin 2) * 1024 + 1024
                rw [d1, Nat.zero_mul, Nat.zero_add]; exact ⟨Nat.zero_le _, h1⟩

/-- The blocks tile the result array. -/
theorem cover5 (i : S8192x1024.Idx) :
    ∃ t : Fin cfg0.N, (cfg0.win 5).flush t = true ∧ i ∈ ((cfg0.win 5).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_5 _, ?_⟩
  rw [mem_blk5]
  dsimp only
  omega

/-- So the result array ends holding it. -/
theorem final5 (c : Dev nD) : (dats m 0 c).arrAt 5 cfg0.N = G5 m c :=
  (dats m 0 c).arrAt_eq_of_cover 5 (G5 m c) (fun t _ => flushed_eq5 m c t) cover5

/-- An index of the result array is in point `t`'s block. -/
theorem mem_blk6 (t : Fin cfg0.N) (i : S8192x1024.Idx) :
    i ∈ ((cfg0.win 6).blk t).view.set ↔ t.val * 256 ≤ (i 0 : Nat) ∧ (i 0 : Nat) < t.val * 256 + 256 := by
  show i ∈ ((View.whole main_v4_1).slice (win0_6.rect t)).set ↔ _
  rw [View.set_slice_whole, Rect.mem_set_unit]
  have h1 : (i 1 : Nat) < 1024 := (i 1).isLt
  obtain ⟨-, -, -, -, -, -, -, -, -, -, -, -, d0, d1⟩ := idx_facts t
  refine ⟨fun h => ?_, fun h a => ?_⟩
  · have : win0_6.index t (0 : Fin 2) * 256 ≤ (i 0 : Nat) ∧ (i 0 : Nat) < win0_6.index t (0 : Fin 2) * 256 + 256 := h 0
    rw [d0] at this; exact this
  · match a with
    | ⟨0, _⟩ => show win0_6.index t (0 : Fin 2) * 256 ≤ (i 0 : Nat) ∧ (i 0 : Nat) < win0_6.index t (0 : Fin 2) * 256 + 256
                rw [d0]; exact h
    | ⟨1, _⟩ => show win0_6.index t (1 : Fin 2) * 1024 ≤ (i 1 : Nat) ∧ (i 1 : Nat) < win0_6.index t (1 : Fin 2) * 1024 + 1024
                rw [d1, Nat.zero_mul, Nat.zero_add]; exact ⟨Nat.zero_le _, h1⟩

/-- The blocks tile the result array. -/
theorem cover6 (i : S8192x1024.Idx) :
    ∃ t : Fin cfg0.N, (cfg0.win 6).flush t = true ∧ i ∈ ((cfg0.win 6).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_6 _, ?_⟩
  rw [mem_blk6]
  dsimp only
  omega

/-- So the result array ends holding it. -/
theorem final6 (c : Dev nD) : (dats m 0 c).arrAt 6 cfg0.N = G6 m c :=
  (dats m 0 c).arrAt_eq_of_cover 6 (G6 m c) (fun t _ => flushed_eq6 m c t) cover6

/-- The region finds here the second argument. -/
theorem entry_v0 (c : Dev nD) : V m c main_v0 = m ((c : Thread nD τ).loc main_arg1) := by
  show StableHlo.after _ _ _ = _
  simp only [hostOps0, List.flatten_cons, List.flatten_nil, List.append_nil]
  after_results; rfl

/-- The region finds here the third argument. -/
theorem entry_v1 (c : Dev nD) : V m c main_v1 = m ((c : Thread nD τ).loc main_arg2) := by
  show StableHlo.after _ _ _ = _
  simp only [hostOps0, List.flatten_cons, List.flatten_nil, List.append_nil]
  after_results; rfl

/-- The region finds here the scale as one row. -/
theorem entry_v2 (c : Dev nD) : V m c main_v2 = broadcastInDim S1x1024 ![1] bcast_S1024_S1x1024_1 (m ((c : Thread nD τ).loc main_arg3) : S1024.Idx → EReal) := by
  show StableHlo.after _ _ _ = _
  simp only [hostOps0, List.flatten_cons, List.flatten_nil, List.append_nil]
  after_results

/-- The region finds here the shift as one row. -/
theorem entry_v3 (c : Dev nD) : V m c main_v3 = broadcastInDim S1x1024 ![1] bcast_S1024_S1x1024_1 (m ((c : Thread nD τ).loc main_arg4) : S1024.Idx → EReal) := by
  show StableHlo.after _ _ _ = _
  simp only [hostOps0, List.flatten_cons, List.flatten_nil, List.append_nil]
  after_results

/-- One row spread from a vector, read at a column. -/
theorem row_apply (x : S1024.Idx → EReal) (q : Fin 1024) : broadcastInDim S1x1024 ![1] bcast_S1024_S1x1024_1 x (ix2 (0 : Fin 1) q) = x (ix1 q) :=
  broadcastInDim_apply _ bcast_S1024_S1x1024_1 x _ _ (fun a => match a with
    | ⟨0, _⟩ => by show q.val = if (1024 : Nat) = 1 then 0 else q.val; rw [if_neg (by decide)])

/-- The run, read: the two results, the arguments unchanged. -/
theorem run : θ_run defs (onTc (τ := τ) (main (F := Ideal))) ⟨m, fun _ => 0, ρ⟩ fun r => ∀ c : Dev nD,
      r.2.mem ((c.tc : Thread nD τ).loc main_v4_0) = G5 m c
      ∧ r.2.mem ((c.tc : Thread nD τ).loc main_v4_1) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c), ((h c).1 6).trans (final6 m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel10Ideal.FfnDown

namespace Cert.FfnDown

open Cert.Reference10Ideal Cert.Reference10Ideal.Gen Cert.Reference10Ideal.Read
open Cert.Kernel10Ideal.FfnDown (act times H5 H6 row_apply)

variable (x0 : S8192x1024.Idx → EReal) (x1 : S8192x4096.Idx → EReal) (x2 : S4096x1024.Idx → EReal)

/-- The reference's squared positive part of an element. -/
theorem act_apply (i : S8192x4096.Idx) : val_main_v3 (F := Ideal) x1 i = act (x1 i) := by
  rw [val_main_v3_apply, val_main_v2_apply, val_main_call0_v0_apply, val_main_call0_cst_apply]
  rfl

/-- The reference's sum, read at a row and a column: the scaled residual and the product over the shared axis. -/
theorem value (i : S8192x1024.Idx) : val_main_v5 (F := Ideal) x0 x1 x2 i = H5 x1 x2 x0 i := by
  rw [val_main_v5_apply, val_main_v1_apply, val_main_v0_apply, val_main_cst_apply, val_main_v4_apply]
  unfold H5
  refine congrArg₂ (fun x y : EReal => x + y) rfl (Finset.sum_congr rfl fun k _ => ?_)
  rw [show lidx_main_v4 i k = ix2 (i 0) k from funext fun a => match a with | ⟨0, _⟩ => rfl | ⟨1, _⟩ => rfl,
    show ridx_main_v4 i k = ix2 k (i 1) from funext fun a => match a with | ⟨0, _⟩ => rfl | ⟨1, _⟩ => rfl]
  exact congrArg₂ times (act_apply x1 _) rfl

/-- The reference's mean of a row of the sum. -/
theorem mean_row (u : S8192x1.Idx) :
    val_main_v9 (F := Ideal) x0 x1 x2 u = Cert.Rows.mean (fun k => val_main_v5 (F := Ideal) x0 x1 x2 (ix2 (u 0) k)) := by
  rw [val_main_v9_apply, val_main_v7_apply, val_main_v6_apply, val_main_v8_apply, val_main_cst_1_apply, val_main_cst_0_apply]
  show Ideal.div (Ideal.ofBits .f32 0x00000000#32 + _) (Ideal.ofBits .f32 0x44800000#32) = _
  rw [show (Ideal.ofBits .f32 0x00000000#32 : EReal) = 0 from by simp [Ideal.ofBits, Ideal.ieee], zero_add]
  unfold Cert.Rows.mean
  refine congrArg (fun z : EReal => Ideal.div z _) (Finset.sum_congr rfl fun k _ => congrArg (val_main_v5 (F := Ideal) x0 x1 x2) ?_)
  exact funext fun a => match a with | ⟨0, _⟩ => rfl | ⟨1, _⟩ => rfl

/-- The reference's centred sum. -/
theorem centred (i : S8192x1024.Idx) :
    val_main_v11 (F := Ideal) x0 x1 x2 i = val_main_v5 (F := Ideal) x0 x1 x2 i - Cert.Rows.mean (fun k => val_main_v5 (F := Ideal) x0 x1 x2 (ix2 (i 0) k)) := by
  rw [val_main_v11_apply, val_main_v10_apply, mean_row]
  rfl

/-- The reference's variance of a row of the sum. -/
theorem var_row (u : S8192x1.Idx) :
    val_main_v16 (F := Ideal) x0 x1 x2 u = Cert.Rows.mean (fun k => val_main_v11 (F := Ideal) x0 x1 x2 (ix2 (u 0) k) * val_main_v11 (F := Ideal) x0 x1 x2 (ix2 (u 0) k)) := by
  rw [val_main_v16_apply, val_main_v14_apply, val_main_v13_apply, val_main_v15_apply, val_main_cst_3_apply, val_main_cst_2_apply]
  show Ideal.div (Ideal.ofBits .f32 0x00000000#32 + _) (Ideal.ofBits .f32 0x44800000#32) = _
  rw [show (Ideal.ofBits .f32 0x00000000#32 : EReal) = 0 from by simp [Ideal.ofBits, Ideal.ieee], zero_add]
  unfold Cert.Rows.mean
  refine congrArg (fun z : EReal => Ideal.div z _) (Finset.sum_congr rfl fun k _ => ?_)
  refine (val_main_v12_apply (F := Ideal) x0 x1 x2 _).trans ?_
  rw [show idx_main_v13 (idx_main_v14 u) k = ix2 (u 0) k from funext fun a => match a with | ⟨0, _⟩ => rfl | ⟨1, _⟩ => rfl]
  rfl

/-- The reference's normalised sum, read at a row and a column: the normalised row. -/
theorem value_norm (x3 x4 : S1024.Idx → EReal) (p : Fin 8192) (q : Fin 1024) :
    val_main_v27 (F := Ideal) x0 x1 x2 x3 x4 (ix2 p q)
      = Cert.Rows.norm (fun k => val_main_v5 (F := Ideal) x0 x1 x2 (ix2 p k)) (x3 (ix1 q)) (x4 (ix1 q)) q := by
  rw [val_main_v27_apply, val_main_v24_apply, val_main_v26_apply, val_main_v25_apply, val_main_v21_apply, val_main_v20_apply, val_main_v19_apply,
    val_main_v18_apply, val_main_v17_apply, val_main_cst_4_apply, val_main_v23_apply, val_main_v22_apply, centred, var_row,
    show idx_main_v22 (idx_main_v23 (ix2 p q)) = ix1 q from funext fun a => match a with | ⟨0, _⟩ => rfl,
    show idx_main_v25 (idx_main_v26 (ix2 p q)) = ix1 q from funext fun a => match a with | ⟨0, _⟩ => rfl]
  simp only [centred]
  rfl

end Cert.FfnDown

namespace Cert.Proof.FfnDownClaims

/-- The kernel's two results and the reference's are equal, element by element. -/
theorem algebraic : Cert.algebraic_Kernel10Ideal_Reference10Ideal (hKernel10Ideal := Cert.Kernel10Ideal.Gen.facts) (hReference10Ideal := Cert.Reference10Ideal.Gen.facts) := by
  intro m ρ m' ρ' _ hagree
  refine ⟨fun c => Cert.Kernel10Ideal.FfnDown.G5 m c, fun c => Cert.Kernel10Ideal.FfnDown.G6 m c, Cert.Kernel10Ideal.FfnDown.run m ρ, ?_⟩
  refine (θ_run Cert.Reference10Ideal.defs _ _).mono (fun _ h c => ⟨(h c).1.trans ?_, (h c).2.1.trans ?_, (h c).2.2⟩)
    (Cert.Reference10Ideal.Value.run (F := Ideal) m' ρ')
  · rw [Cert.Reference10Ideal.Read.val_main_v5_eq, (hagree c).1, (hagree c).2.1, (hagree c).2.2.1]
    funext i
    refine (Cert.FfnDown.value _ _ _ i).trans ?_
    show _ = Cert.Kernel10Ideal.FfnDown.H5 (Cert.Kernel10Ideal.Gen.V m c Cert.Kernel10Ideal.main_v0) (Cert.Kernel10Ideal.Gen.V m c Cert.Kernel10Ideal.main_v1) (Cert.Kernel10Ideal.Gen.V m c Cert.Kernel10Ideal.main_arg0) i
    rw [Cert.Kernel10Ideal.FfnDown.entry_v0 m c, Cert.Kernel10Ideal.FfnDown.entry_v1 m c, Cert.Kernel10Ideal.Gen.V_main_arg0 m c]
  · rw [Cert.Reference10Ideal.Read.val_main_v27_eq, (hagree c).1, (hagree c).2.1, (hagree c).2.2.1, (hagree c).2.2.2.1, (hagree c).2.2.2.2]
    funext i
    have hi : i = ix2 (i 0) (i 1) := funext fun a => match a with | ⟨0, _⟩ => rfl | ⟨1, _⟩ => rfl
    refine (congrArg (Cert.Reference10Ideal.Read.val_main_v27 (F := Ideal) _ _ _ _ _) hi).trans ((Cert.FfnDown.value_norm _ _ _ _ _ (i 0) (i 1)).trans ?_)
    show _ = Cert.Kernel10Ideal.FfnDown.H6 (Cert.Kernel10Ideal.Gen.V m c Cert.Kernel10Ideal.main_v0) (Cert.Kernel10Ideal.Gen.V m c Cert.Kernel10Ideal.main_v1) (Cert.Kernel10Ideal.Gen.V m c Cert.Kernel10Ideal.main_arg0) (Cert.Kernel10Ideal.Gen.V m c Cert.Kernel10Ideal.main_v2) (Cert.Kernel10Ideal.Gen.V m c Cert.Kernel10Ideal.main_v3) i
    rw [Cert.Kernel10Ideal.FfnDown.entry_v0 m c, Cert.Kernel10Ideal.FfnDown.entry_v1 m c, Cert.Kernel10Ideal.Gen.V_main_arg0 m c, Cert.Kernel10Ideal.FfnDown.entry_v2 m c, Cert.Kernel10Ideal.FfnDown.entry_v3 m c]
    unfold Cert.Kernel10Ideal.FfnDown.H6
    refine Cert.Kernel10Ideal.FfnDown.norm_congr (funext fun k => Cert.FfnDown.value _ _ _ _) ?_ ?_ rfl
    · exact (Cert.Kernel10Ideal.FfnDown.row_apply _ _).symm
    · exact (Cert.Kernel10Ideal.FfnDown.row_apply _ _).symm

/-- The reference's run leaves the arguments and the counters alone. -/
theorem reference : Cert.quiescent_Reference10Ideal (hReference10Ideal := Cert.Reference10Ideal.Gen.facts) := fun m ρ _ =>
  (θ_run Cert.Reference10Ideal.defs _ _).mono (fun r h => ⟨fun c => (h c).2.2,
      Idealize.ShloMosaic.sem_eq_zero_of_no_sems (by decide) r.2⟩)
    (Cert.Reference10Ideal.Value.run m ρ)

end Cert.Proof.FfnDownClaims

end
-- ==== Proof.OutProj.lean ====
/-
  The output projection with the residual and the normalisation: what the kernel's two result arrays end holding,
  and that the reference's sum and its normalised rows are the same.
-/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Rows
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel11Ideal.OutProj

open Cert.Kernel11Ideal Cert.Kernel11Ideal.Gen

variable (m : (ℓ : Loc nD τ sig) → Buf (Elt Ideal) ℓ) (ρ : Dev nD → PrngReg)

/-- What the kernel does to an element of its first operand before the product. -/
def act (z : EReal) : EReal := z

theorem hz : (![0, 0] : Fin 2 → Nat) = fun _ => 0 := funext fun a => by fin_cases a <;> rfl

/-- A product of two extended reals. -/
abbrev times (x y : EReal) : EReal := x * y

/-- The product of two tiles read at a row and a column: the sum over the shared axis. -/
theorem tile_dot (x : FVec Ideal S512x1024 .bf16) (y : FVec Ideal S1024x1024 .bf16) (j : S512x1024.Idx) :
    matmul dot_S512x1024_S1024x1024_S512x1024_1_0_0_1_n_n none x y (constant S512x1024 .f32 0x00000000#32) j
      = ∑ k : Fin 1024, x (ix2 (j 0) k) * y (ix2 k (j 1)) := by
  show (Ideal.ofBits .f32 0x00000000#32 : EReal) + _ = _
  rw [show (Ideal.ofBits .f32 0x00000000#32 : EReal) = 0 from by simp [Ideal.ofBits, Ideal.ieee], zero_add,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  congr 2
  · funext a
    apply Fin.ext
    match a with
    | ⟨0, _⟩ =>
      unfold DotDims.lhsIdx
      rw [dif_neg (show ⟨0, _⟩ ∉ dot_S512x1024_S1024x1024_S512x1024_1_0_0_1_n_n.lhsBatch from by decide +revert),
        dif_pos (show ⟨0, _⟩ ∈ dot_S512x1024_S1024x1024_S512x1024_1_0_0_1_n_n.lhsNonContracting from by decide +revert)]; rfl
    | ⟨1, _⟩ => exact (DotDims.lhsIdx_val_of_single _ rfl j _).trans hk
  · funext a
    apply Fin.ext
    match a with
    | ⟨0, _⟩ => exact (DotDims.rhsIdx_val_of_single _ rfl j _).trans hk
    | ⟨1, _⟩ =>
      unfold DotDims.rhsIdx
      rw [dif_neg (show ⟨1, _⟩ ∉ dot_S512x1024_S1024x1024_S512x1024_1_0_0_1_n_n.rhsBatch from by decide +revert),
        dif_pos (show ⟨1, _⟩ ∈ dot_S512x1024_S1024x1024_S512x1024_1_0_0_1_n_n.rhsNonContracting from by decide +revert)]; rfl

/-- What one tile of the sum holds at a row and a column: the scaled residual and the product. -/
theorem pay1_apply (x : Vec Ideal S512x1024 .bf16) (w : Vec Ideal S1024x1024 .bf16) (s : Vec Ideal S512x1024 .f32) (j : S512x1024.Idx) :
    k0_pay1 x w s j = Ideal.ofBits .f32 0x3FB504F3#32 * s j + ∑ k : Fin 1024, times (act (x (ix2 (j 0) k))) (w (ix2 k (j 1))) := by
  show Ideal.ofBits .f32 0x3FB504F3#32 * s j + matmul (F := Ideal) dot_S512x1024_S1024x1024_S512x1024_1_0_0_1_n_n none (shapeCast S512x1024 x shapeCasts_S512x1024_S512x1024) (shapeCast S1024x1024 w shapeCasts_S1024x1024_S1024x1024) (constant S512x1024 .f32 0x00000000#32) j = _
  simp only [shapeCast_self]
  rw [tile_dot]
  rfl

/-- What one tile of the normalised result holds at a row and a column: the normalised row of the sum. -/
theorem pay2_apply (x : Vec Ideal S512x1024 .bf16) (w : Vec Ideal S1024x1024 .bf16) (s : Vec Ideal S512x1024 .f32) (g b : Vec Ideal S1x1024 .f32)
    (p : Fin 512) (q : Fin 1024) :
    k0_pay2 x w s g b (ix2 p q) = Cert.Rows.norm (fun k => k0_pay1 x w s (ix2 p k)) (g (ix2 (0 : Fin 1) q)) (b (ix2 (0 : Fin 1) q)) q := by
  unfold k0_pay2
  dsimp only
  rw [shapeCast_self, shapeCast_self]
  exact Cert.Rows.norm_apply (k0_pay1 x w s) g b reduces_S512x1024_S512 (.inl rfl) rfl shapeCasts_S512_S512x1 broadcasts_S512x1_S512x1024 broadcasts_S1x1024_S512x1024 _ rfl _ rfl p q

/-- The sum at a row and a column: the scaled residual and the product over the shared axis. -/
def H5 (x : S8192x1024.Idx → EReal) (w : S1024x1024.Idx → EReal) (s : S8192x1024.Idx → EReal) (i : S8192x1024.Idx) : EReal :=
  Ideal.ofBits .f32 0x3FB504F3#32 * s i + ∑ k : Fin 1024, times (act (x (ix2 (i 0) k))) (w (ix2 k (i 1)))

/-- The normalised sum at a row and a column. -/
def H6 (x : S8192x1024.Idx → EReal) (w : S1024x1024.Idx → EReal) (s : S8192x1024.Idx → EReal) (g b : S1x1024.Idx → EReal) (i : S8192x1024.Idx) : EReal :=
  Cert.Rows.norm (fun k => H5 x w s (ix2 (i 0) k)) (g (ix2 (0 : Fin 1) (i 1))) (b (ix2 (0 : Fin 1) (i 1))) (i 1)

/-- The first result as a function of the arrays the region finds. -/
def G5 (c : Dev nD) : Buf (Elt Ideal) ((c : Thread nD τ).loc main_v4_0) := H5 (V m c main_v0) (V m c main_v1) (V m c main_arg0)

/-- The second result as a function of the arrays the region finds. -/
def G6 (c : Dev nD) : Buf (Elt Ideal) ((c : Thread nD τ).loc main_v4_1) :=
  H6 (V m c main_v0) (V m c main_v1) (V m c main_arg0) (V m c main_v2) (V m c main_v3)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The tile of the sum computed from the tiles of the arrays is the tile of the whole sum. -/
theorem tile_eq5 (t : Fin cfg0.N) (X : main_v0.ty.Contents (Elt Ideal)) (W : main_v1.ty.Contents (Elt Ideal)) (S : main_arg0.ty.Contents (Elt Ideal)) :
    k0_pay1 (F := Ideal) (((cfg0.win 0).blk t).view.read (Elt Ideal) X) (((cfg0.win 1).blk t).view.read (Elt Ideal) W) (((cfg0.win 2).blk t).view.read (Elt Ideal) S)
      = fun j : S512x1024.Idx => H5 X W S (((cfg0.win 5).blk t).view.emb j) := by
  obtain ⟨a0, a1, b0, b1, c0, c1, -, -, -, -, d0, d1, -⟩ := idx_facts t
  funext j
  refine (pay1_apply _ _ _ j).trans ?_
  unfold H5
  refine congrArg₂ (fun x y : EReal => x + y) (congrArg (times (Ideal.ofBits .f32 0x3FB504F3#32)) (congrArg S ?_))
    (Finset.sum_congr rfl fun k _ => congrArg₂ times (congrArg act (congrArg X ?_)) (congrArg W ?_))
  · funext a; apply Fin.ext
    match a with
    | ⟨0, _⟩ => show win0_2.index t (0 : Fin 2) * 512 + 1 * (j 0).val = win0_5.index t (0 : Fin 2) * 512 + 1 * (j 0).val; rw [c0, d0]
    | ⟨1, _⟩ => show win0_2.index t (1 : Fin 2) * 1024 + 1 * (j 1).val = win0_5.index t (1 : Fin 2) * 1024 + 1 * (j 1).val; rw [c1, d1]
  · funext a; apply Fin.ext
    match a with
    | ⟨0, _⟩ => show win0_0.index t (0 : Fin 2) * 512 + 1 * (j 0).val = win0_5.index t (0 : Fin 2) * 512 + 1 * (j 0).val; rw [a0, d0]
    | ⟨1, _⟩ => show win0_0.index t (1 : Fin 2) * 1024 + 1 * k.val = k.val; rw [a1]; omega
  · funext a; apply Fin.ext
    match a with
    | ⟨0, _⟩ => show win0_1.index t (0 : Fin 2) * 1024 + 1 * k.val = k.val; rw [b0]; omega
    | ⟨1, _⟩ => show win0_1.index t (1 : Fin 2) * 1024 + 1 * (j 1).val = win0_5.index t (1 : Fin 2) * 1024 + 1 * (j 1).val; rw [b1, d1]

/-- Equal rows, scales, shifts and columns normalise alike. -/
theorem norm_congr {r r' : Fin 1024 → EReal} {g g' b b' : EReal} {q q' : Fin 1024} (hr : r = r') (hg : g = g') (hb : b = b') (hq : q = q') :
    Cert.Rows.norm r g b q = Cert.Rows.norm r' g' b' q' := by
  subst hr hg hb hq; rfl

/-- The normalised tile computed from the tiles of the arrays is the tile of the whole normalised sum. -/
theorem tile_eq6 (t : Fin cfg0.N) (X : main_v0.ty.Contents (Elt Ideal)) (W : main_v1.ty.Contents (Elt Ideal)) (S : main_arg0.ty.Contents (Elt Ideal))
    (Γ : main_v2.ty.Contents (Elt Ideal)) (B : main_v3.ty.Contents (Elt Ideal)) :
    k0_pay2 (F := Ideal) (((cfg0.win 0).blk t).view.read (Elt Ideal) X) (((cfg0.win 1).blk t).view.read (Elt Ideal) W) (((cfg0.win 2).blk t).view.read (Elt Ideal) S)
        (((cfg0.win 3).blk t).view.read (Elt Ideal) Γ) (((cfg0.win 4).blk t).view.read (Elt Ideal) B)
      = fun j : S512x1024.Idx => H6 X W S Γ B (((cfg0.win 6).blk t).view.emb j) := by
  obtain ⟨-, -, -, -, -, -, g0, g1, b0, b1, d0, d1, e0, e1⟩ := idx_facts t
  funext j
  have hj : j = ix2 (j 0) (j 1) := funext fun a => match a with | ⟨0, _⟩ => rfl | ⟨1, _⟩ => rfl
  refine (congrArg (k0_pay2 _ _ _ _ _) hj).trans ((pay2_apply _ _ _ _ _ (j 0) (j 1)).trans ?_)
  unfold H6
  refine norm_congr (funext fun k => ?_) (congrArg Γ ?_) (congrArg B ?_) ?_
  · refine (congrFun (tile_eq5 t X W S) (ix2 (j 0) k)).trans (congrArg (H5 X W S) ?_)
    funext a; apply Fin.ext
    match a with
    | ⟨0, _⟩ => show win0_5.index t (0 : Fin 2) * 512 + 1 * (j 0).val = win0_6.index t (0 : Fin 2) * 512 + 1 * (j 0).val; rw [d0, e0]
    | ⟨1, _⟩ => show win0_5.index t (1 : Fin 2) * 1024 + 1 * k.val = k.val; rw [d1]; omega
  · funext a; apply Fin.ext
    match a with
    | ⟨0, _⟩ => show win0_3.index t (0 : Fin 2) * 1 + 1 * 0 = 0; rw [g0]
    | ⟨1, _⟩ => show win0_3.index t (1 : Fin 2) * 1024 + 1 * (j 1).val = win0_6.index t (1 : Fin 2) * 1024 + 1 * (j 1).val; rw [g1, e1]
  · funext a; apply Fin.ext
    match a with
    | ⟨0, _⟩ => show win0_4.index t (0 : Fin 2) * 1 + 1 * 0 = 0; rw [b0]
    | ⟨1, _⟩ => show win0_4.index t (1 : Fin 2) * 1024 + 1 * (j 1).val = win0_6.index t (1 : Fin 2) * 1024 + 1 * (j 1).val; rw [b1, e1]
  · apply Fin.ext
    show (j 1).val = win0_6.index t (1 : Fin 2) * 1024 + 1 * (j 1).val
    rw [e1, Nat.zero_mul, Nat.zero_add, Nat.one_mul]

/-- What point `t` writes back of the sum is its block. -/
theorem flushed_eq5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz, View.ld_unit_zero (S := S512x1024) hz, View.ld_unit_zero (S := S1024x1024) hz, View.ld_unit_zero (S := S512x1024) hz]
  exact tile_eq5 t (V m c main_v0) (V m c main_v1) (V m c main_arg0)

/-- What point `t` writes back of the normalised sum is its block. -/
theorem flushed_eq6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz, View.ld_unit_zero (S := S512x1024) hz, View.ld_unit_zero (S := S1024x1024) hz, View.ld_unit_zero (S := S512x1024) hz, View.ld_unit_zero (S := S1x1024) hz, View.ld_unit_zero (S := S1x1024) hz]
  exact tile_eq6 t (V m c main_v0) (V m c main_v1) (V m c main_arg0) (V m c main_v2) (V m c main_v3)

/-- An index of the result array is in point `t`'s block. -/
theorem mem_blk5 (t : Fin cfg0.N) (i : S8192x1024.Idx) :
    i ∈ ((cfg0.win 5).blk t).view.set ↔ t.val * 512 ≤ (i 0 : Nat) ∧ (i 0 : Nat) < t.val * 512 + 512 := by
  show i ∈ ((View.whole main_v4_0).slice (win0_5.rect t)).set ↔ _
  rw [View.set_slice_whole, Rect.mem_set_unit]
  have h1 : (i 1 : Nat) < 1024 := (i 1).isLt
  obtain ⟨-, -, -, -, -, -, -, -, -, -, d0, d1, -⟩ := idx_facts t
  refine ⟨fun h => ?_, fun h a => ?_⟩
  · have : win0_5.index t (0 : Fin 2) * 512 ≤ (i 0 : Nat) ∧ (i 0 : Nat) < win0_5.index t (0 : Fin 2) * 512 + 512 := h 0
    rw [d0] at this; exact this
  · match a with
    | ⟨0, _⟩ => show win0_5.index t (0 : Fin 2) * 512 ≤ (i 0 : Nat) ∧ (i 0 : Nat) < win0_5.index t (0 : Fin 2) * 512 + 512
                rw [d0]; exact h
    | ⟨1, _⟩ => show win0_5.index t (1 : Fin 2) * 1024 ≤ (i 1 : Nat) ∧ (i 1 : Nat) < win0_5.index t (1 : Fin 2) * 1024 + 1024
                rw [d1, Nat.zero_mul, Nat.zero_add]; exact ⟨Nat.zero_le _, h1⟩

/-- The blocks tile the result array. -/
theorem cover5 (i : S8192x1024.Idx) :
    ∃ t : Fin cfg0.N, (cfg0.win 5).flush t = true ∧ i ∈ ((cfg0.win 5).blk t).view.set := by
  have h0 : (i 0 : Nat) < 8192 := (i 0).isLt
  have hN : cfg0.N = 16 := N_0
  have ht : (i 0 : Nat) / 512 < cfg0.N := by omega
  refine ⟨⟨(i 0 : Nat) / 512, ht⟩, flush0_5 _, ?_⟩
  rw [mem_blk5]
  dsimp only
  omega

/-- So the result array ends holding it. -/
theorem final5 (c : Dev nD) : (dats m 0 c).arrAt 5 cfg0.N = G5 m c :=
  (dats m 0 c).arrAt_eq_of_cover 5 (G5 m c) (fun t _ => flushed_eq5 m c t) cover5

/-- An index of the result array is in point `t`'s block. -/
theorem mem_blk6 (t : Fin cfg0.N) (i : S8192x1024.Idx) :
    i ∈ ((cfg0.win 6).blk t).view.set ↔ t.val * 512 ≤ (i 0 : Nat) ∧ (i 0 : Nat) < t.val * 512 + 512 := by
  show i ∈ ((View.whole main_v4_1).slice (win0_6.rect t)).set ↔ _
  rw [View.set_slice_whole, Rect.mem_set_unit]
  have h1 : (i 1 : Nat) < 1024 := (i 1).isLt
  obtain ⟨-, -, -, -, -, -, -, -, -, -, -, -, d0, d1⟩ := idx_facts t
  refine ⟨fun h => ?_, fun h a => ?_⟩
  · have : win0_6.index t (0 : Fin 2) * 512 ≤ (i 0 : Nat) ∧ (i 0 : Nat) < win0_6.index t (0 : Fin 2) * 512 + 512 := h 0
    rw [d0] at this; exact this
  · match a with
    | ⟨0, _⟩ => show win0_6.index t (0 : Fin 2) * 512 ≤ (i 0 : Nat) ∧ (i 0 : Nat) < win0_6.index t (0 : Fin 2) * 512 + 512
                rw [d0]; exact h
    | ⟨1, _⟩ => show win0_6.index t (1 : Fin 2) * 1024 ≤ (i 1 : Nat) ∧ (i 1 : Nat) < win0_6.index t (1 : Fin 2) * 1024 + 1024
                rw [d1, Nat.zero_mul, Nat.zero_add]; exact ⟨Nat.zero_le _, h1⟩

/-- The blocks tile the result array. -/
theorem cover6 (i : S8192x1024.Idx) :
    ∃ t : Fin cfg0.N, (cfg0.win 6).flush t = true ∧ i ∈ ((cfg0.win 6).blk t).view.set := by
  have h0 : (i 0 : Nat) < 8192 := (i 0).isLt
  have hN : cfg0.N = 16 := N_0
  have ht : (i 0 : Nat) / 512 < cfg0.N := by omega
  refine ⟨⟨(i 0 : Nat) / 512, ht⟩, flush0_6 _, ?_⟩
  rw [mem_blk6]
  dsimp only
  omega

/-- So the result array ends holding it. -/
theorem final6 (c : Dev nD) : (dats m 0 c).arrAt 6 cfg0.N = G6 m c :=
  (dats m 0 c).arrAt_eq_of_cover 6 (G6 m c) (fun t _ => flushed_eq6 m c t) cover6

/-- The region finds here the second argument. -/
theorem entry_v0 (c : Dev nD) : V m c main_v0 = m ((c : Thread nD τ).loc main_arg1) := by
  show StableHlo.after _ _ _ = _
  simp only [hostOps0, List.flatten_cons, List.flatten_nil, List.append_nil]
  after_results; rfl

/-- The region finds here the third argument. -/
theorem entry_v1 (c : Dev nD) : V m c main_v1 = m ((c : Thread nD τ).loc main_arg2) := by
  show StableHlo.after _ _ _ = _
  simp only [hostOps0, List.flatten_cons, List.flatten_nil, List.append_nil]
  after_results; rfl

/-- The region finds here the scale as one row. -/
theorem entry_v2 (c : Dev nD) : V m c main_v2 = broadcastInDim S1x1024 ![1] bcast_S1024_S1x1024_1 (m ((c : Thread nD τ).loc main_arg3) : S1024.Idx → EReal) := by
  show StableHlo.after _ _ _ = _
  simp only [hostOps0, List.flatten_cons, List.flatten_nil, List.append_nil]
  after_results

/-- The region finds here the shift as one row. -/
theorem entry_v3 (c : Dev nD) : V m c main_v3 = broadcastInDim S1x1024 ![1] bcast_S1024_S1x1024_1 (m ((c : Thread nD τ).loc main_arg4) : S1024.Idx → EReal) := by
  show StableHlo.after _ _ _ = _
  simp only [hostOps0, List.flatten_cons, List.flatten_nil, List.append_nil]
  after_results

/-- One row spread from a vector, read at a column. -/
theorem row_apply (x : S1024.Idx → EReal) (q : Fin 1024) : broadcastInDim S1x1024 ![1] bcast_S1024_S1x1024_1 x (ix2 (0 : Fin 1) q) = x (ix1 q) :=
  broadcastInDim_apply _ bcast_S1024_S1x1024_1 x _ _ (fun a => match a with
    | ⟨0, _⟩ => by show q.val = if (1024 : Nat) = 1 then 0 else q.val; rw [if_neg (by decide)])

/-- The run, read: the two results, the arguments unchanged. -/
theorem run : θ_run defs (onTc (τ := τ) (main (F := Ideal))) ⟨m, fun _ => 0, ρ⟩ fun r => ∀ c : Dev nD,
      r.2.mem ((c.tc : Thread nD τ).loc main_v4_0) = G5 m c
      ∧ r.2.mem ((c.tc : Thread nD τ).loc main_v4_1) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c), ((h c).1 6).trans (final6 m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel11Ideal.OutProj

namespace Cert.OutProj

open Cert.Reference11Ideal Cert.Reference11Ideal.Gen Cert.Reference11Ideal.Read
open Cert.Kernel11Ideal.OutProj (act times H5 H6 row_apply)

variable (x0 : S8192x1024.Idx → EReal) (x1 : S8192x1024.Idx → EReal) (x2 : S1024x1024.Idx → EReal)

/-- The reference's sum, read at a row and a column: the scaled residual and the product over the shared axis. -/
theorem value (i : S8192x1024.Idx) : val_main_v3 (F := Ideal) x0 x1 x2 i = H5 x1 x2 x0 i := by
  rw [val_main_v3_apply, val_main_v1_apply, val_main_v0_apply, val_main_cst_apply, val_main_v2_apply]
  unfold H5
  refine congrArg₂ (fun x y : EReal => x + y) rfl (Finset.sum_congr rfl fun k _ => ?_)
  rw [show lidx_main_v2 i k = ix2 (i 0) k from funext fun a => match a with | ⟨0, _⟩ => rfl | ⟨1, _⟩ => rfl,
    show ridx_main_v2 i k = ix2 k (i 1) from funext fun a => match a with | ⟨0, _⟩ => rfl | ⟨1, _⟩ => rfl]
  rfl

/-- The reference's mean of a row of the sum. -/
theorem mean_row (u : S8192x1.Idx) :
    val_main_v7 (F := Ideal) x0 x1 x2 u = Cert.Rows.mean (fun k => val_main_v3 (F := Ideal) x0 x1 x2 (ix2 (u 0) k)) := by
  rw [val_main_v7_apply, val_main_v5_apply, val_main_v4_apply, val_main_v6_apply, val_main_cst_1_apply, val_main_cst_0_apply]
  show Ideal.div (Ideal.ofBits .f32 0x00000000#32 + _) (Ideal.ofBits .f32 0x44800000#32) = _
  rw [show (Ideal.ofBits .f32 0x00000000#32 : EReal) = 0 from by simp [Ideal.ofBits, Ideal.ieee], zero_add]
  unfold Cert.Rows.mean
  refine congrArg (fun z : EReal => Ideal.div z _) (Finset.sum_congr rfl fun k _ => congrArg (val_main_v3 (F := Ideal) x0 x1 x2) ?_)
  exact funext fun a => match a with | ⟨0, _⟩ => rfl | ⟨1, _⟩ => rfl

/-- The reference's centred sum. -/
theorem centred (i : S8192x1024.Idx) :
    val_main_v9 (F := Ideal) x0 x1 x2 i = val_main_v3 (F := Ideal) x0 x1 x2 i - Cert.Rows.mean (fun k => val_main_v3 (F := Ideal) x0 x1 x2 (ix2 (i 0) k)) := by
  rw [val_main_v9_apply, val_main_v8_apply, mean_row]
  rfl

/-- The reference's variance of a row of the sum. -/
theorem var_row (u : S8192x1.Idx) :
    val_main_v14 (F := Ideal) x0 x1 x2 u = Cert.Rows.mean (fun k => val_main_v9 (F := Ideal) x0 x1 x2 (ix2 (u 0) k) * val_main_v9 (F := Ideal) x0 x1 x2 (ix2 (u 0) k)) := by
  rw [val_main_v14_apply, val_main_v12_apply, val_main_v11_apply, val_main_v13_apply, val_main_cst_3_apply, val_main_cst_2_apply]
  show Ideal.div (Ideal.ofBits .f32 0x00000000#32 + _) (Ideal.ofBits .f32 0x44800000#32) = _
  rw [show (Ideal.ofBits .f32 0x00000000#32 : EReal) = 0 from by simp [Ideal.ofBits, Ideal.ieee], zero_add]
  unfold Cert.Rows.mean
  refine congrArg (fun z : EReal => Ideal.div z _) (Finset.sum_congr rfl fun k _ => ?_)
  refine (val_main_v10_apply (F := Ideal) x0 x1 x2 _).trans ?_
  rw [show idx_main_v11 (idx_main_v12 u) k = ix2 (u 0) k from funext fun a => match a with | ⟨0, _⟩ => rfl | ⟨1, _⟩ => rfl]
  rfl

/-- The reference's normalised sum, read at a row and a column: the normalised row. -/
theorem value_norm (x3 x4 : S1024.Idx → EReal) (p : Fin 8192) (q : Fin 1024) :
    val_main_v25 (F := Ideal) x0 x1 x2 x3 x4 (ix2 p q)
      = Cert.Rows.norm (fun k => val_main_v3 (F := Ideal) x0 x1 x2 (ix2 p k)) (x3 (ix1 q)) (x4 (ix1 q)) q := by
  rw [val_main_v25_apply, val_main_v22_apply, val_main_v24_apply, val_main_v23_apply, val_main_v19_apply, val_main_v18_apply, val_main_v17_apply,
    val_main_v16_apply, val_main_v15_apply, val_main_cst_4_apply, val_main_v21_apply, val_main_v20_apply, centred, var_row,
    show idx_main_v20 (idx_main_v21 (ix2 p q)) = ix1 q from funext fun a => match a with | ⟨0, _⟩ => rfl,
    show idx_main_v23 (idx_main_v24 (ix2 p q)) = ix1 q from funext fun a => match a with | ⟨0, _⟩ => rfl]
  simp only [centred]
  rfl

end Cert.OutProj

namespace Cert.Proof.OutProjClaims

/-- The kernel's two results and the reference's are equal, element by element. -/
theorem algebraic : Cert.algebraic_Kernel11Ideal_Reference11Ideal (hKernel11Ideal := Cert.Kernel11Ideal.Gen.facts) (hReference11Ideal := Cert.Reference11Ideal.Gen.facts) := by
  intro m ρ m' ρ' _ hagree
  refine ⟨fun c => Cert.Kernel11Ideal.OutProj.G5 m c, fun c => Cert.Kernel11Ideal.OutProj.G6 m c, Cert.Kernel11Ideal.OutProj.run m ρ, ?_⟩
  refine (θ_run Cert.Reference11Ideal.defs _ _).mono (fun _ h c => ⟨(h c).1.trans ?_, (h c).2.1.trans ?_, (h c).2.2⟩)
    (Cert.Reference11Ideal.Value.run (F := Ideal) m' ρ')
  · rw [Cert.Reference11Ideal.Read.val_main_v3_eq, (hagree c).1, (hagree c).2.1, (hagree c).2.2.1]
    funext i
    refine (Cert.OutProj.value _ _ _ i).trans ?_
    show _ = Cert.Kernel11Ideal.OutProj.H5 (Cert.Kernel11Ideal.Gen.V m c Cert.Kernel11Ideal.main_v0) (Cert.Kernel11Ideal.Gen.V m c Cert.Kernel11Ideal.main_v1) (Cert.Kernel11Ideal.Gen.V m c Cert.Kernel11Ideal.main_arg0) i
    rw [Cert.Kernel11Ideal.OutProj.entry_v0 m c, Cert.Kernel11Ideal.OutProj.entry_v1 m c, Cert.Kernel11Ideal.Gen.V_main_arg0 m c]
  · rw [Cert.Reference11Ideal.Read.val_main_v25_eq, (hagree c).1, (hagree c).2.1, (hagree c).2.2.1, (hagree c).2.2.2.1, (hagree c).2.2.2.2]
    funext i
    have hi : i = ix2 (i 0) (i 1) := funext fun a => match a with | ⟨0, _⟩ => rfl | ⟨1, _⟩ => rfl
    refine (congrArg (Cert.Reference11Ideal.Read.val_main_v25 (F := Ideal) _ _ _ _ _) hi).trans ((Cert.OutProj.value_norm _ _ _ _ _ (i 0) (i 1)).trans ?_)
    show _ = Cert.Kernel11Ideal.OutProj.H6 (Cert.Kernel11Ideal.Gen.V m c Cert.Kernel11Ideal.main_v0) (Cert.Kernel11Ideal.Gen.V m c Cert.Kernel11Ideal.main_v1) (Cert.Kernel11Ideal.Gen.V m c Cert.Kernel11Ideal.main_arg0) (Cert.Kernel11Ideal.Gen.V m c Cert.Kernel11Ideal.main_v2) (Cert.Kernel11Ideal.Gen.V m c Cert.Kernel11Ideal.main_v3) i
    rw [Cert.Kernel11Ideal.OutProj.entry_v0 m c, Cert.Kernel11Ideal.OutProj.entry_v1 m c, Cert.Kernel11Ideal.Gen.V_main_arg0 m c, Cert.Kernel11Ideal.OutProj.entry_v2 m c, Cert.Kernel11Ideal.OutProj.entry_v3 m c]
    unfold Cert.Kernel11Ideal.OutProj.H6
    refine Cert.Kernel11Ideal.OutProj.norm_congr (funext fun k => Cert.OutProj.value _ _ _ _) ?_ ?_ rfl
    · exact (Cert.Kernel11Ideal.OutProj.row_apply _ _).symm
    · exact (Cert.Kernel11Ideal.OutProj.row_apply _ _).symm

/-- The reference's run leaves the arguments and the counters alone. -/
theorem reference : Cert.quiescent_Reference11Ideal (hReference11Ideal := Cert.Reference11Ideal.Gen.facts) := fun m ρ _ =>
  (θ_run Cert.Reference11Ideal.defs _ _).mono (fun r h => ⟨fun c => (h c).2.2,
      Idealize.ShloMosaic.sem_eq_zero_of_no_sems (by decide) r.2⟩)
    (Cert.Reference11Ideal.Value.run m ρ)

end Cert.Proof.OutProjClaims

end
-- ==== Proof.ProjIn.lean ====
/-
  The layer's input product, cut into the query, key and value columns and the rest: what the kernel's four result
  arrays end holding, and that the reference's four pieces are the same.
-/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Pipeline.Value
public import Idealize.ShloMosaic.Lib.ValueIdx
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Kernel12Ideal.ProjIn

open Cert.Kernel12Ideal Cert.Kernel12Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The tile's product read at a row and a column: the sum over the shared axis. -/
theorem tile_dot (x : FVec Ideal S256x1024 .bf16) (y : FVec Ideal S2560x1024 .bf16) (j : S256x2560.Idx) :
    matmul dot_S256x1024_S2560x1024_S256x2560_1_1_0_0_n_n none x y (constant S256x2560 .f32 0x00000000#32) j
      = ∑ k : Fin 1024, x (ix2 (j 0) k) * y (ix2 (j 1) k) := by
  show (Ideal.ofBits .f32 0x00000000#32 : EReal) + _ = _
  rw [show (Ideal.ofBits .f32 0x00000000#32 : EReal) = 0 from by simp [Ideal.ofBits, Ideal.ieee], zero_add,
    ← Equiv.sum_comp (contrEquiv1 dot_S256x1024_S2560x1024_S256x2560_1_1_0_0_n_n 1024 rfl rfl).symm]
  refine Finset.sum_congr rfl fun k _ => ?_
  have hk := contrEquiv1_symm_val dot_S256x1024_S2560x1024_S256x2560_1_1_0_0_n_n 1024 rfl rfl k
  congr 2
  · funext a
    apply Fin.ext
    match a with
    | ⟨0, _⟩ =>
      unfold DotDims.lhsIdx
      rw [dif_neg (show ⟨0, _⟩ ∉ dot_S256x1024_S2560x1024_S256x2560_1_1_0_0_n_n.lhsBatch from by decide +revert),
        dif_pos (show ⟨0, _⟩ ∈ dot_S256x1024_S2560x1024_S256x2560_1_1_0_0_n_n.lhsNonContracting from by decide +revert)]; rfl
    | ⟨1, _⟩ => exact (DotDims.lhsIdx_val_of_single _ rfl j _).trans hk
  · funext a
    apply Fin.ext
    match a with
    | ⟨0, _⟩ =>
      unfold DotDims.rhsIdx
      rw [dif_neg (show ⟨0, _⟩ ∉ dot_S256x1024_S2560x1024_S256x2560_1_1_0_0_n_n.rhsBatch from by decide +revert),
        dif_pos (show ⟨0, _⟩ ∈ dot_S256x1024_S2560x1024_S256x2560_1_1_0_0_n_n.rhsNonContracting from by decide +revert)]; rfl
    | ⟨1, _⟩ => exact (DotDims.rhsIdx_val_of_single _ rfl j _).trans hk

/-- The whole product of a tile of rows at a row and a column. -/
theorem pay1_apply (x : Vec Ideal S256x1024 .f32) (y : Vec Ideal S2560x1024 .bf16) (j : S256x2560.Idx) :
    k0_pay1 x y j = ∑ k : Fin 1024, x (ix2 (j 0) k) * y (ix2 (j 1) k) := by
  show matmul (F := Ideal) dot_S256x1024_S2560x1024_S256x2560_1_1_0_0_n_n none (truncf .bf16 x bitsLt_bf16_f32) (shapeCast S2560x1024 y shapeCasts_S2560x1024_S2560x1024) (constant S256x2560 .f32 0x00000000#32) j = _
  rw [shapeCast_self]
  exact tile_dot _ _ _

/-- The product at a row and a column of the transposed weight: the sum over the shared axis. -/
def P (x : S8192x1024.Idx → EReal) (y : S2560x1024.Idx → EReal) (r : Fin 8192) (q : Fin 2560) : EReal :=
  ∑ k : Fin 1024, x (ix2 r k) * y (ix2 q k)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt2 (q : Fin 1024) : 1536 + q.val < 2560 := by have h := q.isLt; omega

/-- What one tile holds at a row and a column: the remaining columns. -/
theorem pay2_apply (x : Vec Ideal S256x1024 .f32) (y : Vec Ideal S2560x1024 .bf16) (j : S256x1024.Idx) :
    k0_pay2 x y j = (∑ k : Fin 1024, x (ix2 (j 0) k) * y (ix2 ⟨1536 + (j 1).val, lt2 (j 1)⟩ k)) := by
  show extractStridedSlice S256x1024 ![0, 1536] (k0_pay1 x y) slices_S256x2560_o0_1536_S256x1024 j = _
  rw [extractStridedSlice_apply ![0, 1536] (k0_pay1 x y) slices_S256x2560_o0_1536_S256x1024 j (ix2 (j 0) ⟨1536 + (j 1).val, lt2 (j 1)⟩) (fun a => match a with
    | ⟨0, _⟩ => by show (j 0).val = 0 + (j 0).val; rw [Nat.zero_add]
    | ⟨1, _⟩ => rfl), pay1_apply]

/-- The result array from the arrays the region finds: the remaining columns. -/
def H2 (x : S8192x1024.Idx → EReal) (y : S2560x1024.Idx → EReal) (j : S8192x1024.Idx) : EReal :=
  P x y (j 0) ⟨1536 + (j 1).val, lt2 (j 1)⟩

/-- The result as a function of the arrays the region finds. -/
def G2 (c : Dev nD) : Buf (Elt Ideal) ((c : Thread nD τ).loc main_v2_0) := H2 (V m c main_arg0) (V m c main_v1)

/-- The tile computed from the tiles of two arrays is the tile of the result. -/
theorem tile_eq2 (t : Fin cfg0.N) (X : main_arg0.ty.Contents (Elt Ideal)) (Y : main_v1.ty.Contents (Elt Ideal)) :
    k0_pay2 (F := Ideal) (((cfg0.win 0).blk t).view.read (Elt Ideal) X) (((cfg0.win 1).blk t).view.read (Elt Ideal) Y)
      = fun j : S256x1024.Idx => H2 X Y (((cfg0.win 2).blk t).view.emb j) := by
  obtain ⟨a0, a1, b0, b1, d0, d1, -⟩ := idx_facts t
  funext j
  refine (pay2_apply _ _ j).trans ?_
  unfold H2 P
  refine (Finset.sum_congr rfl fun k _ => congrArg₂ (fun x y : EReal => x * y) (congrArg X ?_) (congrArg Y ?_))
  · funext a; apply Fin.ext
    match a with
    | ⟨0, _⟩ => show win0_0.index t (0 : Fin 2) * 256 + 1 * (j 0).val = win0_2.index t (0 : Fin 2) * 256 + 1 * (j 0).val; rw [a0, d0]
    | ⟨1, _⟩ => show win0_0.index t (1 : Fin 2) * 1024 + 1 * k.val = k.val; rw [a1]; omega
  · funext a; apply Fin.ext
    match a with
    | ⟨0, _⟩ => show win0_1.index t (0 : Fin 2) * 2560 + 1 * (1536 + (j 1).val) = 1536 + (win0_2.index t (1 : Fin 2) * 1024 + 1 * (j 1).val); rw [b0, d1]; simp only [Nat.zero_mul, Nat.zero_add, Nat.one_mul]
    | ⟨1, _⟩ => show win0_1.index t (1 : Fin 2) * 1024 + 1 * k.val = k.val; rw [b1]; omega

/-- What point `t` writes back is its block of the result. -/
theorem flushed_eq2 (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  unfold out0_2
  rw [View.canon_unit_zero hz, View.ld_unit_zero (S := S256x1024) hz, View.ld_unit_zero (S := S2560x1024) hz]
  exact tile_eq2 t (V m c main_arg0) (V m c main_v1)

/-- An index of the result array is in point `t`'s block. -/
theorem mem_blk2 (t : Fin cfg0.N) (i : S8192x1024.Idx) :
    i ∈ ((cfg0.win 2).blk t).view.set ↔ t.val * 256 ≤ (i 0 : Nat) ∧ (i 0 : Nat) < t.val * 256 + 256 := by
  show i ∈ ((View.whole main_v2_0).slice (win0_2.rect t)).set ↔ _
  rw [View.set_slice_whole, Rect.mem_set_unit]
  have h1 : (i 1 : Nat) < 1024 := (i 1).isLt
  obtain ⟨-, -, -, -, d0, d1, -⟩ := idx_facts t
  refine ⟨fun h => ?_, fun h a => ?_⟩
  · have : win0_2.index t (0 : Fin 2) * 256 ≤ (i 0 : Nat) ∧ (i 0 : Nat) < win0_2.index t (0 : Fin 2) * 256 + 256 := h 0
    rw [d0] at this; exact this
  · match a with
    | ⟨0, _⟩ => show win0_2.index t (0 : Fin 2) * 256 ≤ (i 0 : Nat) ∧ (i 0 : Nat) < win0_2.index t (0 : Fin 2) * 256 + 256
                rw [d0]; exact h
    | ⟨1, _⟩ => show win0_2.index t (1 : Fin 2) * 1024 ≤ (i 1 : Nat) ∧ (i 1 : Nat) < win0_2.index t (1 : Fin 2) * 1024 + 1024
                rw [d1, Nat.zero_mul, Nat.zero_add]; exact ⟨Nat.zero_le _, h1⟩

/-- The blocks tile the result array. -/
theorem cover2 (i : S8192x1024.Idx) :
    ∃ t : Fin cfg0.N, (cfg0.win 2).flush t = true ∧ i ∈ ((cfg0.win 2).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_2 _, ?_⟩
  rw [mem_blk2]
  dsimp only
  omega

/-- So the result array ends holding it. -/
theorem final2 (c : Dev nD) : (dats m 0 c).arrAt 2 cfg0.N = G2 m c :=
  (dats m 0 c).arrAt_eq_of_cover 2 (G2 m c) (fun t _ => flushed_eq2 m c t) cover2

theorem lt3 (q : Fin 512) : 0 + q.val < 2560 := by have h := q.isLt; omega

/-- What one tile holds at a row and a column: the query columns, scaled. -/
theorem pay3_apply (x : Vec Ideal S256x1024 .f32) (y : Vec Ideal S2560x1024 .bf16) (j : S256x512.Idx) :
    k0_pay3 x y j = (∑ k : Fin 1024, x (ix2 (j 0) k) * y (ix2 ⟨0 + (j 1).val, lt3 (j 1)⟩ k)) * Ideal.ofBits .f32 0x3E000000#32 := by
  show extractStridedSlice S256x512 ![0, 0] (k0_pay1 x y) slices_S256x2560_o0_0_S256x512 j * Ideal.ofBits .f32 0x3E000000#32 = _
  rw [extractStridedSlice_apply ![0, 0] (k0_pay1 x y) slices_S256x2560_o0_0_S256x512 j (ix2 (j 0) ⟨0 + (j 1).val, lt3 (j 1)⟩) (fun a => match a with
    | ⟨0, _⟩ => by show (j 0).val = 0 + (j 0).val; rw [Nat.zero_add]
    | ⟨1, _⟩ => rfl), pay1_apply]

/-- The result array from the arrays the region finds: the query columns, scaled. -/
def H3 (x : S8192x1024.Idx → EReal) (y : S2560x1024.Idx → EReal) (j : S8192x512.Idx) : EReal :=
  P x y (j 0) ⟨0 + (j 1).val, lt3 (j 1)⟩ * Ideal.ofBits .f32 0x3E000000#32

/-- The result as a function of the arrays the region finds. -/
def G3 (c : Dev nD) : Buf (Elt Ideal) ((c : Thread nD τ).loc main_v2_1) := H3 (V m c main_arg0) (V m c main_v1)

/-- The tile computed from the tiles of two arrays is the tile of the result. -/
theorem tile_eq3 (t : Fin cfg0.N) (X : main_arg0.ty.Contents (Elt Ideal)) (Y : main_v1.ty.Contents (Elt Ideal)) :
    k0_pay3 (F := Ideal) (((cfg0.win 0).blk t).view.read (Elt Ideal) X) (((cfg0.win 1).blk t).view.read (Elt Ideal) Y)
      = fun j : S256x512.Idx => H3 X Y (((cfg0.win 3).blk t).view.emb j) := by
  obtain ⟨a0, a1, b0, b1, -, -, d0, d1, -⟩ := idx_facts t
  funext j
  refine (pay3_apply _ _ j).trans ?_
  unfold H3 P
  refine congrArg (fun z : EReal => z * Ideal.ofBits .f32 0x3E000000#32) (Finset.sum_congr rfl fun k _ => congrArg₂ (fun x y : EReal => x * y) (congrArg X ?_) (congrArg Y ?_))
  · funext a; apply Fin.ext
    match a with
    | ⟨0, _⟩ => show win0_0.index t (0 : Fin 2) * 256 + 1 * (j 0).val = win0_3.index t (0 : Fin 2) * 256 + 1 * (j 0).val; rw [a0, d0]
    | ⟨1, _⟩ => show win0_0.index t (1 : Fin 2) * 1024 + 1 * k.val = k.val; rw [a1]; omega
  · funext a; apply Fin.ext
    match a with
    | ⟨0, _⟩ => show win0_1.index t (0 : Fin 2) * 2560 + 1 * (0 + (j 1).val) = 0 + (win0_3.index t (1 : Fin 2) * 512 + 1 * (j 1).val); rw [b0, d1]; simp only [Nat.zero_mul, Nat.zero_add, Nat.one_mul]
    | ⟨1, _⟩ => show win0_1.index t (1 : Fin 2) * 1024 + 1 * k.val = k.val; rw [b1]; omega

/-- What point `t` writes back is its block of the result. -/
theorem flushed_eq3 (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz, View.ld_unit_zero (S := S256x1024) hz, View.ld_unit_zero (S := S2560x1024) hz]
  exact tile_eq3 t (V m c main_arg0) (V m c main_v1)

/-- An index of the result array is in point `t`'s block. -/
theorem mem_blk3 (t : Fin cfg0.N) (i : S8192x512.Idx) :
    i ∈ ((cfg0.win 3).blk t).view.set ↔ t.val * 256 ≤ (i 0 : Nat) ∧ (i 0 : Nat) < t.val * 256 + 256 := by
  show i ∈ ((View.whole main_v2_1).slice (win0_3.rect t)).set ↔ _
  rw [View.set_slice_whole, Rect.mem_set_unit]
  have h1 : (i 1 : Nat) < 512 := (i 1).isLt
  obtain ⟨-, -, -, -, -, -, d0, d1, -⟩ := idx_facts t
  refine ⟨fun h => ?_, fun h a => ?_⟩
  · have : win0_3.index t (0 : Fin 2) * 256 ≤ (i 0 : Nat) ∧ (i 0 : Nat) < win0_3.index t (0 : Fin 2) * 256 + 256 := h 0
    rw [d0] at this; exact this
  · match a with
    | ⟨0, _⟩ => show win0_3.index t (0 : Fin 2) * 256 ≤ (i 0 : Nat) ∧ (i 0 : Nat) < win0_3.index t (0 : Fin 2) * 256 + 256
                rw [d0]; exact h
    | ⟨1, _⟩ => show win0_3.index t (1 : Fin 2) * 512 ≤ (i 1 : Nat) ∧ (i 1 : Nat) < win0_3.index t (1 : Fin 2) * 512 + 512
                rw [d1, Nat.zero_mul, Nat.zero_add]; exact ⟨Nat.zero_le _, h1⟩

/-- The blocks tile the result array. -/
theorem cover3 (i : S8192x512.Idx) :
    ∃ t : Fin cfg0.N, (cfg0.win 3).flush t = true ∧ i ∈ ((cfg0.win 3).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_3 _, ?_⟩
  rw [mem_blk3]
  dsimp only
  omega

/-- So the result array ends holding it. -/
theorem final3 (c : Dev nD) : (dats m 0 c).arrAt 3 cfg0.N = G3 m c :=
  (dats m 0 c).arrAt_eq_of_cover 3 (G3 m c) (fun t _ => flushed_eq3 m c t) cover3

theorem lt4 (q : Fin 512) : 512 + q.val < 2560 := by have h := q.isLt; omega

/-- What one tile holds at a row and a column: the key columns. -/
theorem pay4_apply (x : Vec Ideal S256x1024 .f32) (y : Vec Ideal S2560x1024 .bf16) (j : S256x512.Idx) :
    k0_pay4 x y j = (∑ k : Fin 1024, x (ix2 (j 0) k) * y (ix2 ⟨512 + (j 1).val, lt4 (j 1)⟩ k)) := by
  show extractStridedSlice S256x512 ![0, 512] (k0_pay1 x y) slices_S256x2560_o0_512_S256x512 j = _
  rw [extractStridedSlice_apply ![0, 512] (k0_pay1 x y) slices_S256x2560_o0_512_S256x512 j (ix2 (j 0) ⟨512 + (j 1).val, lt4 (j 1)⟩) (fun a => match a with
    | ⟨0, _⟩ => by show (j 0).val = 0 + (j 0).val; rw [Nat.zero_add]
    | ⟨1, _⟩ => rfl), pay1_apply]

/-- The result array from the arrays the region finds: the key columns. -/
def H4 (x : S8192x1024.Idx → EReal) (y : S2560x1024.Idx → EReal) (j : S8192x512.Idx) : EReal :=
  P x y (j 0) ⟨512 + (j 1).val, lt4 (j 1)⟩

/-- The result as a function of the arrays the region finds. -/
def G4 (c : Dev nD) : Buf (Elt Ideal) ((c : Thread nD τ).loc main_v2_2) := H4 (V m c main_arg0) (V m c main_v1)

/-- The tile computed from the tiles of two arrays is the tile of the result. -/
theorem tile_eq4 (t : Fin cfg0.N) (X : main_arg0.ty.Contents (Elt Ideal)) (Y : main_v1.ty.Contents (Elt Ideal)) :
    k0_pay4 (F := Ideal) (((cfg0.win 0).blk t).view.read (Elt Ideal) X) (((cfg0.win 1).blk t).view.read (Elt Ideal) Y)
      = fun j : S256x512.Idx => H4 X Y (((cfg0.win 4).blk t).view.emb j) := by
  obtain ⟨a0, a1, b0, b1, -, -, -, -, d0, d1, -⟩ := idx_facts t
  funext j
  refine (pay4_apply _ _ j).trans ?_
  unfold H4 P
  refine (Finset.sum_congr rfl fun k _ => congrArg₂ (fun x y : EReal => x * y) (congrArg X ?_) (congrArg Y ?_))
  · funext a; apply Fin.ext
    match a with
    | ⟨0, _⟩ => show win0_0.index t (0 : Fin 2) * 256 + 1 * (j 0).val = win0_4.index t (0 : Fin 2) * 256 + 1 * (j 0).val; rw [a0, d0]
    | ⟨1, _⟩ => show win0_0.index t (1 : Fin 2) * 1024 + 1 * k.val = k.val; rw [a1]; omega
  · funext a; apply Fin.ext
    match a with
    | ⟨0, _⟩ => show win0_1.index t (0 : Fin 2) * 2560 + 1 * (512 + (j 1).val) = 512 + (win0_4.index t (1 : Fin 2) * 512 + 1 * (j 1).val); rw [b0, d1]; simp only [Nat.zero_mul, Nat.zero_add, Nat.one_mul]
    | ⟨1, _⟩ => show win0_1.index t (1 : Fin 2) * 1024 + 1 * k.val = k.val; rw [b1]; omega

/-- What point `t` writes back is its block of the result. -/
theorem flushed_eq4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold out0_4
  rw [View.canon_unit_zero hz, View.ld_unit_zero (S := S256x1024) hz, View.ld_unit_zero (S := S2560x1024) hz]
  exact tile_eq4 t (V m c main_arg0) (V m c main_v1)

/-- An index of the result array is in point `t`'s block. -/
theorem mem_blk4 (t : Fin cfg0.N) (i : S8192x512.Idx) :
    i ∈ ((cfg0.win 4).blk t).view.set ↔ t.val * 256 ≤ (i 0 : Nat) ∧ (i 0 : Nat) < t.val * 256 + 256 := by
  show i ∈ ((View.whole main_v2_2).slice (win0_4.rect t)).set ↔ _
  rw [View.set_slice_whole, Rect.mem_set_unit]
  have h1 : (i 1 : Nat) < 512 := (i 1).isLt
  obtain ⟨-, -, -, -, -, -, -, -, d0, d1, -⟩ := idx_facts t
  refine ⟨fun h => ?_, fun h a => ?_⟩
  · have : win0_4.index t (0 : Fin 2) * 256 ≤ (i 0 : Nat) ∧ (i 0 : Nat) < win0_4.index t (0 : Fin 2) * 256 + 256 := h 0
    rw [d0] at this; exact this
  · match a with
    | ⟨0, _⟩ => show win0_4.index t (0 : Fin 2) * 256 ≤ (i 0 : Nat) ∧ (i 0 : Nat) < win0_4.index t (0 : Fin 2) * 256 + 256
                rw [d0]; exact h
    | ⟨1, _⟩ => show win0_4.index t (1 : Fin 2) * 512 ≤ (i 1 : Nat) ∧ (i 1 : Nat) < win0_4.index t (1 : Fin 2) * 512 + 512
                rw [d1, Nat.zero_mul, Nat.zero_add]; exact ⟨Nat.zero_le _, h1⟩

/-- The blocks tile the result array. -/
theorem cover4 (i : S8192x512.Idx) :
    ∃ t : Fin cfg0.N, (cfg0.win 4).flush t = true ∧ i ∈ ((cfg0.win 4).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_4 _, ?_⟩
  rw [mem_blk4]
  dsimp only
  omega

/-- So the result array ends holding it. -/
theorem final4 (c : Dev nD) : (dats m 0 c).arrAt 4 cfg0.N = G4 m c :=
  (dats m 0 c).arrAt_eq_of_cover 4 (G4 m c) (fun t _ => flushed_eq4 m c t) cover4

theorem lt5 (q : Fin 512) : 1024 + q.val < 2560 := by have h := q.isLt; omega

/-- What one tile holds at a row and a column: the value columns. -/
theorem pay5_apply (x : Vec Ideal S256x1024 .f32) (y : Vec Ideal S2560x1024 .bf16) (j : S256x512.Idx) :
    k0_pay5 x y j = (∑ k : Fin 1024, x (ix2 (j 0) k) * y (ix2 ⟨1024 + (j 1).val, lt5 (j 1)⟩ k)) := by
  show extractStridedSlice S256x512 ![0, 1024] (k0_pay1 x y) slices_S256x2560_o0_1024_S256x512 j = _
  rw [extractStridedSlice_apply ![0, 1024] (k0_pay1 x y) slices_S256x2560_o0_1024_S256x512 j (ix2 (j 0) ⟨1024 + (j 1).val, lt5 (j 1)⟩) (fun a => match a with
    | ⟨0, _⟩ => by show (j 0).val = 0 + (j 0).val; rw [Nat.zero_add]
    | ⟨1, _⟩ => rfl), pay1_apply]

/-- The result array from the arrays the region finds: the value columns. -/
def H5 (x : S8192x1024.Idx → EReal) (y : S2560x1024.Idx → EReal) (j : S8192x512.Idx) : EReal :=
  P x y (j 0) ⟨1024 + (j 1).val, lt5 (j 1)⟩

/-- The result as a function of the arrays the region finds. -/
def G5 (c : Dev nD) : Buf (Elt Ideal) ((c : Thread nD τ).loc main_v2_3) := H5 (V m c main_arg0) (V m c main_v1)

/-- The tile computed from the tiles of two arrays is the tile of the result. -/
theorem tile_eq5 (t : Fin cfg0.N) (X : main_arg0.ty.Contents (Elt Ideal)) (Y : main_v1.ty.Contents (Elt Ideal)) :
    k0_pay5 (F := Ideal) (((cfg0.win 0).blk t).view.read (Elt Ideal) X) (((cfg0.win 1).blk t).view.read (Elt Ideal) Y)
      = fun j : S256x512.Idx => H5 X Y (((cfg0.win 5).blk t).view.emb j) := by
  obtain ⟨a0, a1, b0, b1, -, -, -, -, -, -, d0, d1⟩ := idx_facts t
  funext j
  refine (pay5_apply _ _ j).trans ?_
  unfold H5 P
  refine (Finset.sum_congr rfl fun k _ => congrArg₂ (fun x y : EReal => x * y) (congrArg X ?_) (congrArg Y ?_))
  · funext a; apply Fin.ext
    match a with
    | ⟨0, _⟩ => show win0_0.index t (0 : Fin 2) * 256 + 1 * (j 0).val = win0_5.index t (0 : Fin 2) * 256 + 1 * (j 0).val; rw [a0, d0]
    | ⟨1, _⟩ => show win0_0.index t (1 : Fin 2) * 1024 + 1 * k.val = k.val; rw [a1]; omega
  · funext a; apply Fin.ext
    match a with
    | ⟨0, _⟩ => show win0_1.index t (0 : Fin 2) * 2560 + 1 * (1024 + (j 1).val) = 1024 + (win0_5.index t (1 : Fin 2) * 512 + 1 * (j 1).val); rw [b0, d1]; simp only [Nat.zero_mul, Nat.zero_add, Nat.one_mul]
    | ⟨1, _⟩ => show win0_1.index t (1 : Fin 2) * 1024 + 1 * k.val = k.val; rw [b1]; omega

/-- What point `t` writes back is its block of the result. -/
theorem flushed_eq5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz, View.ld_unit_zero (S := S256x1024) hz, View.ld_unit_zero (S := S2560x1024) hz]
  exact tile_eq5 t (V m c main_arg0) (V m c main_v1)

/-- An index of the result array is in point `t`'s block. -/
theorem mem_blk5 (t : Fin cfg0.N) (i : S8192x512.Idx) :
    i ∈ ((cfg0.win 5).blk t).view.set ↔ t.val * 256 ≤ (i 0 : Nat) ∧ (i 0 : Nat) < t.val * 256 + 256 := by
  show i ∈ ((View.whole main_v2_3).slice (win0_5.rect t)).set ↔ _
  rw [View.set_slice_whole, Rect.mem_set_unit]
  have h1 : (i 1 : Nat) < 512 := (i 1).isLt
  obtain ⟨-, -, -, -, -, -, -, -, -, -, d0, d1⟩ := idx_facts t
  refine ⟨fun h => ?_, fun h a => ?_⟩
  · have : win0_5.index t (0 : Fin 2) * 256 ≤ (i 0 : Nat) ∧ (i 0 : Nat) < win0_5.index t (0 : Fin 2) * 256 + 256 := h 0
    rw [d0] at this; exact this
  · match a with
    | ⟨0, _⟩ => show win0_5.index t (0 : Fin 2) * 256 ≤ (i 0 : Nat) ∧ (i 0 : Nat) < win0_5.index t (0 : Fin 2) * 256 + 256
                rw [d0]; exact h
    | ⟨1, _⟩ => show win0_5.index t (1 : Fin 2) * 512 ≤ (i 1 : Nat) ∧ (i 1 : Nat) < win0_5.index t (1 : Fin 2) * 512 + 512
                rw [d1, Nat.zero_mul, Nat.zero_add]; exact ⟨Nat.zero_le _, h1⟩

/-- The blocks tile the result array. -/
theorem cover5 (i : S8192x512.Idx) :
    ∃ t : Fin cfg0.N, (cfg0.win 5).flush t = true ∧ i ∈ ((cfg0.win 5).blk t).view.set := by
  have h0 : (i 0 : Nat) < 8192 := (i 0).isLt
  have hN : cfg0.N = 32 := N_0
  have ht : (i 0 : Nat) / 256 < cfg0.N := by omega
  refine ⟨⟨(i 0 : Nat) / 256, ht⟩, flush0_5 _, ?_⟩
  rw [mem_blk5]
  dsimp only
  omega

/-- So the result array ends holding it. -/
theorem final5 (c : Dev nD) : (dats m 0 c).arrAt 5 cfg0.N = G5 m c :=
  (dats m 0 c).arrAt_eq_of_cover 5 (G5 m c) (fun t _ => flushed_eq5 m c t) cover5

/-- The second array the region finds is the weight transposed. -/
theorem entry (c : Dev nD) : V m c main_v1 = transpose S2560x1024 [1, 0] (m ((c : Thread nD τ).loc main_arg1) : S1024x2560.Idx → EReal) transposes_S1024x2560_S2560x1024_1_0 := by
  show StableHlo.after _ _ _ = _
  simp only [hostOps0, List.flatten_cons, List.flatten_nil, List.append_nil]
  after_results; rfl

/-- The lines after the region widen the array, which is the identity on the extended reals. -/
theorem tail3 (c : Dev nD) : Pipeline.afterTail₀ cfgs (dats m) 0 (V0 m) [hostOps1] c main_v3 = G3 m c := by
  unfold Pipeline.afterTail₀
  simp only [hostOps1, List.flatten_cons, List.flatten_nil, List.append_nil]
  after_results
  exact (Pipeline.withArrays_arr (cfgs 0).spec (show Function.Injective (Pipeline.arrRef spec0) by decide) c (V0 m c) (fun w => (dats m 0 c).arrAt w (cfgs 0).N) 3).trans (final3 m c)

/-- The lines after the region widen the array, which is the identity on the extended reals. -/
theorem tail4 (c : Dev nD) : Pipeline.afterTail₀ cfgs (dats m) 0 (V0 m) [hostOps1] c main_v4 = G4 m c := by
  unfold Pipeline.afterTail₀
  simp only [hostOps1, List.flatten_cons, List.flatten_nil, List.append_nil]
  after_results
  exact (Pipeline.withArrays_arr (cfgs 0).spec (show Function.Injective (Pipeline.arrRef spec0) by decide) c (V0 m c) (fun w => (dats m 0 c).arrAt w (cfgs 0).N) 4).trans (final4 m c)

/-- The lines after the region widen the array, which is the identity on the extended reals. -/
theorem tail5 (c : Dev nD) : Pipeline.afterTail₀ cfgs (dats m) 0 (V0 m) [hostOps1] c main_v5 = G5 m c := by
  unfold Pipeline.afterTail₀
  simp only [hostOps1, List.flatten_cons, List.flatten_nil, List.append_nil]
  after_results
  exact (Pipeline.withArrays_arr (cfgs 0).spec (show Function.Injective (Pipeline.arrRef spec0) by decide) c (V0 m c) (fun w => (dats m 0 c).arrAt w (cfgs 0).N) 5).trans (final5 m c)

/-- The run, read: the four results, the arguments unchanged. -/
theorem run : θ_run defs (onTc (τ := τ) (main (F := Ideal))) ⟨m, fun _ => 0, ρ⟩ fun r => ∀ c : Dev nD,
      r.2.mem ((c.tc : Thread nD τ).loc main_v2_0) = G2 m c
      ∧ r.2.mem ((c.tc : Thread nD τ).loc main_v3) = G3 m c
      ∧ r.2.mem ((c.tc : Thread nD τ).loc main_v4) = G4 m c
      ∧ r.2.mem ((c.tc : Thread nD τ).loc main_v5) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final2 m c),
      ((h c).2 main_v3 (Pipeline.mem_restRefs_of main_v3 (by decide) (by decide))).trans (tail3 m c),
      ((h c).2 main_v4 (Pipeline.mem_restRefs_of main_v4 (by decide) (by decide))).trans (tail4 m c),
      ((h c).2 main_v5 (Pipeline.mem_restRefs_of main_v5 (by decide) (by decide))).trans (tail5 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c))⟩) (run_main m ρ)

end Cert.Kernel12Ideal.ProjIn

namespace Cert.ProjIn

open Cert.Reference12Ideal Cert.Reference12Ideal.Gen Cert.Reference12Ideal.Read

/-- The whole product, read at a row and a column: the sum over the shared axis. -/
theorem value (x0 : S8192x1024.Idx → EReal) (x1 : S1024x2560.Idx → EReal) (i : S8192x2560.Idx) :
    val_main_v0 (F := Ideal) x0 x1 i = ∑ k : Fin 1024, x0 (ix2 (i 0) k) * x1 (ix2 k (i 1)) := by
  rw [val_main_v0_apply]
  refine Finset.sum_congr rfl fun k _ => ?_
  rw [show lidx_main_v0 i k = ix2 (i 0) k from funext fun a => match a with | ⟨0, _⟩ => rfl | ⟨1, _⟩ => rfl,
    show ridx_main_v0 i k = ix2 k (i 1) from funext fun a => match a with | ⟨0, _⟩ => rfl | ⟨1, _⟩ => rfl]
  rfl

open Cert.Kernel12Ideal.ProjIn in
/-- The kernel's product over the transposed weight is the reference's whole product. -/
theorem product (x0 : S8192x1024.Idx → EReal) (x1 : S1024x2560.Idx → EReal) (i : S8192x2560.Idx) :
    val_main_v0 (F := Ideal) x0 x1 i = P x0 (transpose Cert.Kernel12Ideal.S2560x1024 [1, 0] x1 Cert.Kernel12Ideal.Gen.transposes_S1024x2560_S2560x1024_1_0) (i 0) (i 1) := by
  refine (value x0 x1 i).trans ?_
  unfold P
  refine Finset.sum_congr rfl fun k _ => congrArg₂ (fun x y : EReal => x * y) rfl ?_
  exact (transpose_apply [1, 0] _ Cert.Kernel12Ideal.Gen.transposes_S1024x2560_S2560x1024_1_0 (ix2 (i 1) k) (ix2 k (i 1)) (fun b => match b with
    | ⟨0, _⟩ => rfl
    | ⟨1, _⟩ => rfl)).symm

open Cert.Kernel12Ideal.ProjIn in
/-- The reference's piece is the kernel's: the remaining columns. -/
theorem piece2 (x0 : S8192x1024.Idx → EReal) (x1 : S1024x2560.Idx → EReal) (i : S8192x1024.Idx) :
    val_main_v4 (F := Ideal) x0 x1 i = H2 x0 (transpose Cert.Kernel12Ideal.S2560x1024 [1, 0] x1 Cert.Kernel12Ideal.Gen.transposes_S1024x2560_S2560x1024_1_0) i := by
  unfold H2
  rw [val_main_v4_apply, product]
  exact congrArg (P x0 _ _) (Fin.ext rfl)

open Cert.Kernel12Ideal.ProjIn in
/-- The reference's piece is the kernel's: the query columns, scaled. -/
theorem piece3 (x0 : S8192x1024.Idx → EReal) (x1 : S1024x2560.Idx → EReal) (i : S8192x512.Idx) :
    val_main_v6 (F := Ideal) x0 x1 i = H3 x0 (transpose Cert.Kernel12Ideal.S2560x1024 [1, 0] x1 Cert.Kernel12Ideal.Gen.transposes_S1024x2560_S2560x1024_1_0) i := by
  unfold H3
  rw [val_main_v6_apply, val_main_v1_apply, product, val_main_v5_apply, val_main_cst_apply]
  exact congrArg (fun q => P x0 _ (i 0) q * Ideal.ofBits .f32 0x3E000000#32) (Fin.ext (Nat.zero_add _).symm)

open Cert.Kernel12Ideal.ProjIn in
/-- The reference's piece is the kernel's: the key columns. -/
theorem piece4 (x0 : S8192x1024.Idx → EReal) (x1 : S1024x2560.Idx → EReal) (i : S8192x512.Idx) :
    val_main_v2 (F := Ideal) x0 x1 i = H4 x0 (transpose Cert.Kernel12Ideal.S2560x1024 [1, 0] x1 Cert.Kernel12Ideal.Gen.transposes_S1024x2560_S2560x1024_1_0) i := by
  unfold H4
  rw [val_main_v2_apply, product]
  exact congrArg (P x0 _ _) (Fin.ext rfl)

open Cert.Kernel12Ideal.ProjIn in
/-- The reference's piece is the kernel's: the value columns. -/
theorem piece5 (x0 : S8192x1024.Idx → EReal) (x1 : S1024x2560.Idx → EReal) (i : S8192x512.Idx) :
    val_main_v3 (F := Ideal) x0 x1 i = H5 x0 (transpose Cert.Kernel12Ideal.S2560x1024 [1, 0] x1 Cert.Kernel12Ideal.Gen.transposes_S1024x2560_S2560x1024_1_0) i := by
  unfold H5
  rw [val_main_v3_apply, product]
  exact congrArg (P x0 _ _) (Fin.ext rfl)

end Cert.ProjIn

namespace Cert.Proof.ProjInClaims

/-- The kernel's four results and the reference's four pieces are equal, element by element. -/
theorem algebraic : Cert.algebraic_Kernel12Ideal_Reference12Ideal (hKernel12Ideal := Cert.Kernel12Ideal.Gen.facts) (hReference12Ideal := Cert.Reference12Ideal.Gen.facts) := by
  intro m ρ m' ρ' _ hagree
  refine ⟨fun c => Cert.Kernel12Ideal.ProjIn.G2 m c, fun c => Cert.Kernel12Ideal.ProjIn.G3 m c, fun c => Cert.Kernel12Ideal.ProjIn.G4 m c, fun c => Cert.Kernel12Ideal.ProjIn.G5 m c, Cert.Kernel12Ideal.ProjIn.run m ρ, ?_⟩
  refine (θ_run Cert.Reference12Ideal.defs _ _).mono (fun _ h c => ⟨(h c).1.trans ?_, (h c).2.1.trans ?_, (h c).2.2.1.trans ?_, (h c).2.2.2.1.trans ?_, (h c).2.2.2.2⟩)
    (Cert.Reference12Ideal.Value.run (F := Ideal) m' ρ')
  · rw [Cert.Reference12Ideal.Read.val_main_v4_eq, (hagree c).1, (hagree c).2]
    funext i
    refine (Cert.ProjIn.piece2 _ _ i).trans ?_
    show _ = Cert.Kernel12Ideal.ProjIn.H2 (Cert.Kernel12Ideal.Gen.V m c Cert.Kernel12Ideal.main_arg0) (Cert.Kernel12Ideal.Gen.V m c Cert.Kernel12Ideal.main_v1) i
    rw [Cert.Kernel12Ideal.Gen.V_main_arg0 m c, Cert.Kernel12Ideal.ProjIn.entry m c]
  · rw [Cert.Reference12Ideal.Read.val_main_v6_eq, (hagree c).1, (hagree c).2]
    funext i
    refine (Cert.ProjIn.piece3 _ _ i).trans ?_
    show _ = Cert.Kernel12Ideal.ProjIn.H3 (Cert.Kernel12Ideal.Gen.V m c Cert.Kernel12Ideal.main_arg0) (Cert.Kernel12Ideal.Gen.V m c Cert.Kernel12Ideal.main_v1) i
    rw [Cert.Kernel12Ideal.Gen.V_main_arg0 m c, Cert.Kernel12Ideal.ProjIn.entry m c]
  · rw [Cert.Reference12Ideal.Read.val_main_v2_eq, (hagree c).1, (hagree c).2]
    funext i
    refine (Cert.ProjIn.piece4 _ _ i).trans ?_
    show _ = Cert.Kernel12Ideal.ProjIn.H4 (Cert.Kernel12Ideal.Gen.V m c Cert.Kernel12Ideal.main_arg0) (Cert.Kernel12Ideal.Gen.V m c Cert.Kernel12Ideal.main_v1) i
    rw [Cert.Kernel12Ideal.Gen.V_main_arg0 m c, Cert.Kernel12Ideal.ProjIn.entry m c]
  · rw [Cert.Reference12Ideal.Read.val_main_v3_eq, (hagree c).1, (hagree c).2]
    funext i
    refine (Cert.ProjIn.piece5 _ _ i).trans ?_
    show _ = Cert.Kernel12Ideal.ProjIn.H5 (Cert.Kernel12Ideal.Gen.V m c Cert.Kernel12Ideal.main_arg0) (Cert.Kernel12Ideal.Gen.V m c Cert.Kernel12Ideal.main_v1) i
    rw [Cert.Kernel12Ideal.Gen.V_main_arg0 m c, Cert.Kernel12Ideal.ProjIn.entry m c]

/-- The reference's run leaves the arguments and the counters alone. -/
theorem reference : Cert.quiescent_Reference12Ideal (hReference12Ideal := Cert.Reference12Ideal.Gen.facts) := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run m ρ)

end Cert.Proof.ProjInClaims

end
-- ==== Proof.lean ====
/-
  The certificate: the frames of the programs, the named constant, and the values of the products.
-/
module

public import proofs.«01_k».proof.Defs
public import proofs.«01_k».proof.Proof.Track
public import proofs.«01_k».proof.Proof.BitsTrack
public import proofs.«01_k».proof.Proof.Ref
public import proofs.«01_k».proof.Proof.Up
public import proofs.«01_k».proof.Proof.Down
public import proofs.«01_k».proof.Proof.WUp
public import proofs.«01_k».proof.Proof.WO
public import proofs.«01_k».proof.Proof.Mixn
public import proofs.«01_k».proof.Proof.WIn
public import proofs.«01_k».proof.Proof.DX
public import proofs.«01_k».proof.Proof.FfnUp
public import proofs.«01_k».proof.Proof.FfnDown
public import proofs.«01_k».proof.Proof.OutProj
public import proofs.«01_k».proof.Proof.ProjIn
public import Idealize.ShloMosaic.Adequacy
public import Idealize.ShloMosaic.Init

@[expose] public section

noncomputable section

namespace Cert.Proof

open Idealize.ShloMosaic Idealize.SL.Sem

/-- The claims, one by one. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    fun m ρ _ => Cert.Kernel.Attn.frame' m ρ,
    fun m ρ _ => Cert.KernelIdeal.Attn.frame' m ρ,
    fun m ρ _ => Cert.ReferenceIdeal.Attn.frame m ρ,
    fun m ρ _ => Cert.Kernel2.Gen.frame m ρ,
    fun m ρ _ => Cert.Kernel2Ideal.Gen.frame m ρ,
    UpClaims.reference,
    fun m ρ _ => Cert.Kernel3.Gen.frame m ρ,
    fun m ρ _ => Cert.Kernel3Ideal.Gen.frame m ρ,
    DownClaims.reference,
    fun m ρ _ => Cert.Kernel4.Gen.frame m ρ,
    fun m ρ _ => Cert.Kernel4Ideal.Gen.frame m ρ,
    WUpClaims.reference,
    fun m ρ _ => Cert.Kernel5.Gen.frame m ρ,
    fun m ρ _ => Cert.Kernel5Ideal.Gen.frame m ρ,
    WOClaims.reference,
    fun m ρ _ => Cert.Kernel6.Gen.frame m ρ,
    fun m ρ _ => Cert.Kernel6Ideal.Gen.frame m ρ,
    MixnClaims.reference,
    fun m ρ _ => Cert.Kernel7.Gen.frame m ρ,
    fun m ρ _ => Cert.Kernel7Ideal.Gen.frame m ρ,
    WInClaims.reference,
    fun m ρ _ => Cert.Kernel8.Gen.frame m ρ,
    fun m ρ _ => Cert.Kernel8Ideal.Gen.frame m ρ,
    DXClaims.reference,
    fun m ρ _ => Cert.Kernel9.Gen.frame m ρ,
    fun m ρ _ => Cert.Kernel9Ideal.Gen.frame m ρ,
    FfnUpClaims.reference,
    fun m ρ _ => Cert.Kernel10.Gen.frame m ρ,
    fun m ρ _ => Cert.Kernel10Ideal.Gen.frame m ρ,
    FfnDownClaims.reference,
    fun m ρ _ => Cert.Kernel11.Gen.frame m ρ,
    fun m ρ _ => Cert.Kernel11Ideal.Gen.frame m ρ,
    OutProjClaims.reference,
    fun m ρ _ => Cert.Kernel12.Gen.frame m ρ,
    fun m ρ _ => Cert.Kernel12Ideal.Gen.frame m ρ,
    ProjInClaims.reference,
    IdealRules.named_const.statement Cert.KernelIdeal.κ "dead" .f32 0x43000000#32 ⊤ rfl,
    trivial, UpClaims.algebraic, trivial, DownClaims.algebraic, trivial, WUpClaims.algebraic, trivial, WOClaims.algebraic, trivial, MixnClaims.algebraic,
    trivial, WInClaims.algebraic, trivial, DXClaims.algebraic, trivial, FfnUpClaims.algebraic, trivial, FfnDownClaims.algebraic,
    trivial, OutProjClaims.algebraic, trivial, ProjInClaims.algebraic⟩

end Cert.Proof

end
